-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Kernel4Ideal_pool_input_finite [hPre_pool_input_finite : Cert.Pre_pool_input_finite.Facts] (m : (ℓ : Loc Cert.Kernel4Ideal.nD Cert.Kernel4Ideal.τ Cert.Kernel4Ideal.sig) → Buf (Elt Ideal) ℓ) : Prop :=
  ∀ c : Dev Cert.Kernel4Ideal.nD,
    (Cert.Pre_pool_input_finite.fn (F := Ideal) (m ((c.tc : Thread Cert.Kernel4Ideal.nD Cert.Kernel4Ideal.τ).loc Cert.Kernel4Ideal.main_arg0)) (m ((c.tc : Thread Cert.Kernel4Ideal.nD Cert.Kernel4Ideal.τ).loc Cert.Kernel4Ideal.main_arg1)) (m ((c.tc : Thread Cert.Kernel4Ideal.nD Cert.Kernel4Ideal.τ).loc Cert.Kernel4Ideal.main_arg2))) = (fun _ => 1#1)

def Pre_Reference4Ideal (m : (ℓ : Loc Cert.Reference4Ideal.nD Cert.Reference4Ideal.τ Cert.Reference4Ideal.sig) → Buf (Elt Ideal) ℓ) : Prop :=
  True

def Pre_Reference4Ideal_pool_input_finite [hPre_pool_input_finite : Cert.Pre_pool_input_finite.Facts] (m : (ℓ : Loc Cert.Reference4Ideal.nD Cert.Reference4Ideal.τ Cert.Reference4Ideal.sig) → Buf (Elt Ideal) ℓ) : Prop :=
  ∀ c : Dev Cert.Reference4Ideal.nD,
    (Cert.Pre_pool_input_finite.fn (F := Ideal) (m ((c.tc : Thread Cert.Reference4Ideal.nD Cert.Reference4Ideal.τ).loc Cert.Reference4Ideal.main_arg0)) (m ((c.tc : Thread Cert.Reference4Ideal.nD Cert.Reference4Ideal.τ).loc Cert.Reference4Ideal.main_arg1)) (m ((c.tc : Thread Cert.Reference4Ideal.nD Cert.Reference4Ideal.τ).loc Cert.Reference4Ideal.main_arg2))) = (fun _ => 1#1)

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Kernel6Ideal_retention_input_finite [hPre_retention_input_finite : Cert.Pre_retention_input_finite.Facts] (m : (ℓ : Loc Cert.Kernel6Ideal.nD Cert.Kernel6Ideal.τ Cert.Kernel6Ideal.sig) → Buf (Elt Ideal) ℓ) : Prop :=
  ∀ c : Dev Cert.Kernel6Ideal.nD,
    (Cert.Pre_retention_input_finite.fn (F := Ideal) (m ((c.tc : Thread Cert.Kernel6Ideal.nD Cert.Kernel6Ideal.τ).loc Cert.Kernel6Ideal.main_arg0)) (m ((c.tc : Thread Cert.Kernel6Ideal.nD Cert.Kernel6Ideal.τ).loc Cert.Kernel6Ideal.main_arg1)) (m ((c.tc : Thread Cert.Kernel6Ideal.nD Cert.Kernel6Ideal.τ).loc Cert.Kernel6Ideal.main_arg2)) (m ((c.tc : Thread Cert.Kernel6Ideal.nD Cert.Kernel6Ideal.τ).loc Cert.Kernel6Ideal.main_arg3))) = (fun _ => 1#1)

def Pre_Reference6Ideal (m : (ℓ : Loc Cert.Reference6Ideal.nD Cert.Reference6Ideal.τ Cert.Reference6Ideal.sig) → Buf (Elt Ideal) ℓ) : Prop :=
  True

def Pre_Reference6Ideal_retention_input_finite [hPre_retention_input_finite : Cert.Pre_retention_input_finite.Facts] (m : (ℓ : Loc Cert.Reference6Ideal.nD Cert.Reference6Ideal.τ Cert.Reference6Ideal.sig) → Buf (Elt Ideal) ℓ) : Prop :=
  ∀ c : Dev Cert.Reference6Ideal.nD,
    (Cert.Pre_retention_input_finite.fn (F := Ideal) (m ((c.tc : Thread Cert.Reference6Ideal.nD Cert.Reference6Ideal.τ).loc Cert.Reference6Ideal.main_arg0)) (m ((c.tc : Thread Cert.Reference6Ideal.nD Cert.Reference6Ideal.τ).loc Cert.Reference6Ideal.main_arg1)) (m ((c.tc : Thread Cert.Reference6Ideal.nD Cert.Reference6Ideal.τ).loc Cert.Reference6Ideal.main_arg2)) (m ((c.tc : Thread Cert.Reference6Ideal.nD Cert.Reference6Ideal.τ).loc Cert.Reference6Ideal.main_arg3))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2))
      ∧ r.2.sem = fun _ => 0)

def quiescent_Kernel4Ideal_pre_pool_input_finite [hKernel4Ideal : Cert.Kernel4Ideal.Facts] [hPre_pool_input_finite : Cert.Pre_pool_input_finite.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal_pool_input_finite m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2))
      ∧ r.2.sem = fun _ => 0)

def quiescent_Reference4Ideal_pre_pool_input_finite [hReference4Ideal : Cert.Reference4Ideal.Facts] [hPre_pool_input_finite : Cert.Pre_pool_input_finite.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal_pool_input_finite m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1)
      ∧ r.2.mem ((c.tc : Thread Cert.Kernel6.nD Cert.Kernel6.τ).loc Cert.Kernel6.main_arg2) = m ((c.tc : Thread Cert.Kernel6.nD Cert.Kernel6.τ).loc Cert.Kernel6.main_arg2)
      ∧ r.2.mem ((c.tc : Thread Cert.Kernel6.nD Cert.Kernel6.τ).loc Cert.Kernel6.main_arg3) = m ((c.tc : Thread Cert.Kernel6.nD Cert.Kernel6.τ).loc Cert.Kernel6.main_arg3))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
      ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
      ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3))
      ∧ r.2.sem = fun _ => 0)

def quiescent_Kernel6Ideal_pre_retention_input_finite [hKernel6Ideal : Cert.Kernel6Ideal.Facts] [hPre_retention_input_finite : Cert.Pre_retention_input_finite.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal_retention_input_finite m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
      ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
      ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1)
      ∧ r.2.mem ((c.tc : Thread Cert.Reference6Ideal.nD Cert.Reference6Ideal.τ).loc Cert.Reference6Ideal.main_arg2) = m ((c.tc : Thread Cert.Reference6Ideal.nD Cert.Reference6Ideal.τ).loc Cert.Reference6Ideal.main_arg2)
      ∧ r.2.mem ((c.tc : Thread Cert.Reference6Ideal.nD Cert.Reference6Ideal.τ).loc Cert.Reference6Ideal.main_arg3) = m ((c.tc : Thread Cert.Reference6Ideal.nD Cert.Reference6Ideal.τ).loc Cert.Reference6Ideal.main_arg3))
      ∧ r.2.sem = fun _ => 0)

def quiescent_Reference6Ideal_pre_retention_input_finite [hReference6Ideal : Cert.Reference6Ideal.Facts] [hPre_retention_input_finite : Cert.Pre_retention_input_finite.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal_retention_input_finite m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1)
      ∧ r.2.mem ((c.tc : Thread Cert.Reference6Ideal.nD Cert.Reference6Ideal.τ).loc Cert.Reference6Ideal.main_arg2) = m ((c.tc : Thread Cert.Reference6Ideal.nD Cert.Reference6Ideal.τ).loc Cert.Reference6Ideal.main_arg2)
      ∧ r.2.mem ((c.tc : Thread Cert.Reference6Ideal.nD Cert.Reference6Ideal.τ).loc Cert.Reference6Ideal.main_arg3) = m ((c.tc : Thread Cert.Reference6Ideal.nD Cert.Reference6Ideal.τ).loc Cert.Reference6Ideal.main_arg3))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v2_0)) (v1 : (c : Dev Cert.KernelIdeal.nD) → Buf (Elt Ideal) ((c.tc : Thread Cert.KernelIdeal.nD Cert.KernelIdeal.τ).loc Cert.KernelIdeal.main_v10)) (v2 : (c : Dev Cert.KernelIdeal.nD) → Buf (Elt Ideal) ((c.tc : Thread Cert.KernelIdeal.nD Cert.KernelIdeal.τ).loc Cert.KernelIdeal.main_v12)) (v3 : (c : Dev Cert.KernelIdeal.nD) → Buf (Elt Ideal) ((c.tc : Thread Cert.KernelIdeal.nD Cert.KernelIdeal.τ).loc Cert.KernelIdeal.main_v13)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2_0) = v0 c
          ∧ r.2.mem ((c.tc : Thread Cert.KernelIdeal.nD Cert.KernelIdeal.τ).loc Cert.KernelIdeal.main_v10) = v1 c
          ∧ r.2.mem ((c.tc : Thread Cert.KernelIdeal.nD Cert.KernelIdeal.τ).loc Cert.KernelIdeal.main_v12) = v2 c
          ∧ r.2.mem ((c.tc : Thread Cert.KernelIdeal.nD Cert.KernelIdeal.τ).loc Cert.KernelIdeal.main_v13) = v3 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v4) = v0 c
          ∧ r.2.mem ((c.tc : Thread Cert.ReferenceIdeal.nD Cert.ReferenceIdeal.τ).loc Cert.ReferenceIdeal.main_v57) = v1 c
          ∧ r.2.mem ((c.tc : Thread Cert.ReferenceIdeal.nD Cert.ReferenceIdeal.τ).loc Cert.ReferenceIdeal.main_v58) = v2 c
          ∧ r.2.mem ((c.tc : Thread Cert.ReferenceIdeal.nD Cert.ReferenceIdeal.τ).loc Cert.ReferenceIdeal.main_v59) = v3 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)) →
    ∃ (v0 : (c : Dev Cert.Kernel2Ideal.nD) → Buf (Elt Ideal) ((c.tc : Thread Cert.Kernel2Ideal.nD Cert.Kernel2Ideal.τ).loc Cert.Kernel2Ideal.main_v7)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v7) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v19) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)) →
    ∃ (v0 : (c : Dev Cert.Kernel3Ideal.nD) → Buf (Elt Ideal) ((c.tc : Thread Cert.Kernel3Ideal.nD Cert.Kernel3Ideal.τ).loc Cert.Kernel3Ideal.main_v1)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v1) = v0 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v4) = v0 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3))

def preserves_Kernel4_Kernel4Ideal : Prop :=
  True

def algebraic_Kernel4Ideal_Reference4Ideal_pre_pool_input_finite [hKernel4Ideal : Cert.Kernel4Ideal.Facts] [hReference4Ideal : Cert.Reference4Ideal.Facts] [hPre_pool_input_finite : Cert.Pre_pool_input_finite.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal_pool_input_finite m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)) →
    ∃ (v0 : (c : Dev Cert.Kernel4Ideal.nD) → Buf (Elt Ideal) ((c.tc : Thread Cert.Kernel4Ideal.nD Cert.Kernel4Ideal.τ).loc Cert.Kernel4Ideal.main_v2)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v2) = v0 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v91) = v0 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2))

def preserves_Kernel5_Kernel5Ideal : Prop :=
  True

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)) →
    ∃ (v0 : (c : Dev Cert.Kernel5Ideal.nD) → Buf (Elt Ideal) ((c.tc : Thread Cert.Kernel5Ideal.nD Cert.Kernel5Ideal.τ).loc Cert.Kernel5Ideal.main_v2_0)) (v1 : (c : Dev Cert.Kernel5Ideal.nD) → Buf (Elt Ideal) ((c.tc : Thread Cert.Kernel5Ideal.nD Cert.Kernel5Ideal.τ).loc Cert.Kernel5Ideal.main_v2_1)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v2_0) = v0 c
          ∧ r.2.mem ((c.tc : Thread Cert.Kernel5Ideal.nD Cert.Kernel5Ideal.τ).loc Cert.Kernel5Ideal.main_v2_1) = v1 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v9) = v0 c
          ∧ r.2.mem ((c.tc : Thread Cert.Reference5Ideal.nD Cert.Reference5Ideal.τ).loc Cert.Reference5Ideal.main_v11) = v1 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1))

def preserves_Kernel6_Kernel6Ideal : Prop :=
  True

def algebraic_Kernel6Ideal_Reference6Ideal_pre_retention_input_finite [hKernel6Ideal : Cert.Kernel6Ideal.Facts] [hReference6Ideal : Cert.Reference6Ideal.Facts] [hPre_retention_input_finite : Cert.Pre_retention_input_finite.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal_retention_input_finite m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)
      ∧ m' ((c.tc : Thread Cert.Reference6Ideal.nD Cert.Reference6Ideal.τ).loc Cert.Reference6Ideal.main_arg2) = m ((c.tc : Thread Cert.Kernel6Ideal.nD Cert.Kernel6Ideal.τ).loc Cert.Kernel6Ideal.main_arg2)
      ∧ m' ((c.tc : Thread Cert.Reference6Ideal.nD Cert.Reference6Ideal.τ).loc Cert.Reference6Ideal.main_arg3) = m ((c.tc : Thread Cert.Kernel6Ideal.nD Cert.Kernel6Ideal.τ).loc Cert.Kernel6Ideal.main_arg3)) →
    ∃ (v0 : (c : Dev Cert.Kernel6Ideal.nD) → Buf (Elt Ideal) ((c.tc : Thread Cert.Kernel6Ideal.nD Cert.Kernel6Ideal.τ).loc Cert.Kernel6Ideal.main_v1)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v1) = v0 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
          ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
          ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v102) = v0 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1)
          ∧ r.2.mem ((c.tc : Thread Cert.Reference6Ideal.nD Cert.Reference6Ideal.τ).loc Cert.Reference6Ideal.main_arg2) = m' ((c.tc : Thread Cert.Reference6Ideal.nD Cert.Reference6Ideal.τ).loc Cert.Reference6Ideal.main_arg2)
          ∧ r.2.mem ((c.tc : Thread Cert.Reference6Ideal.nD Cert.Reference6Ideal.τ).loc Cert.Reference6Ideal.main_arg3) = m' ((c.tc : Thread Cert.Reference6Ideal.nD Cert.Reference6Ideal.τ).loc Cert.Reference6Ideal.main_arg3))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts) (hPre_pool_input_finite : Cert.Pre_pool_input_finite.Facts) (hPre_retention_input_finite : Cert.Pre_retention_input_finite.Facts),
    quiescent_Kernel (hKernel := hKernel)
    ∧ quiescent_KernelIdeal (hKernelIdeal := hKernelIdeal)
    ∧ quiescent_ReferenceIdeal (hReferenceIdeal := hReferenceIdeal)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Kernel4Ideal_pre_pool_input_finite (hKernel4Ideal := hKernel4Ideal) (hPre_pool_input_finite := hPre_pool_input_finite)
    ∧ quiescent_Reference4Ideal (hReference4Ideal := hReference4Ideal)
    ∧ quiescent_Reference4Ideal_pre_pool_input_finite (hReference4Ideal := hReference4Ideal) (hPre_pool_input_finite := hPre_pool_input_finite)
    ∧ quiescent_Kernel5 (hKernel5 := hKernel5)
    ∧ quiescent_Kernel5Ideal (hKernel5Ideal := hKernel5Ideal)
    ∧ quiescent_Reference5Ideal (hReference5Ideal := hReference5Ideal)
    ∧ quiescent_Kernel6 (hKernel6 := hKernel6)
    ∧ quiescent_Kernel6Ideal (hKernel6Ideal := hKernel6Ideal)
    ∧ quiescent_Kernel6Ideal_pre_retention_input_finite (hKernel6Ideal := hKernel6Ideal) (hPre_retention_input_finite := hPre_retention_input_finite)
    ∧ quiescent_Reference6Ideal (hReference6Ideal := hReference6Ideal)
    ∧ quiescent_Reference6Ideal_pre_retention_input_finite (hReference6Ideal := hReference6Ideal) (hPre_retention_input_finite := hPre_retention_input_finite)
    ∧ preserves_Kernel_KernelIdeal
    ∧ algebraic_KernelIdeal_ReferenceIdeal (hKernelIdeal := hKernelIdeal) (hReferenceIdeal := hReferenceIdeal)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal_pre_pool_input_finite (hKernel4Ideal := hKernel4Ideal) (hReference4Ideal := hReference4Ideal) (hPre_pool_input_finite := hPre_pool_input_finite)
    ∧ preserves_Kernel5_Kernel5Ideal
    ∧ algebraic_Kernel5Ideal_Reference5Ideal (hKernel5Ideal := hKernel5Ideal) (hReference5Ideal := hReference5Ideal)
    ∧ preserves_Kernel6_Kernel6Ideal
    ∧ algebraic_Kernel6Ideal_Reference6Ideal_pre_retention_input_finite (hKernel6Ideal := hKernel6Ideal) (hReference6Ideal := hReference6Ideal) (hPre_retention_input_finite := hPre_retention_input_finite)
-- ==== Pre_pool_input_finite.lean ====
abbrev S16384x12288 : Shape := ⟨2, ![16384, 12288]⟩
abbrev S4x512x512 : Shape := ⟨3, ![4, 512, 512]⟩
abbrev S2048 : Shape := ⟨1, ![2048]⟩
abbrev S16384x2048 : Shape := ⟨2, ![16384, 2048]⟩
abbrev S_ : Shape := ⟨0, ![]⟩

class Facts : Prop where
  slices_S16384x12288_S16384x2048_0_6144 : S16384x12288.Slices ![0, 6144] S16384x2048
  bitsLt_bf16_f32 : FTy.bits .bf16 < FTy.bits .f32
  bcast_S_S16384x2048 : S_.BroadcastsInDim S16384x2048 (![] : Fin 0 → Fin S16384x2048.rank)

variable [Facts]

def fn {F : FTy → Type} [FloatOps F] (main_arg0 : FVec F S16384x12288 .bf16) (main_arg1 : FVec F S4x512x512 .f32) (main_arg2 : FVec F S2048 .f32) : IVec S16384x2048 1 :=
  let main_v0 : FVec F S16384x2048 .bf16 := (extractStridedSlice S16384x2048 ![0, 6144] · slices_S16384x12288_S16384x2048_0_6144) main_arg0
  let main_v1 : FVec F S16384x2048 .f32 := (extf .f32 · bitsLt_bf16_f32) main_v0
  let main_v2 : FVec F S16384x2048 .f32 := subf main_v1 main_v1
  let main_cst : FVec F S_ .f32 := constant S_ .f32 0x00000000#32
  let main_v3 : FVec F S16384x2048 .f32 := broadcastInDim S16384x2048 ![] bcast_S_S16384x2048 main_cst
  let main_v4 : IVec S16384x2048 1 := cmpf .oeq main_v2 main_v3
  main_v4
-- ==== Pre_retention_input_finite.lean ====
abbrev S16384x10240 : Shape := ⟨2, ![16384, 10240]⟩
abbrev S4096x128 : Shape := ⟨2, ![4096, 128]⟩
abbrev S2048 : Shape := ⟨1, ![2048]⟩
abbrev S4x4096x80x128 : Shape := ⟨4, ![4, 4096, 80, 128]⟩
abbrev S4x4096x48x128 : Shape := ⟨4, ![4, 4096, 48, 128]⟩
abbrev S_ : Shape := ⟨0, ![]⟩
abbrev S1x4096x1x128 : Shape := ⟨4, ![1, 4096, 1, 128]⟩

class Facts : Prop where
  bitsLt_bf16_f32 : FTy.bits .bf16 < FTy.bits .f32
  shapeCasts_S16384x10240_S4x4096x80x128 : S16384x10240.ShapeCasts S4x4096x80x128
  slices_S4x4096x80x128_S4x4096x48x128_0_0_0_0 : S4x4096x80x128.Slices ![0, 0, 0, 0] S4x4096x48x128
  bcast_S_S4096x128 : S_.BroadcastsInDim S4096x128 (![] : Fin 0 → Fin S4096x128.rank)
  bcast_S_S4x4096x48x128 : S_.BroadcastsInDim S4x4096x48x128 (![] : Fin 0 → Fin S4x4096x48x128.rank)
  bcast_S4096x128_S1x4096x1x128_1_3 : S4096x128.BroadcastsInDim S1x4096x1x128 (![1, 3] : Fin 2 → Fin S1x4096x1x128.rank)
  bcast_S1x4096x1x128_S4x4096x48x128_0_1_2_3 : S1x4096x1x128.BroadcastsInDim S4x4096x48x128 (![0, 1, 2, 3] : Fin 4 → Fin S4x4096x48x128.rank)

variable [Facts]

def fn {F : FTy → Type} [FloatOps F] (main_arg0 : FVec F S16384x10240 .bf16) (main_arg1 : FVec F S4096x128 .f32) (main_arg2 : FVec F S4096x128 .f32) (main_arg3 : FVec F S2048 .f32) : IVec S4x4096x48x128 1 :=
  let main_v0 : FVec F S16384x10240 .f32 := (extf .f32 · bitsLt_bf16_f32) main_arg0
  let main_v1 : FVec F S4x4096x80x128 .f32 := shapeCast S4x4096x80x128 main_v0 shapeCasts_S16384x10240_S4x4096x80x128
  let main_v2 : FVec F S4x4096x48x128 .f32 := (extractStridedSlice S4x4096x48x128 ![0, 0, 0, 0] · slices_S4x4096x80x128_S4x4096x48x128_0_0_0_0) main_v1
  let main_v3 : FVec F S4096x128 .f32 := subf main_arg1 main_arg1
  let main_cst : FVec F S_ .f32 := constant S_ .f32 0x00000000#32
  let main_v4 : FVec F S4096x128 .f32 := broadcastInDim S4096x128 ![] bcast_S_S4096x128 main_cst
  let main_v5 : IVec S4096x128 1 := cmpf .oeq main_v3 main_v4
  let main_v6 : FVec F S4096x128 .f32 := subf main_arg2 main_arg2
  let main_cst_0 : FVec F S_ .f32 := constant S_ .f32 0x00000000#32
  let main_v7 : FVec F S4096x128 .f32 := broadcastInDim S4096x128 ![] bcast_S_S4096x128 main_cst_0
  let main_v8 : IVec S4096x128 1 := cmpf .oeq main_v6 main_v7
  let main_v9 : IVec S4096x128 1 := andi main_v5 main_v8
  let main_v10 : FVec F S4x4096x48x128 .f32 := subf main_v2 main_v2
  let main_cst_1 : FVec F S_ .f32 := constant S_ .f32 0x00000000#32
  let main_v11 : FVec F S4x4096x48x128 .f32 := broadcastInDim S4x4096x48x128 ![] bcast_S_S4x4096x48x128 main_cst_1
  let main_v12 : IVec S4x4096x48x128 1 := cmpf .oeq main_v10 main_v11
  let main_v13 : IVec S1x4096x1x128 1 := broadcastInDim S1x4096x1x128 ![1, 3] bcast_S4096x128_S1x4096x1x128_1_3 main_v9
  let main_v14 : IVec S4x4096x48x128 1 := broadcastInDim S4x4096x48x128 ![0, 1, 2, 3] bcast_S1x4096x1x128_S4x4096x48x128_0_1_2_3 main_v13
  let main_v15 : IVec S4x4096x48x128 1 := andi main_v12 main_v14
  main_v15
-- ==== Kernel.lean ====
abbrev S16384x2048 : Shape := ⟨2, ![16384, 2048]⟩
abbrev S4096x4096 : Shape := ⟨2, ![4096, 4096]⟩
abbrev S16384x4096 : Shape := ⟨2, ![16384, 4096]⟩
abbrev S4096 : Shape := ⟨1, ![4096]⟩
abbrev S4096x16400 : Shape := ⟨2, ![4096, 16400]⟩
abbrev S128 : Shape := ⟨1, ![128]⟩
abbrev S1x4096 : Shape := ⟨2, ![1, 4096]⟩
abbrev S16384x512 : Shape := ⟨2, ![16384, 512]⟩
abbrev S512x2048 : Shape := ⟨2, ![512, 2048]⟩
abbrev S2048x1024 : Shape := ⟨2, ![2048, 1024]⟩
abbrev S512x1024 : Shape := ⟨2, ![512, 1024]⟩
abbrev S1x1024 : Shape := ⟨2, ![1, 1024]⟩
abbrev S512x128 : Shape := ⟨2, ![512, 128]⟩
abbrev S512 : Shape := ⟨1, ![512]⟩
abbrev S512x1 : Shape := ⟨2, ![512, 1]⟩
abbrev S16400x4096 : Shape := ⟨2, ![16400, 4096]⟩
abbrev S16x4096 : Shape := ⟨2, ![16, 4096]⟩
abbrev S_ : Shape := ⟨0, ![]⟩
abbrev S128x4096 : Shape := ⟨2, ![128, 4096]⟩
abbrev S6144x4096 : Shape := ⟨2, ![6144, 4096]⟩
abbrev S512x4096 : Shape := ⟨2, ![512, 4096]⟩
abbrev S1x128 : Shape := ⟨2, ![1, 128]⟩
abbrev S16384x6144 : Shape := ⟨2, ![16384, 6144]⟩
abbrev S1024x4096 : Shape := ⟨2, ![1024, 4096]⟩
abbrev S1024x512 : Shape := ⟨2, ![1024, 512]⟩
abbrev S1024x1024 : Shape := ⟨2, ![1024, 1024]⟩
abbrev S1024 : Shape := ⟨1, ![1024]⟩
abbrev S1024x1 : Shape := ⟨2, ![1024, 1]⟩
abbrev S1024x128 : Shape := ⟨2, ![1024, 128]⟩
abbrev S10240x4096 : Shape := ⟨2, ![10240, 4096]⟩
abbrev S16384x10240 : Shape := ⟨2, ![16384, 10240]⟩
abbrev S16384x128 : Shape := ⟨2, ![16384, 128]⟩

abbrev nBuf : Space → Nat
  | .hbm => 26
  | .vmem => 51
  | .smem => 0
  | _ => 0

abbrev bufTy : (tb : Table) → Fin (tcTables nBuf tb) → BufTy
  | .hbm, ⟨0, _⟩ => ⟨S16384x2048, .bf16⟩
  | .hbm, ⟨1, _⟩ => ⟨S16384x2048, .bf16⟩
  | .hbm, ⟨2, _⟩ => ⟨S4096x4096, .f32⟩
  | .hbm, ⟨3, _⟩ => ⟨S16384x4096, .f32⟩
  | .hbm, ⟨4, _⟩ => ⟨S4096, .f32⟩
  | .hbm, ⟨5, _⟩ => ⟨S4096x16400, .f32⟩
  | .hbm, ⟨6, _⟩ => ⟨S128, .f32⟩
  | .hbm, ⟨7, _⟩ => ⟨S128, .f32⟩
  | .hbm, ⟨8, _⟩ => ⟨S4096x4096, .bf16⟩
  | .hbm, ⟨9, _⟩ => ⟨S1x4096, .f32⟩
  | .hbm, ⟨10, _⟩ => ⟨S16384x4096, .f32⟩
  | .hbm, ⟨11, _⟩ => ⟨S16384x4096, .bf16⟩
  | .hbm, ⟨12, _⟩ => ⟨S16384x512, .f32⟩
  | .hbm, ⟨13, _⟩ => ⟨S16400x4096, .f32⟩
  | .hbm, ⟨14, _⟩ => ⟨S16x4096, .f32⟩
  | .hbm, ⟨15, _⟩ => ⟨S_, .i32⟩
  | .hbm, ⟨16, _⟩ => ⟨S_, .f32⟩
  | .hbm, ⟨17, _⟩ => ⟨S128x4096, .f32⟩
  | .hbm, ⟨18, _⟩ => ⟨S128x4096, .bf16⟩
  | .hbm, ⟨19, _⟩ => ⟨S6144x4096, .bf16⟩
  | .hbm, ⟨20, _⟩ => ⟨S1x128, .f32⟩
  | .hbm, ⟨21, _⟩ => ⟨S1x128, .f32⟩
  | .hbm, ⟨22, _⟩ => ⟨S16384x6144, .bf16⟩
  | .hbm, ⟨23, _⟩ => ⟨S10240x4096, .bf16⟩
  | .hbm, ⟨24, _⟩ => ⟨S16384x10240, .bf16⟩
  | .hbm, ⟨25, _⟩ => ⟨S16384x128, .f32⟩
  | .local _ .vmem, ⟨0, _⟩ => ⟨S512x2048, .bf16⟩
  | .local _ .vmem, ⟨1, _⟩ => ⟨S512x2048, .bf16⟩
  | .local _ .vmem, ⟨2, _⟩ => ⟨S512x2048, .bf16⟩
  | .local _ .vmem, ⟨3, _⟩ => ⟨S512x2048, .bf16⟩
  | .local _ .vmem, ⟨4, _⟩ => ⟨S2048x1024, .bf16⟩
  | .local _ .vmem, ⟨5, _⟩ => ⟨S2048x1024, .bf16⟩
  | .local _ .vmem, ⟨6, _⟩ => ⟨S2048x1024, .bf16⟩
  | .local _ .vmem, ⟨7, _⟩ => ⟨S2048x1024, .bf16⟩
  | .local _ .vmem, ⟨8, _⟩ => ⟨S512x1024, .f32⟩
  | .local _ .vmem, ⟨9, _⟩ => ⟨S512x1024, .f32⟩
  | .local _ .vmem, ⟨10, _⟩ => ⟨S1x1024, .f32⟩
  | .local _ .vmem, ⟨11, _⟩ => ⟨S1x1024, .f32⟩
  | .local _ .vmem, ⟨12, _⟩ => ⟨S512x1024, .f32⟩
  | .local _ .vmem, ⟨13, _⟩ => ⟨S512x1024, .f32⟩
  | .local _ .vmem, ⟨14, _⟩ => ⟨S512x1024, .bf16⟩
  | .local _ .vmem, ⟨15, _⟩ => ⟨S512x1024, .bf16⟩
  | .local _ .vmem, ⟨16, _⟩ => ⟨S512x128, .f32⟩
  | .local _ .vmem, ⟨17, _⟩ => ⟨S512x128, .f32⟩
  | .local _ .vmem, ⟨18, _⟩ => ⟨S512x4096, .f32⟩
  | .local _ .vmem, ⟨19, _⟩ => ⟨S512x4096, .f32⟩
  | .local _ .vmem, ⟨20, _⟩ => ⟨S512x4096, .bf16⟩
  | .local _ .vmem, ⟨21, _⟩ => ⟨S512x4096, .bf16⟩
  | .local _ .vmem, ⟨22, _⟩ => ⟨S1024x4096, .bf16⟩
  | .local _ .vmem, ⟨23, _⟩ => ⟨S1024x4096, .bf16⟩
  | .local _ .vmem, ⟨24, _⟩ => ⟨S1024x4096, .bf16⟩
  | .local _ .vmem, ⟨25, _⟩ => ⟨S1024x4096, .bf16⟩
  | .local _ .vmem, ⟨26, _⟩ => ⟨S1x128, .f32⟩
  | .local _ .vmem, ⟨27, _⟩ => ⟨S1x128, .f32⟩
  | .local _ .vmem, ⟨28, _⟩ => ⟨S1024x512, .f32⟩
  | .local _ .vmem, ⟨29, _⟩ => ⟨S1024x512, .f32⟩
  | .local _ .vmem, ⟨30, _⟩ => ⟨S1024x1024, .bf16⟩
  | .local _ .vmem, ⟨31, _⟩ => ⟨S1024x1024, .bf16⟩
  | .local _ .vmem, ⟨32, _⟩ => ⟨S512x4096, .f32⟩
  | .local _ .vmem, ⟨33, _⟩ => ⟨S512x4096, .f32⟩
  | .local _ .vmem, ⟨34, _⟩ => ⟨S512x4096, .bf16⟩
  | .local _ .vmem, ⟨35, _⟩ => ⟨S512x4096, .bf16⟩
  | .local _ .vmem, ⟨36, _⟩ => ⟨S1024x4096, .bf16⟩
  | .local _ .vmem, ⟨37, _⟩ => ⟨S1024x4096, .bf16⟩
  | .local _ .vmem, ⟨38, _⟩ => ⟨S1024x4096, .bf16⟩
  | .local _ .vmem, ⟨39, _⟩ => ⟨S1024x4096, .bf16⟩
  | .local _ .vmem, ⟨40, _⟩ => ⟨S1024x512, .f32⟩
  | .local _ .vmem, ⟨41, _⟩ => ⟨S1024x512, .f32⟩
  | .local _ .vmem, ⟨42, _⟩ => ⟨S1024x1024, .bf16⟩
  | .local _ .vmem, ⟨43, _⟩ => ⟨S1024x1024, .bf16⟩
  | .local _ .vmem, ⟨44, _⟩ => ⟨S1024x4096, .bf16⟩
  | .local _ .vmem, ⟨45, _⟩ => ⟨S1024x4096, .bf16⟩
  | .local _ .vmem, ⟨46, _⟩ => ⟨S128x4096, .bf16⟩
  | .local _ .vmem, ⟨47, _⟩ => ⟨S1024x512, .f32⟩
  | .local _ .vmem, ⟨48, _⟩ => ⟨S1024x512, .f32⟩
  | .local _ .vmem, ⟨49, _⟩ => ⟨S1024x128, .f32⟩
  | .local _ .vmem, ⟨50, _⟩ => ⟨S1024x128, .f32⟩
  | _, _ => ⟨S16384x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | .vmem, ⟨50, _⟩ => true
  | _, _ => false

abbrev semScoped : Fin 0 → Bool
  | ⟨_, h⟩ => absurd h (Nat.not_lt_zero _)

abbrev dmaSemScoped : Fin 51 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | _ => false

abbrev sig : RefSig :=
  ofTc nBuf bufTy 0 51 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2_0 : Ref sig .tc := ⟨.hbm, 10, rfl⟩
abbrev main_v2_1 : Ref sig .tc := ⟨.hbm, 11, rfl⟩
abbrev main_v2_2 : Ref sig .tc := ⟨.hbm, 12, rfl⟩
abbrev main_v3 : Ref sig .tc := ⟨.hbm, 13, rfl⟩
abbrev main_v4 : Ref sig .tc := ⟨.hbm, 14, rfl⟩
abbrev main_c : Ref sig .tc := ⟨.hbm, 15, rfl⟩
abbrev main_call0_v0 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc1_stg0_0 : Ref sig .tc := ⟨.vmem, 18, rfl⟩
abbrev cc1_stg0_1 : Ref sig .tc := ⟨.vmem, 19, rfl⟩
abbrev cc1_stg1_0 : Ref sig .tc := ⟨.vmem, 20, rfl⟩
abbrev cc1_stg1_1 : Ref sig .tc := ⟨.vmem, 21, rfl⟩
abbrev cc2_stg0_0 : Ref sig .tc := ⟨.vmem, 22, rfl⟩
abbrev cc2_stg0_1 : Ref sig .tc := ⟨.vmem, 23, rfl⟩
abbrev cc2_stg1_0 : Ref sig .tc := ⟨.vmem, 24, rfl⟩
abbrev cc2_stg1_1 : Ref sig .tc := ⟨.vmem, 25, rfl⟩
abbrev cc2_stg2_0 : Ref sig .tc := ⟨.vmem, 26, rfl⟩
abbrev cc2_stg3_0 : Ref sig .tc := ⟨.vmem, 27, rfl⟩
abbrev cc2_stg4_0 : Ref sig .tc := ⟨.vmem, 28, rfl⟩
abbrev cc2_stg4_1 : Ref sig .tc := ⟨.vmem, 29, rfl⟩
abbrev cc2_stg5_0 : Ref sig .tc := ⟨.vmem, 30, rfl⟩
abbrev cc2_stg5_1 : Ref sig .tc := ⟨.vmem, 31, rfl⟩
abbrev cc3_stg0_0 : Ref sig .tc := ⟨.vmem, 32, rfl⟩
abbrev cc3_stg0_1 : Ref sig .tc := ⟨.vmem, 33, rfl⟩
abbrev cc3_stg1_0 : Ref sig .tc := ⟨.vmem, 34, rfl⟩
abbrev cc3_stg1_1 : Ref sig .tc := ⟨.vmem, 35, rfl⟩
abbrev cc4_stg0_0 : Ref sig .tc := ⟨.vmem, 36, rfl⟩
abbrev cc4_stg0_1 : Ref sig .tc := ⟨.vmem, 37, rfl⟩
abbrev cc4_stg1_0 : Ref sig .tc := ⟨.vmem, 38, rfl⟩
abbrev cc4_stg1_1 : Ref sig .tc := ⟨.vmem, 39, rfl⟩
abbrev cc4_stg2_0 : Ref sig .tc := ⟨.vmem, 40, rfl⟩
abbrev cc4_stg2_1 : Ref sig .tc := ⟨.vmem, 41, rfl⟩
abbrev cc4_stg3_0 : Ref sig .tc := ⟨.vmem, 42, rfl⟩
abbrev cc4_stg3_1 : Ref sig .tc := ⟨.vmem, 43, rfl⟩
abbrev cc5_stg0_0 : Ref sig .tc := ⟨.vmem, 44, rfl⟩
abbrev cc5_stg0_1 : Ref sig .tc := ⟨.vmem, 45, rfl⟩
abbrev cc5_stg1_0 : Ref sig .tc := ⟨.vmem, 46, rfl⟩
abbrev cc5_stg2_0 : Ref sig .tc := ⟨.vmem, 47, rfl⟩
abbrev cc5_stg2_1 : Ref sig .tc := ⟨.vmem, 48, rfl⟩
abbrev cc5_stg3_0 : Ref sig .tc := ⟨.vmem, 49, rfl⟩
abbrev cc5_stg3_1 : Ref sig .tc := ⟨.vmem, 50, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc1_sem0_0 : DmaSem sig := 18
abbrev cc1_sem0_1 : DmaSem sig := 19
abbrev cc1_sem1_0 : DmaSem sig := 20
abbrev cc1_sem1_1 : DmaSem sig := 21
abbrev cc2_sem0_0 : DmaSem sig := 22
abbrev cc2_sem0_1 : DmaSem sig := 23
abbrev cc2_sem1_0 : DmaSem sig := 24
abbrev cc2_sem1_1 : DmaSem sig := 25
abbrev cc2_sem2_0 : DmaSem sig := 26
abbrev cc2_sem3_0 : DmaSem sig := 27
abbrev cc2_sem4_0 : DmaSem sig := 28
abbrev cc2_sem4_1 : DmaSem sig := 29
abbrev cc2_sem5_0 : DmaSem sig := 30
abbrev cc2_sem5_1 : DmaSem sig := 31
abbrev cc3_sem0_0 : DmaSem sig := 32
abbrev cc3_sem0_1 : DmaSem sig := 33
abbrev cc3_sem1_0 : DmaSem sig := 34
abbrev cc3_sem1_1 : DmaSem sig := 35
abbrev cc4_sem0_0 : DmaSem sig := 36
abbrev cc4_sem0_1 : DmaSem sig := 37
abbrev cc4_sem1_0 : DmaSem sig := 38
abbrev cc4_sem1_1 : DmaSem sig := 39
abbrev cc4_sem2_0 : DmaSem sig := 40
abbrev cc4_sem2_1 : DmaSem sig := 41
abbrev cc4_sem3_0 : DmaSem sig := 42
abbrev cc4_sem3_1 : DmaSem sig := 43
abbrev cc5_sem0_0 : DmaSem sig := 44
abbrev cc5_sem0_1 : DmaSem sig := 45
abbrev cc5_sem1_0 : DmaSem sig := 46
abbrev cc5_sem2_0 : DmaSem sig := 47
abbrev cc5_sem2_1 : DmaSem sig := 48
abbrev cc5_sem3_0 : DmaSem sig := 49
abbrev cc5_sem3_1 : DmaSem sig := 50

abbrev nD : Nat := 1
abbrev τ : Topo := Topo.v7x

variable {F : FTy → Type} [FloatOps F]

abbrev grid0 : Pipeline.Grid := ⟨2, ![4, 32], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let arg1 : BitVec 32 := BitVec.ofNat 32 (i 1).val
  let c1_i32 : BitVec 32 := 1#32
  let c0_i32 : BitVec 32 := 0#32
  ![c1_i32.toNat, arg0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S512x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S512x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S2048x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S2048x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 2 → Memref sig .tc .vmem S512x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S512x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S512x128 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev grid1 : Pipeline.Grid := ⟨1, ![12], ![false]⟩

def cc1_transform_0 (i : grid1.Coords) : Fin 2 → Nat :=
  let arg0 : BitVec 32 := BitVec.ofNat 32 (i 0).val
  let c64_i32 : BitVec 32 := 64#32
  let v0 : BitVec 32 := Scalar.muli arg0 c64_i32
  let c0_i32 : BitVec 32 := 0#32
  let v1 : BitVec 32 := Scalar.addi c0_i32 v0
  let c8_i32 : BitVec 32 := 8#32
  let v2 : BitVec 32 := Scalar.muli v1 c8_i32
  let c0_i32_0 : BitVec 32 := 0#32
  let c0_i32_1 : BitVec 32 := 0#32
  ![v2.toNat, c0_i32_0.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S512x4096 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S512x4096 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev grid2 : Pipeline.Grid := ⟨2, ![6, 16], ![false, false]⟩

def cc2_transform_0 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc2_transform_1 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc2_transform_5 (i : grid2.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage2_0 : Fin 2 → Memref sig .tc .vmem S1024x4096 .bf16 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![false, true]

abbrev stage2_1 : Fin 2 → Memref sig .tc .vmem S1024x4096 .bf16 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true, false]

abbrev stage2_2 : Fin 1 → Memref sig .tc .vmem S1x128 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false, false]

abbrev stage2_3 : Fin 1 → Memref sig .tc .vmem S1x128 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false, false]

abbrev stage2_4 : Fin 2 → Memref sig .tc .vmem S1024x512 .f32 := fun | 0 => Memref.whole cc2_stg4_0 | 1 => Memref.whole cc2_stg4_1 | ⟨_ + 2, h⟩ => absurd h (Nat.not_lt.2 (Nat.le_add_left _ _))
abbrev sem2_4 : Fin 2 → DmaSem sig := fun | 0 => cc2_sem4_0 | 1 => cc2_sem4_1 | ⟨_ + 2, h⟩ => absurd h (Nat.not_lt.2 (Nat.le_add_left _ _))
abbrev reads2_4 : Fin grid2.rank → Bool := ![false, true]

abbrev stage2_5 : Fin 2 → Memref sig .tc .vmem S1024x1024 .bf16 := fun | 0 => Memref.whole cc2_stg5_0 | 1 => Memref.whole cc2_stg5_1 | ⟨_ + 2, h⟩ => absurd h (Nat.not_lt.2 (Nat.le_add_left _ _))
abbrev sem2_5 : Fin 2 → DmaSem sig := fun | 0 => cc2_sem5_0 | 1 => cc2_sem5_1 | ⟨_ + 2, h⟩ => absurd h (Nat.not_lt.2 (Nat.le_add_left _ _))
abbrev reads2_5 : Fin grid2.rank → Bool := ![true, true]

abbrev grid3 : Pipeline.Grid := ⟨1, ![20], ![false]⟩

def cc3_transform_0 (i : grid3.Coords) : Fin 2 → Nat :=
  let arg0 : BitVec 32 := BitVec.ofNat 32 (i 0).val
  let c64_i32 : BitVec 32 := 64#32
  let v0 : BitVec 32 := Scalar.muli arg0 c64_i32
  let c770_i32 : BitVec 32 := 770#32
  let v1 : BitVec 32 := Scalar.addi c770_i32 v0
  let c8_i32 : BitVec 32 := 8#32
  let v2 : BitVec 32 := Scalar.muli v1 c8_i32
  let c0_i32 : BitVec 32 := 0#32
  let c0_i32_0 : BitVec 32 := 0#32
  ![v2.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S512x4096 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 2 → Memref sig .tc .vmem S512x4096 .bf16 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev grid4 : Pipeline.Grid := ⟨2, ![10, 16], ![false, false]⟩

def cc4_transform_0 (i : grid4.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc4_transform_1 (i : grid4.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc4_transform_2 (i : grid4.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc4_transform_3 (i : grid4.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage4_0 : Fin 2 → Memref sig .tc .vmem S1024x4096 .bf16 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![false, true]

abbrev stage4_1 : Fin 2 → Memref sig .tc .vmem S1024x4096 .bf16 := fun | 0 => Memref.whole cc4_stg1_0 | 1 => Memref.whole cc4_stg1_1 | ⟨_ + 2, h⟩ => absurd h (Nat.not_lt.2 (Nat.le_add_left _ _))
abbrev sem4_1 : Fin 2 → DmaSem sig := fun | 0 => cc4_sem1_0 | 1 => cc4_sem1_1 | ⟨_ + 2, h⟩ => absurd h (Nat.not_lt.2 (Nat.le_add_left _ _))
abbrev reads4_1 : Fin grid4.rank → Bool := ![true, false]

abbrev stage4_2 : Fin 2 → Memref sig .tc .vmem S1024x512 .f32 := fun | 0 => Memref.whole cc4_stg2_0 | 1 => Memref.whole cc4_stg2_1 | ⟨_ + 2, h⟩ => absurd h (Nat.not_lt.2 (Nat.le_add_left _ _))
abbrev sem4_2 : Fin 2 → DmaSem sig := fun | 0 => cc4_sem2_0 | 1 => cc4_sem2_1 | ⟨_ + 2, h⟩ => absurd h (Nat.not_lt.2 (Nat.le_add_left _ _))
abbrev reads4_2 : Fin grid4.rank → Bool := ![false, true]

abbrev stage4_3 : Fin 2 → Memref sig .tc .vmem S1024x1024 .bf16 := fun | 0 => Memref.whole cc4_stg3_0 | 1 => Memref.whole cc4_stg3_1 | ⟨_ + 2, h⟩ => absurd h (Nat.not_lt.2 (Nat.le_add_left _ _))
abbrev sem4_3 : Fin 2 → DmaSem sig := fun | 0 => cc4_sem3_0 | 1 => cc4_sem3_1 | ⟨_ + 2, h⟩ => absurd h (Nat.not_lt.2 (Nat.le_add_left _ _))
abbrev reads4_3 : Fin grid4.rank → Bool := ![true, true]

abbrev grid5 : Pipeline.Grid := ⟨2, ![1, 16], ![false, false]⟩

def cc5_transform_0 (i : grid5.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc5_transform_1 (i : grid5.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc5_transform_2 (i : grid5.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc5_transform_3 (i : grid5.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage5_0 : Fin 2 → Memref sig .tc .vmem S1024x4096 .bf16 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![false, true]

abbrev stage5_1 : Fin 1 → Memref sig .tc .vmem S128x4096 .bf16 := fun | 0 => Memref.whole cc5_stg1_0 | ⟨_ + 1, h⟩ => absurd h (Nat.not_lt.2 (Nat.le_add_left _ _))
abbrev sem5_1 : Fin 1 → DmaSem sig := fun | 0 => cc5_sem1_0 | ⟨_ + 1, h⟩ => absurd h (Nat.not_lt.2 (Nat.le_add_left _ _))
abbrev reads5_1 : Fin grid5.rank → Bool := ![true, false]

abbrev stage5_2 : Fin 2 → Memref sig .tc .vmem S1024x512 .f32 := fun | 0 => Memref.whole cc5_stg2_0 | 1 => Memref.whole cc5_stg2_1 | ⟨_ + 2, h⟩ => absurd h (Nat.not_lt.2 (Nat.le_add_left _ _))
abbrev sem5_2 : Fin 2 → DmaSem sig := fun | 0 => cc5_sem2_0 | 1 => cc5_sem2_1 | ⟨_ + 2, h⟩ => absurd h (Nat.not_lt.2 (Nat.le_add_left _ _))
abbrev reads5_2 : Fin grid5.rank → Bool := ![false, true]

abbrev stage5_3 : Fin 2 → Memref sig .tc .vmem S1024x128 .f32 := fun | 0 => Memref.whole cc5_stg3_0 | 1 => Memref.whole cc5_stg3_1 | ⟨_ + 2, h⟩ => absurd h (Nat.not_lt.2 (Nat.le_add_left _ _))
abbrev sem5_3 : Fin 2 → DmaSem sig := fun | 0 => cc5_sem3_0 | 1 => cc5_sem3_1 | ⟨_ + 2, h⟩ => absurd h (Nat.not_lt.2 (Nat.le_add_left _ _))
abbrev reads5_3 : Fin grid5.rank → Bool := ![true, true]
-- ==== ReferenceIdeal.lean ====
abbrev S16384x2048 : Shape := ⟨2, ![16384, 2048]⟩
abbrev S4096x4096 : Shape := ⟨2, ![4096, 4096]⟩
abbrev S16384x4096 : Shape := ⟨2, ![16384, 4096]⟩
abbrev S4096 : Shape := ⟨1, ![4096]⟩
abbrev S4096x16400 : Shape := ⟨2, ![4096, 16400]⟩
abbrev S128 : Shape := ⟨1, ![128]⟩
abbrev S_ : Shape := ⟨0, ![]⟩
abbrev S16384 : Shape := ⟨1, ![16384]⟩
abbrev S16384x1 : Shape := ⟨2, ![16384, 1]⟩
abbrev S1x4096 : Shape := ⟨2, ![1, 4096]⟩
abbrev S16384x16400 : Shape := ⟨2, ![16384, 16400]⟩
abbrev S16384x16 : Shape := ⟨2, ![16384, 16]⟩
abbrev S16384x10240 : Shape := ⟨2, ![16384, 10240]⟩
abbrev S16384x16x128 : Shape := ⟨3, ![16384, 16, 128]⟩
abbrev S16384x16x1 : Shape := ⟨3, ![16384, 16, 1]⟩
abbrev S1x1x128 : Shape := ⟨3, ![1, 1, 128]⟩
abbrev S16384x6144 : Shape := ⟨2, ![16384, 6144]⟩
abbrev S16384x128 : Shape := ⟨2, ![16384, 128]⟩

abbrev nBuf : Space → Nat
  | .hbm => 80
  | .vmem => 0
  | .smem => 0
  | _ => 0

abbrev bufTy : (tb : Table) → Fin (tcTables nBuf tb) → BufTy
  | .hbm, ⟨0, _⟩ => ⟨S16384x2048, .bf16⟩
  | .hbm, ⟨1, _⟩ => ⟨S16384x2048, .bf16⟩
  | .hbm, ⟨2, _⟩ => ⟨S4096x4096, .f32⟩
  | .hbm, ⟨3, _⟩ => ⟨S16384x4096, .f32⟩
  | .hbm, ⟨4, _⟩ => ⟨S4096, .f32⟩
  | .hbm, ⟨5, _⟩ => ⟨S4096x16400, .f32⟩
  | .hbm, ⟨6, _⟩ => ⟨S128, .f32⟩
  | .hbm, ⟨7, _⟩ => ⟨S128, .f32⟩
  | .hbm, ⟨8, _⟩ => ⟨S16384x2048, .f32⟩
  | .hbm, ⟨9, _⟩ => ⟨S16384x2048, .f32⟩
  | .hbm, ⟨10, _⟩ => ⟨S16384x4096, .f32⟩
  | .hbm, ⟨11, _⟩ => ⟨S16384x4096, .f32⟩
  | .hbm, ⟨12, _⟩ => ⟨S16384x4096, .f32⟩
  | .hbm, ⟨13, _⟩ => ⟨S16384x4096, .f32⟩
  | .hbm, ⟨14, _⟩ => ⟨S_, .f32⟩
  | .hbm, ⟨15, _⟩ => ⟨S16384, .f32⟩
  | .hbm, ⟨16, _⟩ => ⟨S16384x1, .f32⟩
  | .hbm, ⟨17, _⟩ => ⟨S_, .f32⟩
  | .hbm, ⟨18, _⟩ => ⟨S16384x1, .f32⟩
  | .hbm, ⟨19, _⟩ => ⟨S16384x1, .f32⟩
  | .hbm, ⟨20, _⟩ => ⟨S_, .f32⟩
  | .hbm, ⟨21, _⟩ => ⟨S16384x1, .f32⟩
  | .hbm, ⟨22, _⟩ => ⟨S16384x1, .f32⟩
  | .hbm, ⟨23, _⟩ => ⟨S16384x1, .f32⟩
  | .hbm, ⟨24, _⟩ => ⟨S16384x4096, .f32⟩
  | .hbm, ⟨25, _⟩ => ⟨S16384x4096, .f32⟩
  | .hbm, ⟨26, _⟩ => ⟨S1x4096, .f32⟩
  | .hbm, ⟨27, _⟩ => ⟨S16384x4096, .f32⟩
  | .hbm, ⟨28, _⟩ => ⟨S16384x4096, .f32⟩
  | .hbm, ⟨29, _⟩ => ⟨S16384x16400, .f32⟩
  | .hbm, ⟨30, _⟩ => ⟨S16384x2048, .f32⟩
  | .hbm, ⟨31, _⟩ => ⟨S16384x2048, .f32⟩
  | .hbm, ⟨32, _⟩ => ⟨S16384x2048, .f32⟩
  | .hbm, ⟨33, _⟩ => ⟨S16384x16, .f32⟩
  | .hbm, ⟨34, _⟩ => ⟨S16384x10240, .f32⟩
  | .hbm, ⟨35, _⟩ => ⟨S16384x16x128, .f32⟩
  | .hbm, ⟨36, _⟩ => ⟨S16384x16x128, .f32⟩
  | .hbm, ⟨37, _⟩ => ⟨S_, .f32⟩
  | .hbm, ⟨38, _⟩ => ⟨S16384x16, .f32⟩
  | .hbm, ⟨39, _⟩ => ⟨S16384x16x1, .f32⟩
  | .hbm, ⟨40, _⟩ => ⟨S_, .f32⟩
  | .hbm, ⟨41, _⟩ => ⟨S16384x16x1, .f32⟩
  | .hbm, ⟨42, _⟩ => ⟨S16384x16x1, .f32⟩
  | .hbm, ⟨43, _⟩ => ⟨S_, .f32⟩
  | .hbm, ⟨44, _⟩ => ⟨S16384x16x1, .f32⟩
  | .hbm, ⟨45, _⟩ => ⟨S16384x16x1, .f32⟩
  | .hbm, ⟨46, _⟩ => ⟨S16384x16x1, .f32⟩
  | .hbm, ⟨47, _⟩ => ⟨S16384x16x128, .f32⟩
  | .hbm, ⟨48, _⟩ => ⟨S16384x16x128, .f32⟩
  | .hbm, ⟨49, _⟩ => ⟨S1x1x128, .f32⟩
  | .hbm, ⟨50, _⟩ => ⟨S16384x16x128, .f32⟩
  | .hbm, ⟨51, _⟩ => ⟨S16384x16x128, .f32⟩
  | .hbm, ⟨52, _⟩ => ⟨S_, .f32⟩
  | .hbm, ⟨53, _⟩ => ⟨S16384x16x128, .f32⟩
  | .hbm, ⟨54, _⟩ => ⟨S16384x16x128, .f32⟩
  | .hbm, ⟨55, _⟩ => ⟨S16384x16x128, .f32⟩
  | .hbm, ⟨56, _⟩ => ⟨S16384x16x128, .f32⟩
  | .hbm, ⟨57, _⟩ => ⟨S_, .f32⟩
  | .hbm, ⟨58, _⟩ => ⟨S16384x16, .f32⟩
  | .hbm, ⟨59, _⟩ => ⟨S16384x16x1, .f32⟩
  | .hbm, ⟨60, _⟩ => ⟨S_, .f32⟩
  | .hbm, ⟨61, _⟩ => ⟨S16384x16x1, .f32⟩
  | .hbm, ⟨62, _⟩ => ⟨S16384x16x1, .f32⟩
  | .hbm, ⟨63, _⟩ => ⟨S_, .f32⟩
  | .hbm, ⟨64, _⟩ => ⟨S16384x16x1, .f32⟩
  | .hbm, ⟨65, _⟩ => ⟨S16384x16x1, .f32⟩
  | .hbm, ⟨66, _⟩ => ⟨S16384x16x1, .f32⟩
  | .hbm, ⟨67, _⟩ => ⟨S16384x16x128, .f32⟩
  | .hbm, ⟨68, _⟩ => ⟨S16384x16x128, .f32⟩
  | .hbm, ⟨69, _⟩ => ⟨S1x1x128, .f32⟩
  | .hbm, ⟨70, _⟩ => ⟨S16384x16x128, .f32⟩
  | .hbm, ⟨71, _⟩ => ⟨S16384x16x128, .f32⟩
  | .hbm, ⟨72, _⟩ => ⟨S16384x2048, .f32⟩
  | .hbm, ⟨73, _⟩ => ⟨S16384x2048, .f32⟩
  | .hbm, ⟨74, _⟩ => ⟨S16384x6144, .f32⟩
  | .hbm, ⟨75, _⟩ => ⟨S16384x6144, .bf16⟩
  | .hbm, ⟨76, _⟩ => ⟨S16384x10240, .bf16⟩
  | .hbm, ⟨77, _⟩ => ⟨S_, .i32⟩
  | .hbm, ⟨78, _⟩ => ⟨S_, .f32⟩
  | .hbm, ⟨79, _⟩ => ⟨S16384x128, .f32⟩
  | _, _ => ⟨S16384x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_cst : Ref sig .tc := ⟨.hbm, 14, rfl⟩
abbrev main_v6 : Ref sig .tc := ⟨.hbm, 15, rfl⟩
abbrev main_v7 : Ref sig .tc := ⟨.hbm, 16, rfl⟩
abbrev main_cst_0 : Ref sig .tc := ⟨.hbm, 17, rfl⟩
abbrev main_v8 : Ref sig .tc := ⟨.hbm, 18, rfl⟩
abbrev main_v9 : Ref sig .tc := ⟨.hbm, 19, rfl⟩
abbrev main_cst_1 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_cst_2 : Ref sig .tc := ⟨.hbm, 37, rfl⟩
abbrev main_v26 : Ref sig .tc := ⟨.hbm, 38, rfl⟩
abbrev main_v27 : Ref sig .tc := ⟨.hbm, 39, rfl⟩
abbrev main_cst_3 : Ref sig .tc := ⟨.hbm, 40, rfl⟩
abbrev main_v28 : Ref sig .tc := ⟨.hbm, 41, rfl⟩
abbrev main_v29 : Ref sig .tc := ⟨.hbm, 42, rfl⟩
abbrev main_cst_4 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_cst_5 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩
abbrev main_v41 : Ref sig .tc := ⟨.hbm, 56, rfl⟩
abbrev main_cst_6 : Ref sig .tc := ⟨.hbm, 57, rfl⟩
abbrev main_v42 : Ref sig .tc := ⟨.hbm, 58, rfl⟩
abbrev main_v43 : Ref sig .tc := ⟨.hbm, 59, rfl⟩
abbrev main_cst_7 : Ref sig .tc := ⟨.hbm, 60, rfl⟩
abbrev main_v44 : Ref sig .tc := ⟨.hbm, 61, rfl⟩
abbrev main_v45 : Ref sig .tc := ⟨.hbm, 62, rfl⟩
abbrev main_cst_8 : Ref sig .tc := ⟨.hbm, 63, rfl⟩
abbrev main_v46 : Ref sig .tc := ⟨.hbm, 64, rfl⟩
abbrev main_v47 : Ref sig .tc := ⟨.hbm, 65, rfl⟩
abbrev main_v48 : Ref sig .tc := ⟨.hbm, 66, rfl⟩
abbrev main_v49 : Ref sig .tc := ⟨.hbm, 67, rfl⟩
abbrev main_v50 : Ref sig .tc := ⟨.hbm, 68, rfl⟩
abbrev main_v51 : Ref sig .tc := ⟨.hbm, 69, rfl⟩
abbrev main_v52 : Ref sig .tc := ⟨.hbm, 70, rfl⟩
abbrev main_v53 : Ref sig .tc := ⟨.hbm, 71, rfl⟩
abbrev main_v54 : Ref sig .tc := ⟨.hbm, 72, rfl⟩
abbrev main_v55 : Ref sig .tc := ⟨.hbm, 73, rfl⟩
abbrev main_v56 : Ref sig .tc := ⟨.hbm, 74, rfl⟩
abbrev main_v57 : Ref sig .tc := ⟨.hbm, 75, rfl⟩
abbrev main_v58 : Ref sig .tc := ⟨.hbm, 76, rfl⟩
abbrev main_c : Ref sig .tc := ⟨.hbm, 77, rfl⟩
abbrev main_call0_v0 : Ref sig .tc := ⟨.hbm, 78, rfl⟩
abbrev main_v59 : Ref sig .tc := ⟨.hbm, 79, rfl⟩

abbrev nD : Nat := 1
abbrev τ : Topo := Topo.v7x

variable {F : FTy → Type} [FloatOps F]
-- ==== Kernel2.lean ====
abbrev S16384x4096 : Shape := ⟨2, ![16384, 4096]⟩
abbrev S4096 : Shape := ⟨1, ![4096]⟩
abbrev S4096x12288 : Shape := ⟨2, ![4096, 12288]⟩
abbrev S1x4096 : Shape := ⟨2, ![1, 4096]⟩
abbrev S512x4096 : Shape := ⟨2, ![512, 4096]⟩
abbrev S512 : Shape := ⟨1, ![512]⟩
abbrev S512x1 : Shape := ⟨2, ![512, 1]⟩
abbrev S_ : Shape := ⟨0, ![]⟩
abbrev S2048 : Shape := ⟨1, ![2048]⟩
abbrev S10240 : Shape := ⟨1, ![10240]⟩
abbrev S12288 : Shape := ⟨1, ![12288]⟩
abbrev S1x12288 : Shape := ⟨2, ![1, 12288]⟩
abbrev S16384x12288 : Shape := ⟨2, ![16384, 12288]⟩
abbrev S1024x4096 : Shape := ⟨2, ![1024, 4096]⟩
abbrev S4096x1024 : Shape := ⟨2, ![4096, 1024]⟩
abbrev S1x1024 : Shape := ⟨2, ![1, 1024]⟩
abbrev S1024x1024 : Shape := ⟨2, ![1024, 1024]⟩

abbrev nBuf : Space → Nat
  | .hbm => 13
  | .vmem => 13
  | .smem => 0
  | _ => 0

abbrev bufTy : (tb : Table) → Fin (tcTables nBuf tb) → BufTy
  | .hbm, ⟨0, _⟩ => ⟨S16384x4096, .f32⟩
  | .hbm, ⟨1, _⟩ => ⟨S4096, .f32⟩
  | .hbm, ⟨2, _⟩ => ⟨S4096x12288, .f32⟩
  | .hbm, ⟨3, _⟩ => ⟨S1x4096, .f32⟩
  | .hbm, ⟨4, _⟩ => ⟨S16384x4096, .bf16⟩
  | .hbm, ⟨5, _⟩ => ⟨S_, .f32⟩
  | .hbm, ⟨6, _⟩ => ⟨S2048, .f32⟩
  | .hbm, ⟨7, _⟩ => ⟨S_, .f32⟩
  | .hbm, ⟨8, _⟩ => ⟨S10240, .f32⟩
  | .hbm, ⟨9, _⟩ => ⟨S12288, .f32⟩
  | .hbm, ⟨10, _⟩ => ⟨S4096x12288, .bf16⟩
  | .hbm, ⟨11, _⟩ => ⟨S1x12288, .f32⟩
  | .hbm, ⟨12, _⟩ => ⟨S16384x12288, .bf16⟩
  | .local _ .vmem, ⟨0, _⟩ => ⟨S512x4096, .f32⟩
  | .local _ .vmem, ⟨1, _⟩ => ⟨S512x4096, .f32⟩
  | .local _ .vmem, ⟨2, _⟩ => ⟨S1x4096, .f32⟩
  | .local _ .vmem, ⟨3, _⟩ => ⟨S512x4096, .bf16⟩
  | .local _ .vmem, ⟨4, _⟩ => ⟨S512x4096, .bf16⟩
  | .local _ .vmem, ⟨5, _⟩ => ⟨S1024x4096, .bf16⟩
  | .local _ .vmem, ⟨6, _⟩ => ⟨S1024x4096, .bf16⟩
  | .local _ .vmem, ⟨7, _⟩ => ⟨S4096x1024, .bf16⟩
  | .local _ .vmem, ⟨8, _⟩ => ⟨S4096x1024, .bf16⟩
  | .local _ .vmem, ⟨9, _⟩ => ⟨S1x1024, .f32⟩
  | .local _ .vmem, ⟨10, _⟩ => ⟨S1x1024, .f32⟩
  | .local _ .vmem, ⟨11, _⟩ => ⟨S1024x1024, .bf16⟩
  | .local _ .vmem, ⟨12, _⟩ => ⟨S1024x1024, .bf16⟩
  | _, _ => ⟨S16384x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_cst : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg1_1 : Ref sig .tc := ⟨.vmem, 8, rfl⟩
abbrev cc1_stg2_0 : Ref sig .tc := ⟨.vmem, 9, rfl⟩
abbrev cc1_stg2_1 : Ref sig .tc := ⟨.vmem, 10, rfl⟩
abbrev cc1_stg3_0 : Ref sig .tc := ⟨.vmem, 11, rfl⟩
abbrev cc1_stg3_1 : Ref sig .tc := ⟨.vmem, 12, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem1_1 : DmaSem sig := 8
abbrev cc1_sem2_0 : DmaSem sig := 9
abbrev cc1_sem2_1 : DmaSem sig := 10
abbrev cc1_sem3_0 : DmaSem sig := 11
abbrev cc1_sem3_1 : DmaSem sig := 12

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x4096 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x4096 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨2, ![12, 16], ![false, false]⟩

def cc1_transform_0 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc1_transform_1 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc1_transform_2 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc1_transform_3 (i : grid1.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage1_0 : Fin 2 → Memref sig .tc .vmem S1024x4096 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![false, true]

abbrev stage1_1 : Fin 2 → Memref sig .tc .vmem S4096x1024 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, false]

abbrev stage1_2 : Fin 2 → Memref sig .tc .vmem S1x1024 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, false]

abbrev stage1_3 : Fin 2 → Memref sig .tc .vmem S1024x1024 .bf16 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, true]
-- ==== Reference2Ideal.lean ====
abbrev S16384x4096 : Shape := ⟨2, ![16384, 4096]⟩
abbrev S4096 : Shape := ⟨1, ![4096]⟩
abbrev S4096x12288 : Shape := ⟨2, ![4096, 12288]⟩
abbrev S_ : Shape := ⟨0, ![]⟩
abbrev S16384 : Shape := ⟨1, ![16384]⟩
abbrev S16384x1 : Shape := ⟨2, ![16384, 1]⟩
abbrev S1x4096 : Shape := ⟨2, ![1, 4096]⟩
abbrev S16384x12288 : Shape := ⟨2, ![16384, 12288]⟩
abbrev S16384x2048 : Shape := ⟨2, ![16384, 2048]⟩
abbrev S16384x10240 : Shape := ⟨2, ![16384, 10240]⟩

abbrev nBuf : Space → Nat
  | .hbm => 27
  | .vmem => 0
  | .smem => 0
  | _ => 0

abbrev bufTy : (tb : Table) → Fin (tcTables nBuf tb) → BufTy
  | .hbm, ⟨0, _⟩ => ⟨S16384x4096, .f32⟩
  | .hbm, ⟨1, _⟩ => ⟨S4096, .f32⟩
  | .hbm, ⟨2, _⟩ => ⟨S4096x12288, .f32⟩
  | .hbm, ⟨3, _⟩ => ⟨S16384x4096, .f32⟩
  | .hbm, ⟨4, _⟩ => ⟨S_, .f32⟩
  | .hbm, ⟨5, _⟩ => ⟨S16384, .f32⟩
  | .hbm, ⟨6, _⟩ => ⟨S16384x1, .f32⟩
  | .hbm, ⟨7, _⟩ => ⟨S_, .f32⟩
  | .hbm, ⟨8, _⟩ => ⟨S16384x1, .f32⟩
  | .hbm, ⟨9, _⟩ => ⟨S16384x1, .f32⟩
  | .hbm, ⟨10, _⟩ => ⟨S_, .f32⟩
  | .hbm, ⟨11, _⟩ => ⟨S16384x1, .f32⟩
  | .hbm, ⟨12, _⟩ => ⟨S16384x1, .f32⟩
  | .hbm, ⟨13, _⟩ => ⟨S16384x1, .f32⟩
  | .hbm, ⟨14, _⟩ => ⟨S16384x4096, .f32⟩
  | .hbm, ⟨15, _⟩ => ⟨S16384x4096, .f32⟩
  | .hbm, ⟨16, _⟩ => ⟨S1x4096, .f32⟩
  | .hbm, ⟨17, _⟩ => ⟨S16384x4096, .f32⟩
  | .hbm, ⟨18, _⟩ => ⟨S16384x4096, .f32⟩
  | .hbm, ⟨19, _⟩ => ⟨S16384x12288, .f32⟩
  | .hbm, ⟨20, _⟩ => ⟨S16384x2048, .f32⟩
  | .hbm, ⟨21, _⟩ => ⟨S16384x10240, .f32⟩
  | .hbm, ⟨22, _⟩ => ⟨S_, .f32⟩
  | .hbm, ⟨23, _⟩ => ⟨S16384x2048, .f32⟩
  | .hbm, ⟨24, _⟩ => ⟨S16384x2048, .f32⟩
  | .hbm, ⟨25, _⟩ => ⟨S16384x12288, .f32⟩
  | .hbm, ⟨26, _⟩ => ⟨S16384x12288, .bf16⟩
  | _, _ => ⟨S16384x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_cst_2 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩

abbrev nD : Nat := 1
abbrev τ : Topo := Topo.v7x

variable {F : FTy → Type} [FloatOps F]
-- ==== Kernel3.lean ====
abbrev S16384x2048 : Shape := ⟨2, ![16384, 2048]⟩
abbrev S4096x4096 : Shape := ⟨2, ![4096, 4096]⟩
abbrev S16384x4096 : Shape := ⟨2, ![16384, 4096]⟩
abbrev S512x2048 : Shape := ⟨2, ![512, 2048]⟩
abbrev S2048x1024 : Shape := ⟨2, ![2048, 1024]⟩
abbrev S512x1024 : Shape := ⟨2, ![512, 1024]⟩

abbrev nBuf : Space → Nat
  | .hbm => 6
  | .vmem => 12
  | .smem => 0
  | _ => 0

abbrev bufTy : (tb : Table) → Fin (tcTables nBuf tb) → BufTy
  | .hbm, ⟨0, _⟩ => ⟨S16384x2048, .bf16⟩
  | .hbm, ⟨1, _⟩ => ⟨S16384x2048, .bf16⟩
  | .hbm, ⟨2, _⟩ => ⟨S4096x4096, .f32⟩
  | .hbm, ⟨3, _⟩ => ⟨S16384x4096, .f32⟩
  | .hbm, ⟨4, _⟩ => ⟨S4096x4096, .bf16⟩
  | .hbm, ⟨5, _⟩ => ⟨S16384x4096, .f32⟩
  | .local _ .vmem, ⟨0, _⟩ => ⟨S512x2048, .bf16⟩
  | .local _ .vmem, ⟨1, _⟩ => ⟨S512x2048, .bf16⟩
  | .local _ .vmem, ⟨2, _⟩ => ⟨S512x2048, .bf16⟩
  | .local _ .vmem, ⟨3, _⟩ => ⟨S512x2048, .bf16⟩
  | .local _ .vmem, ⟨4, _⟩ => ⟨S2048x1024, .bf16⟩
  | .local _ .vmem, ⟨5, _⟩ => ⟨S2048x1024, .bf16⟩
  | .local _ .vmem, ⟨6, _⟩ => ⟨S2048x1024, .bf16⟩
  | .local _ .vmem, ⟨7, _⟩ => ⟨S2048x1024, .bf16⟩
  | .local _ .vmem, ⟨8, _⟩ => ⟨S512x1024, .f32⟩
  | .local _ .vmem, ⟨9, _⟩ => ⟨S512x1024, .f32⟩
  | .local _ .vmem, ⟨10, _⟩ => ⟨S512x1024, .f32⟩
  | .local _ .vmem, ⟨11, _⟩ => ⟨S512x1024, .f32⟩
  | _, _ => ⟨S16384x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨2, ![4, 32], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let arg1 : BitVec 32 := BitVec.ofNat 32 (i 1).val
  let c1_i32 : BitVec 32 := 1#32
  let c0_i32 : BitVec 32 := 0#32
  ![c1_i32.toNat, arg0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S512x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S512x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S2048x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S2048x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]
-- ==== Reference3Ideal.lean ====
abbrev S16384x2048 : Shape := ⟨2, ![16384, 2048]⟩
abbrev S4096x4096 : Shape := ⟨2, ![4096, 4096]⟩
abbrev S16384x4096 : Shape := ⟨2, ![16384, 4096]⟩

abbrev nBuf : Space → Nat
  | .hbm => 9
  | .vmem => 0
  | .smem => 0
  | _ => 0

abbrev bufTy : (tb : Table) → Fin (tcTables nBuf tb) → BufTy
  | .hbm, ⟨0, _⟩ => ⟨S16384x2048, .bf16⟩
  | .hbm, ⟨1, _⟩ => ⟨S16384x2048, .bf16⟩
  | .hbm, ⟨2, _⟩ => ⟨S4096x4096, .f32⟩
  | .hbm, ⟨3, _⟩ => ⟨S16384x4096, .f32⟩
  | .hbm, ⟨4, _⟩ => ⟨S16384x2048, .f32⟩
  | .hbm, ⟨5, _⟩ => ⟨S16384x2048, .f32⟩
  | .hbm, ⟨6, _⟩ => ⟨S16384x4096, .f32⟩
  | .hbm, ⟨7, _⟩ => ⟨S16384x4096, .f32⟩
  | .hbm, ⟨8, _⟩ => ⟨S16384x4096, .f32⟩
  | _, _ => ⟨S16384x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩

abbrev nD : Nat := 1
abbrev τ : Topo := Topo.v7x

variable {F : FTy → Type} [FloatOps F]
-- ==== Kernel4.lean ====
abbrev S16384x12288 : Shape := ⟨2, ![16384, 12288]⟩
abbrev S4x512x512 : Shape := ⟨3, ![4, 512, 512]⟩
abbrev S2048 : Shape := ⟨1, ![2048]⟩
abbrev S1x2048 : Shape := ⟨2, ![1, 2048]⟩
abbrev S16384x2048 : Shape := ⟨2, ![16384, 2048]⟩
abbrev S512x2048 : Shape := ⟨2, ![512, 2048]⟩
abbrev S16x2048 : Shape := ⟨2, ![16, 2048]⟩
abbrev S528x2048 : Shape := ⟨2, ![528, 2048]⟩
abbrev S512x1 : Shape := ⟨2, ![512, 1]⟩
abbrev S528x512 : Shape := ⟨2, ![528, 512]⟩
abbrev S512x512 : Shape := ⟨2, ![512, 512]⟩
abbrev S1x512x512 : Shape := ⟨3, ![1, 512, 512]⟩
abbrev S1x512 : Shape := ⟨2, ![1, 512]⟩

abbrev nBuf : Space → Nat
  | .hbm => 6
  | .vmem => 11
  | .smem => 0
  | _ => 0

abbrev bufTy : (tb : Table) → Fin (tcTables nBuf tb) → BufTy
  | .hbm, ⟨0, _⟩ => ⟨S16384x12288, .bf16⟩
  | .hbm, ⟨1, _⟩ => ⟨S4x512x512, .f32⟩
  | .hbm, ⟨2, _⟩ => ⟨S2048, .f32⟩
  | .hbm, ⟨3, _⟩ => ⟨S4x512x512, .bf16⟩
  | .hbm, ⟨4, _⟩ => ⟨S1x2048, .f32⟩
  | .hbm, ⟨5, _⟩ => ⟨S16384x2048, .bf16⟩
  | .local _ .vmem, ⟨0, _⟩ => ⟨S512x2048, .bf16⟩
  | .local _ .vmem, ⟨1, _⟩ => ⟨S512x2048, .bf16⟩
  | .local _ .vmem, ⟨2, _⟩ => ⟨S16x2048, .bf16⟩
  | .local _ .vmem, ⟨3, _⟩ => ⟨S16x2048, .bf16⟩
  | .local _ .vmem, ⟨4, _⟩ => ⟨S512x2048, .bf16⟩
  | .local _ .vmem, ⟨5, _⟩ => ⟨S512x2048, .bf16⟩
  | .local _ .vmem, ⟨6, _⟩ => ⟨S4x512x512, .bf16⟩
  | .local _ .vmem, ⟨7, _⟩ => ⟨S1x2048, .f32⟩
  | .local _ .vmem, ⟨8, _⟩ => ⟨S512x2048, .bf16⟩
  | .local _ .vmem, ⟨9, _⟩ => ⟨S512x2048, .bf16⟩
  | .local _ .vmem, ⟨10, _⟩ => ⟨S528x2048, .f32⟩
  | _, _ => ⟨S16384x12288, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_scratch0 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨2, ![4, 8], ![false, false]⟩

def cc0_transform_0 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c3_i32 : BitVec 32 := 3#32
  let c0_i32 : BitVec 32 := 0#32
  ![v1.toNat, c3_i32.toNat]

def cc0_transform_1 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c32_i32 : BitVec 32 := 32#32
  let v2 : BitVec 32 := Scalar.muli v1 c32_i32
  let c1_i32 : BitVec 32 := 1#32
  let v3 : BitVec 32 := Scalar.subi v2 c1_i32
  let c0_i32 : BitVec 32 := 0#32
  let v4 : BitVec 32 := Scalar.maxsi v3 c0_i32
  let c3_i32 : BitVec 32 := 3#32
  let c0_i32_0 : BitVec 32 := 0#32
  ![v4.toNat, c3_i32.toNat]

def cc0_transform_2 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c5_i32 : BitVec 32 := 5#32
  let c0_i32 : BitVec 32 := 0#32
  ![v1.toNat, c5_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c0_i32 : BitVec 32 := 0#32
  let c0_i32_0 : BitVec 32 := 0#32
  ![v1.toNat, c0_i32.toNat]

abbrev stage0_0 : Fin 2 → Memref sig .tc .vmem S512x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S16x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S512x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 1 → Memref sig .tc .vmem S4x512x512 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1x2048 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 2 → Memref sig .tc .vmem S512x2048 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]
-- ==== Reference4Ideal.lean ====
abbrev S16384x12288 : Shape := ⟨2, ![16384, 12288]⟩
abbrev S4x512x512 : Shape := ⟨3, ![4, 512, 512]⟩
abbrev S2048 : Shape := ⟨1, ![2048]⟩
abbrev S4x4096x12288 : Shape := ⟨3, ![4, 4096, 12288]⟩
abbrev S4x4096x2048 : Shape := ⟨3, ![4, 4096, 2048]⟩
abbrev S_ : Shape := ⟨0, ![]⟩
abbrev S4x1x2048 : Shape := ⟨3, ![4, 1, 2048]⟩
abbrev S4x4097x2048 : Shape := ⟨3, ![4, 4097, 2048]⟩
abbrev S4096 : Shape := ⟨1, ![4096]⟩
abbrev S4x4097x512 : Shape := ⟨3, ![4, 4097, 512]⟩
abbrev S4x4096x512 : Shape := ⟨3, ![4, 4096, 512]⟩
abbrev S1x4096x1 : Shape := ⟨3, ![1, 4096, 1]⟩
abbrev S4x2x512 : Shape := ⟨3, ![4, 2, 512]⟩
abbrev S4x4094x512 : Shape := ⟨3, ![4, 4094, 512]⟩
abbrev S1x512x512 : Shape := ⟨3, ![1, 512, 512]⟩
abbrev S512x512 : Shape := ⟨2, ![512, 512]⟩
abbrev S4x4x512 : Shape := ⟨3, ![4, 4, 512]⟩
abbrev S4x4092x512 : Shape := ⟨3, ![4, 4092, 512]⟩
abbrev S4x8x512 : Shape := ⟨3, ![4, 8, 512]⟩
abbrev S4x4088x512 : Shape := ⟨3, ![4, 4088, 512]⟩
abbrev S4x16x512 : Shape := ⟨3, ![4, 16, 512]⟩
abbrev S4x4080x512 : Shape := ⟨3, ![4, 4080, 512]⟩
abbrev S1x1x2048 : Shape := ⟨3, ![1, 1, 2048]⟩
abbrev S16384x2048 : Shape := ⟨2, ![16384, 2048]⟩

abbrev nBuf : Space → Nat
  | .hbm => 118
  | .vmem => 0
  | .smem => 0
  | _ => 0

abbrev bufTy : (tb : Table) → Fin (tcTables nBuf tb) → BufTy
  | .hbm, ⟨0, _⟩ => ⟨S16384x12288, .bf16⟩
  | .hbm, ⟨1, _⟩ => ⟨S4x512x512, .f32⟩
  | .hbm, ⟨2, _⟩ => ⟨S2048, .f32⟩
  | .hbm, ⟨3, _⟩ => ⟨S16384x12288, .f32⟩
  | .hbm, ⟨4, _⟩ => ⟨S4x4096x12288, .f32⟩
  | .hbm, ⟨5, _⟩ => ⟨S4x4096x2048, .f32⟩
  | .hbm, ⟨6, _⟩ => ⟨S4x4096x2048, .f32⟩
  | .hbm, ⟨7, _⟩ => ⟨S_, .f32⟩
  | .hbm, ⟨8, _⟩ => ⟨S4x1x2048, .f32⟩
  | .hbm, ⟨9, _⟩ => ⟨S_, .f32⟩
  | .hbm, ⟨10, _⟩ => ⟨S_, .f32⟩
  | .hbm, ⟨11, _⟩ => ⟨S4x4096x2048, .f32⟩
  | .hbm, ⟨12, _⟩ => ⟨S4x4097x2048, .f32⟩
  | .hbm, ⟨13, _⟩ => ⟨S4096, .i32⟩
  | .hbm, ⟨14, _⟩ => ⟨S4x4097x512, .f32⟩
  | .hbm, ⟨15, _⟩ => ⟨S4x4096x512, .f32⟩
  | .hbm, ⟨16, _⟩ => ⟨S_, .i32⟩
  | .hbm, ⟨17, _⟩ => ⟨S4096, .i32⟩
  | .hbm, ⟨18, _⟩ => ⟨S4096, .i32⟩
  | .hbm, ⟨19, _⟩ => ⟨S_, .i32⟩
  | .hbm, ⟨20, _⟩ => ⟨S4096, .i32⟩
  | .hbm, ⟨21, _⟩ => ⟨S4096, .i32⟩
  | .hbm, ⟨22, _⟩ => ⟨S4096, .f32⟩
  | .hbm, ⟨23, _⟩ => ⟨S1x4096x1, .f32⟩
  | .hbm, ⟨24, _⟩ => ⟨S_, .f32⟩
  | .hbm, ⟨25, _⟩ => ⟨S4x2x512, .f32⟩
  | .hbm, ⟨26, _⟩ => ⟨S4x4094x512, .f32⟩
  | .hbm, ⟨27, _⟩ => ⟨S4x4096x512, .f32⟩
  | .hbm, ⟨28, _⟩ => ⟨S4x4096x512, .f32⟩
  | .hbm, ⟨29, _⟩ => ⟨S4x4096x512, .f32⟩
  | .hbm, ⟨30, _⟩ => ⟨S4x4096x512, .f32⟩
  | .hbm, ⟨31, _⟩ => ⟨S4x4096x512, .f32⟩
  | .hbm, ⟨32, _⟩ => ⟨S4x4096x512, .f32⟩
  | .hbm, ⟨33, _⟩ => ⟨S1x512x512, .f32⟩
  | .hbm, ⟨34, _⟩ => ⟨S512x512, .f32⟩
  | .hbm, ⟨35, _⟩ => ⟨S4x4096x512, .f32⟩
  | .hbm, ⟨36, _⟩ => ⟨S4x4097x512, .f32⟩
  | .hbm, ⟨37, _⟩ => ⟨S4x4096x512, .f32⟩
  | .hbm, ⟨38, _⟩ => ⟨S_, .i32⟩
  | .hbm, ⟨39, _⟩ => ⟨S4096, .i32⟩
  | .hbm, ⟨40, _⟩ => ⟨S4096, .i32⟩
  | .hbm, ⟨41, _⟩ => ⟨S_, .i32⟩
  | .hbm, ⟨42, _⟩ => ⟨S4096, .i32⟩
  | .hbm, ⟨43, _⟩ => ⟨S4096, .i32⟩
  | .hbm, ⟨44, _⟩ => ⟨S4096, .f32⟩
  | .hbm, ⟨45, _⟩ => ⟨S1x4096x1, .f32⟩
  | .hbm, ⟨46, _⟩ => ⟨S_, .f32⟩
  | .hbm, ⟨47, _⟩ => ⟨S4x4x512, .f32⟩
  | .hbm, ⟨48, _⟩ => ⟨S4x4092x512, .f32⟩
  | .hbm, ⟨49, _⟩ => ⟨S4x4096x512, .f32⟩
  | .hbm, ⟨50, _⟩ => ⟨S4x4096x512, .f32⟩
  | .hbm, ⟨51, _⟩ => ⟨S4x4096x512, .f32⟩
  | .hbm, ⟨52, _⟩ => ⟨S4x4096x512, .f32⟩
  | .hbm, ⟨53, _⟩ => ⟨S4x4096x512, .f32⟩
  | .hbm, ⟨54, _⟩ => ⟨S4x4096x512, .f32⟩
  | .hbm, ⟨55, _⟩ => ⟨S1x512x512, .f32⟩
  | .hbm, ⟨56, _⟩ => ⟨S512x512, .f32⟩
  | .hbm, ⟨57, _⟩ => ⟨S4x4096x512, .f32⟩
  | .hbm, ⟨58, _⟩ => ⟨S4x4097x512, .f32⟩
  | .hbm, ⟨59, _⟩ => ⟨S4x4096x512, .f32⟩
  | .hbm, ⟨60, _⟩ => ⟨S_, .i32⟩
  | .hbm, ⟨61, _⟩ => ⟨S4096, .i32⟩
  | .hbm, ⟨62, _⟩ => ⟨S4096, .i32⟩
  | .hbm, ⟨63, _⟩ => ⟨S_, .i32⟩
  | .hbm, ⟨64, _⟩ => ⟨S4096, .i32⟩
  | .hbm, ⟨65, _⟩ => ⟨S4096, .i32⟩
  | .hbm, ⟨66, _⟩ => ⟨S4096, .f32⟩
  | .hbm, ⟨67, _⟩ => ⟨S1x4096x1, .f32⟩
  | .hbm, ⟨68, _⟩ => ⟨S_, .f32⟩
  | .hbm, ⟨69, _⟩ => ⟨S4x8x512, .f32⟩
  | .hbm, ⟨70, _⟩ => ⟨S4x4088x512, .f32⟩
  | .hbm, ⟨71, _⟩ => ⟨S4x4096x512, .f32⟩
  | .hbm, ⟨72, _⟩ => ⟨S4x4096x512, .f32⟩
  | .hbm, ⟨73, _⟩ => ⟨S4x4096x512, .f32⟩
  | .hbm, ⟨74, _⟩ => ⟨S4x4096x512, .f32⟩
  | .hbm, ⟨75, _⟩ => ⟨S4x4096x512, .f32⟩
  | .hbm, ⟨76, _⟩ => ⟨S4x4096x512, .f32⟩
  | .hbm, ⟨77, _⟩ => ⟨S1x512x512, .f32⟩
  | .hbm, ⟨78, _⟩ => ⟨S512x512, .f32⟩
  | .hbm, ⟨79, _⟩ => ⟨S4x4096x512, .f32⟩
  | .hbm, ⟨80, _⟩ => ⟨S4x4097x512, .f32⟩
  | .hbm, ⟨81, _⟩ => ⟨S4x4096x512, .f32⟩
  | .hbm, ⟨82, _⟩ => ⟨S_, .i32⟩
  | .hbm, ⟨83, _⟩ => ⟨S4096, .i32⟩
  | .hbm, ⟨84, _⟩ => ⟨S4096, .i32⟩
  | .hbm, ⟨85, _⟩ => ⟨S_, .i32⟩
  | .hbm, ⟨86, _⟩ => ⟨S4096, .i32⟩
  | .hbm, ⟨87, _⟩ => ⟨S4096, .i32⟩
  | .hbm, ⟨88, _⟩ => ⟨S4096, .f32⟩
  | .hbm, ⟨89, _⟩ => ⟨S1x4096x1, .f32⟩
  | .hbm, ⟨90, _⟩ => ⟨S_, .f32⟩
  | .hbm, ⟨91, _⟩ => ⟨S4x16x512, .f32⟩
  | .hbm, ⟨92, _⟩ => ⟨S4x4080x512, .f32⟩
  | .hbm, ⟨93, _⟩ => ⟨S4x4096x512, .f32⟩
  | .hbm, ⟨94, _⟩ => ⟨S4x4096x512, .f32⟩
  | .hbm, ⟨95, _⟩ => ⟨S4x4096x512, .f32⟩
  | .hbm, ⟨96, _⟩ => ⟨S4x4096x512, .f32⟩
  | .hbm, ⟨97, _⟩ => ⟨S4x4096x512, .f32⟩
  | .hbm, ⟨98, _⟩ => ⟨S4x4096x512, .f32⟩
  | .hbm, ⟨99, _⟩ => ⟨S1x512x512, .f32⟩
  | .hbm, ⟨100, _⟩ => ⟨S512x512, .f32⟩
  | .hbm, ⟨101, _⟩ => ⟨S4x4096x512, .f32⟩
  | .hbm, ⟨102, _⟩ => ⟨S4x4096x2048, .f32⟩
  | .hbm, ⟨103, _⟩ => ⟨S1x1x2048, .f32⟩
  | .hbm, ⟨104, _⟩ => ⟨S4x4096x2048, .f32⟩
  | .hbm, ⟨105, _⟩ => ⟨S4x4096x2048, .f32⟩
  | .hbm, ⟨106, _⟩ => ⟨S4x4096x2048, .f32⟩
  | .hbm, ⟨107, _⟩ => ⟨S4x4096x2048, .f32⟩
  | .hbm, ⟨108, _⟩ => ⟨S_, .f32⟩
  | .hbm, ⟨109, _⟩ => ⟨S4x4096x2048, .f32⟩
  | .hbm, ⟨110, _⟩ => ⟨S4x4096x2048, .f32⟩
  | .hbm, ⟨111, _⟩ => ⟨S_, .f32⟩
  | .hbm, ⟨112, _⟩ => ⟨S4x4096x2048, .f32⟩
  | .hbm, ⟨113, _⟩ => ⟨S4x4096x2048, .f32⟩
  | .hbm, ⟨114, _⟩ => ⟨S4x4096x2048, .f32⟩
  | .hbm, ⟨115, _⟩ => ⟨S4x4096x2048, .f32⟩
  | .hbm, ⟨116, _⟩ => ⟨S4x4096x2048, .bf16⟩
  | .hbm, ⟨117, _⟩ => ⟨S16384x2048, .bf16⟩
  | _, _ => ⟨S16384x12288, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_cst : Ref sig .tc := ⟨.hbm, 7, rfl⟩
abbrev main_v4 : Ref sig .tc := ⟨.hbm, 8, rfl⟩
abbrev main_call0_call0_cst : Ref sig .tc := ⟨.hbm, 9, rfl⟩
abbrev main_call0_call0_v0 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_c : Ref sig .tc := ⟨.hbm, 16, rfl⟩
abbrev main_v10 : Ref sig .tc := ⟨.hbm, 17, rfl⟩
abbrev main_v11 : Ref sig .tc := ⟨.hbm, 18, rfl⟩
abbrev main_c_0 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_cst_1 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_c_2 : Ref sig .tc := ⟨.hbm, 38, rfl⟩
abbrev main_v29 : Ref sig .tc := ⟨.hbm, 39, rfl⟩
abbrev main_v30 : Ref sig .tc := ⟨.hbm, 40, rfl⟩
abbrev main_c_3 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩
abbrev main_cst_4 : Ref sig .tc := ⟨.hbm, 46, rfl⟩
abbrev main_v35 : Ref sig .tc := ⟨.hbm, 47, rfl⟩
abbrev main_v36 : Ref sig .tc := ⟨.hbm, 48, rfl⟩
abbrev main_v37 : Ref sig .tc := ⟨.hbm, 49, rfl⟩
abbrev main_v38 : Ref sig .tc := ⟨.hbm, 50, rfl⟩
abbrev main_v39 : Ref sig .tc := ⟨.hbm, 51, rfl⟩
abbrev main_v40 : Ref sig .tc := ⟨.hbm, 52, rfl⟩
abbrev main_v41 : Ref sig .tc := ⟨.hbm, 53, rfl⟩
abbrev main_v42 : Ref sig .tc := ⟨.hbm, 54, rfl⟩
abbrev main_v43 : Ref sig .tc := ⟨.hbm, 55, rfl⟩
abbrev main_v44 : Ref sig .tc := ⟨.hbm, 56, rfl⟩
abbrev main_v45 : Ref sig .tc := ⟨.hbm, 57, rfl⟩
abbrev main_v46 : Ref sig .tc := ⟨.hbm, 58, rfl⟩
abbrev main_v47 : Ref sig .tc := ⟨.hbm, 59, rfl⟩
abbrev main_c_5 : Ref sig .tc := ⟨.hbm, 60, rfl⟩
abbrev main_v48 : Ref sig .tc := ⟨.hbm, 61, rfl⟩
abbrev main_v49 : Ref sig .tc := ⟨.hbm, 62, rfl⟩
abbrev main_c_6 : Ref sig .tc := ⟨.hbm, 63, rfl⟩
abbrev main_v50 : Ref sig .tc := ⟨.hbm, 64, rfl⟩
abbrev main_v51 : Ref sig .tc := ⟨.hbm, 65, rfl⟩
abbrev main_v52 : Ref sig .tc := ⟨.hbm, 66, rfl⟩
abbrev main_v53 : Ref sig .tc := ⟨.hbm, 67, rfl⟩
abbrev main_cst_7 : Ref sig .tc := ⟨.hbm, 68, rfl⟩
abbrev main_v54 : Ref sig .tc := ⟨.hbm, 69, rfl⟩
abbrev main_v55 : Ref sig .tc := ⟨.hbm, 70, rfl⟩
abbrev main_v56 : Ref sig .tc := ⟨.hbm, 71, rfl⟩
abbrev main_v57 : Ref sig .tc := ⟨.hbm, 72, rfl⟩
abbrev main_v58 : Ref sig .tc := ⟨.hbm, 73, rfl⟩
abbrev main_v59 : Ref sig .tc := ⟨.hbm, 74, rfl⟩
abbrev main_v60 : Ref sig .tc := ⟨.hbm, 75, rfl⟩
abbrev main_v61 : Ref sig .tc := ⟨.hbm, 76, rfl⟩
abbrev main_v62 : Ref sig .tc := ⟨.hbm, 77, rfl⟩
abbrev main_v63 : Ref sig .tc := ⟨.hbm, 78, rfl⟩
abbrev main_v64 : Ref sig .tc := ⟨.hbm, 79, rfl⟩
abbrev main_v65 : Ref sig .tc := ⟨.hbm, 80, rfl⟩
abbrev main_v66 : Ref sig .tc := ⟨.hbm, 81, rfl⟩
abbrev main_c_8 : Ref sig .tc := ⟨.hbm, 82, rfl⟩
abbrev main_v67 : Ref sig .tc := ⟨.hbm, 83, rfl⟩
abbrev main_v68 : Ref sig .tc := ⟨.hbm, 84, rfl⟩
abbrev main_c_9 : Ref sig .tc := ⟨.hbm, 85, rfl⟩
abbrev main_v69 : Ref sig .tc := ⟨.hbm, 86, rfl⟩
abbrev main_v70 : Ref sig .tc := ⟨.hbm, 87, rfl⟩
abbrev main_v71 : Ref sig .tc := ⟨.hbm, 88, rfl⟩
abbrev main_v72 : Ref sig .tc := ⟨.hbm, 89, rfl⟩
abbrev main_cst_10 : Ref sig .tc := ⟨.hbm, 90, rfl⟩
abbrev main_v73 : Ref sig .tc := ⟨.hbm, 91, rfl⟩
abbrev main_v74 : Ref sig .tc := ⟨.hbm, 92, rfl⟩
abbrev main_v75 : Ref sig .tc := ⟨.hbm, 93, rfl⟩
abbrev main_v76 : Ref sig .tc := ⟨.hbm, 94, rfl⟩
abbrev main_v77 : Ref sig .tc := ⟨.hbm, 95, rfl⟩
abbrev main_v78 : Ref sig .tc := ⟨.hbm, 96, rfl⟩
abbrev main_v79 : Ref sig .tc := ⟨.hbm, 97, rfl⟩
abbrev main_v80 : Ref sig .tc := ⟨.hbm, 98, rfl⟩
abbrev main_v81 : Ref sig .tc := ⟨.hbm, 99, rfl⟩
abbrev main_v82 : Ref sig .tc := ⟨.hbm, 100, rfl⟩
abbrev main_v83 : Ref sig .tc := ⟨.hbm, 101, rfl⟩
abbrev main_v84 : Ref sig .tc := ⟨.hbm, 102, rfl⟩
abbrev main_v85 : Ref sig .tc := ⟨.hbm, 103, rfl⟩
abbrev main_v86 : Ref sig .tc := ⟨.hbm, 104, rfl⟩
abbrev main_v87 : Ref sig .tc := ⟨.hbm, 105, rfl⟩
abbrev main_call1_v0 : Ref sig .tc := ⟨.hbm, 106, rfl⟩
abbrev main_call1_v1 : Ref sig .tc := ⟨.hbm, 107, rfl⟩
abbrev main_call1_cst : Ref sig .tc := ⟨.hbm, 108, rfl⟩
abbrev main_call1_v2 : Ref sig .tc := ⟨.hbm, 109, rfl⟩
abbrev main_call1_v3 : Ref sig .tc := ⟨.hbm, 110, rfl⟩
abbrev main_call1_cst_0 : Ref sig .tc := ⟨.hbm, 111, rfl⟩
abbrev main_call1_v4 : Ref sig .tc := ⟨.hbm, 112, rfl⟩
abbrev main_call1_v5 : Ref sig .tc := ⟨.hbm, 113, rfl⟩
abbrev main_v88 : Ref sig .tc := ⟨.hbm, 114, rfl⟩
abbrev main_v89 : Ref sig .tc := ⟨.hbm, 115, rfl⟩
abbrev main_v90 : Ref sig .tc := ⟨.hbm, 116, rfl⟩
abbrev main_v91 : Ref sig .tc := ⟨.hbm, 117, rfl⟩

abbrev nD : Nat := 1
abbrev τ : Topo := Topo.v7x

variable {F : FTy → Type} [FloatOps F]
-- ==== Kernel5.lean ====
abbrev S16384x128 : Shape := ⟨2, ![16384, 128]⟩
abbrev S16 : Shape := ⟨1, ![16]⟩
abbrev S_ : Shape := ⟨0, ![]⟩
abbrev S128 : Shape := ⟨1, ![128]⟩
abbrev S1x128 : Shape := ⟨2, ![1, 128]⟩
abbrev S512x4096 : Shape := ⟨2, ![512, 4096]⟩
abbrev S4096x128 : Shape := ⟨2, ![4096, 128]⟩
abbrev S128x4096 : Shape := ⟨2, ![128, 4096]⟩
abbrev S128x384 : Shape := ⟨2, ![128, 384]⟩
abbrev S128x128 : Shape := ⟨2, ![128, 128]⟩
abbrev S384x128 : Shape := ⟨2, ![384, 128]⟩

abbrev nBuf : Space → Nat
  | .hbm => 8
  | .vmem => 7
  | .smem => 0
  | _ => 0

abbrev bufTy : (tb : Table) → Fin (tcTables nBuf tb) → BufTy
  | .hbm, ⟨0, _⟩ => ⟨S16384x128, .f32⟩
  | .hbm, ⟨1, _⟩ => ⟨S16, .f32⟩
  | .hbm, ⟨2, _⟩ => ⟨S_, .i32⟩
  | .hbm, ⟨3, _⟩ => ⟨S_, .f32⟩
  | .hbm, ⟨4, _⟩ => ⟨S128, .f32⟩
  | .hbm, ⟨5, _⟩ => ⟨S1x128, .f32⟩
  | .hbm, ⟨6, _⟩ => ⟨S16384x128, .f32⟩
  | .hbm, ⟨7, _⟩ => ⟨S512x4096, .f32⟩
  | .local _ .vmem, ⟨0, _⟩ => ⟨S4096x128, .f32⟩
  | .local _ .vmem, ⟨1, _⟩ => ⟨S4096x128, .f32⟩
  | .local _ .vmem, ⟨2, _⟩ => ⟨S1x128, .f32⟩
  | .local _ .vmem, ⟨3, _⟩ => ⟨S4096x128, .f32⟩
  | .local _ .vmem, ⟨4, _⟩ => ⟨S4096x128, .f32⟩
  | .local _ .vmem, ⟨5, _⟩ => ⟨S128x4096, .f32⟩
  | .local _ .vmem, ⟨6, _⟩ => ⟨S128x4096, .f32⟩
  | _, _ => ⟨S16384x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_c : Ref sig .tc := ⟨.hbm, 2, rfl⟩
abbrev main_call0_v0 : Ref sig .tc := ⟨.hbm, 3, rfl⟩
abbrev main_v0 : Ref sig .tc := ⟨.hbm, 4, rfl⟩
abbrev main_v1 : Ref sig .tc := ⟨.hbm, 5, rfl⟩
abbrev main_v2_0 : Ref sig .tc := ⟨.hbm, 6, rfl⟩
abbrev main_v2_1 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S4096x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S4096x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S128x4096 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== Reference5Ideal.lean ====
abbrev S16384x128 : Shape := ⟨2, ![16384, 128]⟩
abbrev S16 : Shape := ⟨1, ![16]⟩
abbrev S_ : Shape := ⟨0, ![]⟩
abbrev S128 : Shape := ⟨1, ![128]⟩
abbrev S4x4096x128 : Shape := ⟨3, ![4, 4096, 128]⟩
abbrev S1x1x128 : Shape := ⟨3, ![1, 1, 128]⟩
abbrev S4x128x4096 : Shape := ⟨3, ![4, 128, 4096]⟩
abbrev S512x4096 : Shape := ⟨2, ![512, 4096]⟩

abbrev nBuf : Space → Nat
  | .hbm => 34
  | .vmem => 0
  | .smem => 0
  | _ => 0

abbrev bufTy : (tb : Table) → Fin (tcTables nBuf tb) → BufTy
  | .hbm, ⟨0, _⟩ => ⟨S16384x128, .f32⟩
  | .hbm, ⟨1, _⟩ => ⟨S16, .f32⟩
  | .hbm, ⟨2, _⟩ => ⟨S_, .i32⟩
  | .hbm, ⟨3, _⟩ => ⟨S_, .f32⟩
  | .hbm, ⟨4, _⟩ => ⟨S128, .f32⟩
  | .hbm, ⟨5, _⟩ => ⟨S4x4096x128, .f32⟩
  | .hbm, ⟨6, _⟩ => ⟨S1x1x128, .f32⟩
  | .hbm, ⟨7, _⟩ => ⟨S4x4096x128, .f32⟩
  | .hbm, ⟨8, _⟩ => ⟨S4x4096x128, .f32⟩
  | .hbm, ⟨9, _⟩ => ⟨S4x4096x128, .f32⟩
  | .hbm, ⟨10, _⟩ => ⟨S_, .f32⟩
  | .hbm, ⟨11, _⟩ => ⟨S4x4096x128, .f32⟩
  | .hbm, ⟨12, _⟩ => ⟨S4x4096x128, .f32⟩
  | .hbm, ⟨13, _⟩ => ⟨S4x4096x128, .f32⟩
  | .hbm, ⟨14, _⟩ => ⟨S4x4096x128, .f32⟩
  | .hbm, ⟨15, _⟩ => ⟨S4x4096x128, .i1⟩
  | .hbm, ⟨16, _⟩ => ⟨S4x4096x128, .f32⟩
  | .hbm, ⟨17, _⟩ => ⟨S4x4096x128, .f32⟩
  | .hbm, ⟨18, _⟩ => ⟨S4x4096x128, .f32⟩
  | .hbm, ⟨19, _⟩ => ⟨S4x4096x128, .f32⟩
  | .hbm, ⟨20, _⟩ => ⟨S4x4096x128, .f32⟩
  | .hbm, ⟨21, _⟩ => ⟨S4x4096x128, .f32⟩
  | .hbm, ⟨22, _⟩ => ⟨S4x4096x128, .f32⟩
  | .hbm, ⟨23, _⟩ => ⟨S4x4096x128, .f32⟩
  | .hbm, ⟨24, _⟩ => ⟨S4x4096x128, .f32⟩
  | .hbm, ⟨25, _⟩ => ⟨S_, .f32⟩
  | .hbm, ⟨26, _⟩ => ⟨S_, .f32⟩
  | .hbm, ⟨27, _⟩ => ⟨S4x4096x128, .f32⟩
  | .hbm, ⟨28, _⟩ => ⟨S_, .f32⟩
  | .hbm, ⟨29, _⟩ => ⟨S4x4096x128, .f32⟩
  | .hbm, ⟨30, _⟩ => ⟨S4x4096x128, .f32⟩
  | .hbm, ⟨31, _⟩ => ⟨S16384x128, .f32⟩
  | .hbm, ⟨32, _⟩ => ⟨S4x128x4096, .f32⟩
  | .hbm, ⟨33, _⟩ => ⟨S512x4096, .f32⟩
  | _, _ => ⟨S16384x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_c : Ref sig .tc := ⟨.hbm, 2, rfl⟩
abbrev main_call0_v0 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_call1_v0 : Ref sig .tc := ⟨.hbm, 9, rfl⟩
abbrev main_call1_call0_cst : Ref sig .tc := ⟨.hbm, 10, rfl⟩
abbrev main_call1_call0_v0 : Ref sig .tc := ⟨.hbm, 11, rfl⟩
abbrev main_call1_call0_v1 : Ref sig .tc := ⟨.hbm, 12, rfl⟩
abbrev main_call1_call0_v2 : Ref sig .tc := ⟨.hbm, 13, rfl⟩
abbrev main_call1_call0_v3 : Ref sig .tc := ⟨.hbm, 14, rfl⟩
abbrev main_call1_call0_v4 : Ref sig .tc := ⟨.hbm, 15, rfl⟩
abbrev main_call1_call0_v5 : Ref sig .tc := ⟨.hbm, 16, rfl⟩
abbrev main_call1_call0_v6 : Ref sig .tc := ⟨.hbm, 17, rfl⟩
abbrev main_call1_call0_v7 : Ref sig .tc := ⟨.hbm, 18, rfl⟩
abbrev main_call1_call0_v8 : Ref sig .tc := ⟨.hbm, 19, rfl⟩
abbrev main_call1_call0_v9 : Ref sig .tc := ⟨.hbm, 20, rfl⟩
abbrev main_call1_call0_v10 : Ref sig .tc := ⟨.hbm, 21, rfl⟩
abbrev main_call1_call0_v11 : Ref sig .tc := ⟨.hbm, 22, rfl⟩
abbrev main_call1_v1 : Ref sig .tc := ⟨.hbm, 23, rfl⟩
abbrev main_v5 : Ref sig .tc := ⟨.hbm, 24, rfl⟩
abbrev main_call2_call0_cst : Ref sig .tc := ⟨.hbm, 25, rfl⟩
abbrev main_call2_call0_v0 : Ref sig .tc := ⟨.hbm, 26, rfl⟩
abbrev main_v6 : Ref sig .tc := ⟨.hbm, 27, rfl⟩
abbrev main_cst : Ref sig .tc := ⟨.hbm, 28, rfl⟩
abbrev main_v7 : Ref sig .tc := ⟨.hbm, 29, rfl⟩
abbrev main_v8 : Ref sig .tc := ⟨.hbm, 30, rfl⟩
abbrev main_v9 : Ref sig .tc := ⟨.hbm, 31, rfl⟩
abbrev main_v10 : Ref sig .tc := ⟨.hbm, 32, rfl⟩
abbrev main_v11 : Ref sig .tc := ⟨.hbm, 33, rfl⟩

abbrev nD : Nat := 1
abbrev τ : Topo := Topo.v7x

variable {F : FTy → Type} [FloatOps F]
-- ==== Kernel6.lean ====
abbrev S16384x10240 : Shape := ⟨2, ![16384, 10240]⟩
abbrev S4096x128 : Shape := ⟨2, ![4096, 128]⟩
abbrev S2048 : Shape := ⟨1, ![2048]⟩
abbrev S1x2048 : Shape := ⟨2, ![1, 2048]⟩
abbrev S16384x2048 : Shape := ⟨2, ![16384, 2048]⟩
abbrev S256x512 : Shape := ⟨2, ![256, 512]⟩
abbrev S256x128 : Shape := ⟨2, ![256, 128]⟩
abbrev S1x512 : Shape := ⟨2, ![1, 512]⟩
abbrev S256x256 : Shape := ⟨2, ![256, 256]⟩
abbrev S256x1 : Shape := ⟨2, ![256, 1]⟩
abbrev S1x1 : Shape := ⟨2, ![1, 1]⟩
abbrev S256 : Shape := ⟨1, ![256]⟩
abbrev S1x256 : Shape := ⟨2, ![1, 256]⟩

abbrev nBuf : Space → Nat
  | .hbm => 6
  | .vmem => 20
  | .smem => 0
  | _ => 0

abbrev bufTy : (tb : Table) → Fin (tcTables nBuf tb) → BufTy
  | .hbm, ⟨0, _⟩ => ⟨S16384x10240, .bf16⟩
  | .hbm, ⟨1, _⟩ => ⟨S4096x128, .f32⟩
  | .hbm, ⟨2, _⟩ => ⟨S4096x128, .f32⟩
  | .hbm, ⟨3, _⟩ => ⟨S2048, .f32⟩
  | .hbm, ⟨4, _⟩ => ⟨S1x2048, .f32⟩
  | .hbm, ⟨5, _⟩ => ⟨S16384x2048, .bf16⟩
  | .local _ .vmem, ⟨0, _⟩ => ⟨S256x512, .bf16⟩
  | .local _ .vmem, ⟨1, _⟩ => ⟨S256x512, .bf16⟩
  | .local _ .vmem, ⟨2, _⟩ => ⟨S256x512, .bf16⟩
  | .local _ .vmem, ⟨3, _⟩ => ⟨S256x512, .bf16⟩
  | .local _ .vmem, ⟨4, _⟩ => ⟨S256x512, .bf16⟩
  | .local _ .vmem, ⟨5, _⟩ => ⟨S256x512, .bf16⟩
  | .local _ .vmem, ⟨6, _⟩ => ⟨S256x128, .f32⟩
  | .local _ .vmem, ⟨7, _⟩ => ⟨S256x128, .f32⟩
  | .local _ .vmem, ⟨8, _⟩ => ⟨S256x128, .f32⟩
  | .local _ .vmem, ⟨9, _⟩ => ⟨S256x128, .f32⟩
  | .local _ .vmem, ⟨10, _⟩ => ⟨S256x512, .bf16⟩
  | .local _ .vmem, ⟨11, _⟩ => ⟨S256x512, .bf16⟩
  | .local _ .vmem, ⟨12, _⟩ => ⟨S1x512, .f32⟩
  | .local _ .vmem, ⟨13, _⟩ => ⟨S1x512, .f32⟩
  | .local _ .vmem, ⟨14, _⟩ => ⟨S256x512, .bf16⟩
  | .local _ .vmem, ⟨15, _⟩ => ⟨S256x512, .bf16⟩
  | .local _ .vmem, ⟨16, _⟩ => ⟨S256x256, .f32⟩
  | .local _ .vmem, ⟨17, _⟩ => ⟨S256x256, .f32⟩
  | .local _ .vmem, ⟨18, _⟩ => ⟨S256x256, .f32⟩
  | .local _ .vmem, ⟨19, _⟩ => ⟨S256x256, .f32⟩
  | _, _ => ⟨S16384x10240, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_scratch0 : Ref sig .tc := ⟨.vmem, 16, rfl⟩
abbrev cc0_scratch1 : Ref sig .tc := ⟨.vmem, 17, rfl⟩
abbrev cc0_scratch2 : Ref sig .tc := ⟨.vmem, 18, rfl⟩
abbrev cc0_scratch3 : Ref sig .tc := ⟨.vmem, 19, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨3, ![4, 4, 16], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c16_i32 : BitVec 32 := 16#32
  let v0 : BitVec 32 := Scalar.muli arg0 c16_i32
  let v1 : BitVec 32 := Scalar.addi v0 arg2
  let c0_i32 : BitVec 32 := 0#32
  let v2 : BitVec 32 := Scalar.addi c0_i32 arg1
  let c0_i32_0 : BitVec 32 := 0#32
  ![v1.toNat, v2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c16_i32 : BitVec 32 := 16#32
  let v0 : BitVec 32 := Scalar.muli arg0 c16_i32
  let v1 : BitVec 32 := Scalar.addi v0 arg2
  let c4_i32 : BitVec 32 := 4#32
  let v2 : BitVec 32 := Scalar.addi c4_i32 arg1
  let c0_i32 : BitVec 32 := 0#32
  ![v1.toNat, v2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c16_i32 : BitVec 32 := 16#32
  let v0 : BitVec 32 := Scalar.muli arg0 c16_i32
  let v1 : BitVec 32 := Scalar.addi v0 arg2
  let c8_i32 : BitVec 32 := 8#32
  let v2 : BitVec 32 := Scalar.addi c8_i32 arg1
  let c0_i32 : BitVec 32 := 0#32
  ![v1.toNat, v2.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg2.toNat, c0_i32.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg2.toNat, c0_i32.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c16_i32 : BitVec 32 := 16#32
  let v0 : BitVec 32 := Scalar.muli arg0 c16_i32
  let v1 : BitVec 32 := Scalar.addi v0 arg2
  let c16_i32_0 : BitVec 32 := 16#32
  let v2 : BitVec 32 := Scalar.addi c16_i32_0 arg1
  let c0_i32 : BitVec 32 := 0#32
  ![v1.toNat, v2.toNat]

def cc0_transform_6 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc0_transform_7 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c16_i32 : BitVec 32 := 16#32
  let v0 : BitVec 32 := Scalar.muli arg0 c16_i32
  let v1 : BitVec 32 := Scalar.addi v0 arg2
  let c0_i32 : BitVec 32 := 0#32
  ![v1.toNat, arg1.toNat]

abbrev stage0_0 : Fin 2 → Memref sig .tc .vmem S256x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S256x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, true]

abbrev stage0_2 : Fin 2 → Memref sig .tc .vmem S256x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, true]

abbrev stage0_3 : Fin 2 → Memref sig .tc .vmem S256x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, false, true]

abbrev stage0_4 : Fin 2 → Memref sig .tc .vmem S256x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, false, true]

abbrev stage0_5 : Fin 2 → Memref sig .tc .vmem S256x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, true]

abbrev stage0_6 : Fin 2 → Memref sig .tc .vmem S1x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![false, true, false]

abbrev stage0_7 : Fin 2 → Memref sig .tc .vmem S256x512 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true, true]
-- ==== Reference6Ideal.lean ====
abbrev S16384x10240 : Shape := ⟨2, ![16384, 10240]⟩
abbrev S4096x128 : Shape := ⟨2, ![4096, 128]⟩
abbrev S2048 : Shape := ⟨1, ![2048]⟩
abbrev S4x4096x10240 : Shape := ⟨3, ![4, 4096, 10240]⟩
abbrev S4x4096x2048 : Shape := ⟨3, ![4, 4096, 2048]⟩
abbrev S4x4096x8x256 : Shape := ⟨4, ![4, 4096, 8, 256]⟩
abbrev S4x8x4096x256 : Shape := ⟨4, ![4, 8, 4096, 256]⟩
abbrev S4x8x4096x128 : Shape := ⟨4, ![4, 8, 4096, 128]⟩
abbrev S1x1x4096x128 : Shape := ⟨4, ![1, 1, 4096, 128]⟩
abbrev S_ : Shape := ⟨0, ![]⟩
abbrev S8 : Shape := ⟨1, ![8]⟩
abbrev S4096 : Shape := ⟨1, ![4096]⟩
abbrev S64 : Shape := ⟨1, ![64]⟩
abbrev S64x1 : Shape := ⟨2, ![64, 1]⟩
abbrev S64x64 : Shape := ⟨2, ![64, 64]⟩
abbrev S1x4096 : Shape := ⟨2, ![1, 4096]⟩
abbrev S4096x1 : Shape := ⟨2, ![4096, 1]⟩
abbrev S4096x4096 : Shape := ⟨2, ![4096, 4096]⟩
abbrev S8x1x1 : Shape := ⟨3, ![8, 1, 1]⟩
abbrev S1x4096x4096 : Shape := ⟨3, ![1, 4096, 4096]⟩
abbrev S8x4096x4096 : Shape := ⟨3, ![8, 4096, 4096]⟩
abbrev S4x8x4096x4096 : Shape := ⟨4, ![4, 8, 4096, 4096]⟩
abbrev S1x8x4096x4096 : Shape := ⟨4, ![1, 8, 4096, 4096]⟩
abbrev S4x8x4096 : Shape := ⟨3, ![4, 8, 4096]⟩
abbrev S4x8x4096x1 : Shape := ⟨4, ![4, 8, 4096, 1]⟩
abbrev S1x1x2048 : Shape := ⟨3, ![1, 1, 2048]⟩
abbrev S16384x2048 : Shape := ⟨2, ![16384, 2048]⟩

abbrev nBuf : Space → Nat
  | .hbm => 126
  | .vmem => 0
  | .smem => 0
  | _ => 0

abbrev bufTy : (tb : Table) → Fin (tcTables nBuf tb) → BufTy
  | .hbm, ⟨0, _⟩ => ⟨S16384x10240, .bf16⟩
  | .hbm, ⟨1, _⟩ => ⟨S4096x128, .f32⟩
  | .hbm, ⟨2, _⟩ => ⟨S4096x128, .f32⟩
  | .hbm, ⟨3, _⟩ => ⟨S2048, .f32⟩
  | .hbm, ⟨4, _⟩ => ⟨S16384x10240, .f32⟩
  | .hbm, ⟨5, _⟩ => ⟨S4x4096x10240, .f32⟩
  | .hbm, ⟨6, _⟩ => ⟨S4x4096x2048, .f32⟩
  | .hbm, ⟨7, _⟩ => ⟨S4x4096x8x256, .f32⟩
  | .hbm, ⟨8, _⟩ => ⟨S4x8x4096x256, .f32⟩
  | .hbm, ⟨9, _⟩ => ⟨S4x8x4096x128, .f32⟩
  | .hbm, ⟨10, _⟩ => ⟨S4x8x4096x128, .f32⟩
  | .hbm, ⟨11, _⟩ => ⟨S1x1x4096x128, .f32⟩
  | .hbm, ⟨12, _⟩ => ⟨S4x8x4096x128, .f32⟩
  | .hbm, ⟨13, _⟩ => ⟨S4x8x4096x128, .f32⟩
  | .hbm, ⟨14, _⟩ => ⟨S1x1x4096x128, .f32⟩
  | .hbm, ⟨15, _⟩ => ⟨S4x8x4096x128, .f32⟩
  | .hbm, ⟨16, _⟩ => ⟨S4x8x4096x128, .f32⟩
  | .hbm, ⟨17, _⟩ => ⟨S4x8x4096x128, .f32⟩
  | .hbm, ⟨18, _⟩ => ⟨S1x1x4096x128, .f32⟩
  | .hbm, ⟨19, _⟩ => ⟨S4x8x4096x128, .f32⟩
  | .hbm, ⟨20, _⟩ => ⟨S4x8x4096x128, .f32⟩
  | .hbm, ⟨21, _⟩ => ⟨S1x1x4096x128, .f32⟩
  | .hbm, ⟨22, _⟩ => ⟨S4x8x4096x128, .f32⟩
  | .hbm, ⟨23, _⟩ => ⟨S4x8x4096x128, .f32⟩
  | .hbm, ⟨24, _⟩ => ⟨S4x8x4096x128, .f32⟩
  | .hbm, ⟨25, _⟩ => ⟨S4x8x4096x256, .f32⟩
  | .hbm, ⟨26, _⟩ => ⟨S4x4096x2048, .f32⟩
  | .hbm, ⟨27, _⟩ => ⟨S4x4096x8x256, .f32⟩
  | .hbm, ⟨28, _⟩ => ⟨S4x8x4096x256, .f32⟩
  | .hbm, ⟨29, _⟩ => ⟨S4x8x4096x128, .f32⟩
  | .hbm, ⟨30, _⟩ => ⟨S4x8x4096x128, .f32⟩
  | .hbm, ⟨31, _⟩ => ⟨S1x1x4096x128, .f32⟩
  | .hbm, ⟨32, _⟩ => ⟨S4x8x4096x128, .f32⟩
  | .hbm, ⟨33, _⟩ => ⟨S4x8x4096x128, .f32⟩
  | .hbm, ⟨34, _⟩ => ⟨S1x1x4096x128, .f32⟩
  | .hbm, ⟨35, _⟩ => ⟨S4x8x4096x128, .f32⟩
  | .hbm, ⟨36, _⟩ => ⟨S4x8x4096x128, .f32⟩
  | .hbm, ⟨37, _⟩ => ⟨S4x8x4096x128, .f32⟩
  | .hbm, ⟨38, _⟩ => ⟨S1x1x4096x128, .f32⟩
  | .hbm, ⟨39, _⟩ => ⟨S4x8x4096x128, .f32⟩
  | .hbm, ⟨40, _⟩ => ⟨S4x8x4096x128, .f32⟩
  | .hbm, ⟨41, _⟩ => ⟨S1x1x4096x128, .f32⟩
  | .hbm, ⟨42, _⟩ => ⟨S4x8x4096x128, .f32⟩
  | .hbm, ⟨43, _⟩ => ⟨S4x8x4096x128, .f32⟩
  | .hbm, ⟨44, _⟩ => ⟨S4x8x4096x128, .f32⟩
  | .hbm, ⟨45, _⟩ => ⟨S4x8x4096x256, .f32⟩
  | .hbm, ⟨46, _⟩ => ⟨S_, .f32⟩
  | .hbm, ⟨47, _⟩ => ⟨S4x8x4096x256, .f32⟩
  | .hbm, ⟨48, _⟩ => ⟨S4x8x4096x256, .f32⟩
  | .hbm, ⟨49, _⟩ => ⟨S4x4096x2048, .f32⟩
  | .hbm, ⟨50, _⟩ => ⟨S4x4096x8x256, .f32⟩
  | .hbm, ⟨51, _⟩ => ⟨S4x8x4096x256, .f32⟩
  | .hbm, ⟨52, _⟩ => ⟨S4x4096x2048, .f32⟩
  | .hbm, ⟨53, _⟩ => ⟨S8, .f32⟩
  | .hbm, ⟨54, _⟩ => ⟨S_, .f32⟩
  | .hbm, ⟨55, _⟩ => ⟨S8, .f32⟩
  | .hbm, ⟨56, _⟩ => ⟨S8, .f32⟩
  | .hbm, ⟨57, _⟩ => ⟨S_, .f32⟩
  | .hbm, ⟨58, _⟩ => ⟨S8, .f32⟩
  | .hbm, ⟨59, _⟩ => ⟨S8, .f32⟩
  | .hbm, ⟨60, _⟩ => ⟨S_, .f32⟩
  | .hbm, ⟨61, _⟩ => ⟨S8, .f32⟩
  | .hbm, ⟨62, _⟩ => ⟨S8, .f32⟩
  | .hbm, ⟨63, _⟩ => ⟨S8, .f32⟩
  | .hbm, ⟨64, _⟩ => ⟨S4096, .f32⟩
  | .hbm, ⟨65, _⟩ => ⟨S64, .i32⟩
  | .hbm, ⟨66, _⟩ => ⟨S64x1, .i32⟩
  | .hbm, ⟨67, _⟩ => ⟨S64x64, .i32⟩
  | .hbm, ⟨68, _⟩ => ⟨S4096, .i32⟩
  | .hbm, ⟨69, _⟩ => ⟨S1x4096, .i32⟩
  | .hbm, ⟨70, _⟩ => ⟨S4096x1, .i32⟩
  | .hbm, ⟨71, _⟩ => ⟨S4096x4096, .i32⟩
  | .hbm, ⟨72, _⟩ => ⟨S4096x4096, .i32⟩
  | .hbm, ⟨73, _⟩ => ⟨S4096x4096, .i1⟩
  | .hbm, ⟨74, _⟩ => ⟨S8x1x1, .f32⟩
  | .hbm, ⟨75, _⟩ => ⟨S4096x1, .f32⟩
  | .hbm, ⟨76, _⟩ => ⟨S1x4096, .f32⟩
  | .hbm, ⟨77, _⟩ => ⟨S4096x4096, .f32⟩
  | .hbm, ⟨78, _⟩ => ⟨S4096x4096, .f32⟩
  | .hbm, ⟨79, _⟩ => ⟨S4096x4096, .f32⟩
  | .hbm, ⟨80, _⟩ => ⟨S4096x4096, .f32⟩
  | .hbm, ⟨81, _⟩ => ⟨S1x4096x4096, .f32⟩
  | .hbm, ⟨82, _⟩ => ⟨S8x4096x4096, .f32⟩
  | .hbm, ⟨83, _⟩ => ⟨S8x4096x4096, .f32⟩
  | .hbm, ⟨84, _⟩ => ⟨S8x4096x4096, .f32⟩
  | .hbm, ⟨85, _⟩ => ⟨S8x4096x4096, .f32⟩
  | .hbm, ⟨86, _⟩ => ⟨S_, .f32⟩
  | .hbm, ⟨87, _⟩ => ⟨S_, .f32⟩
  | .hbm, ⟨88, _⟩ => ⟨S8x4096x4096, .i1⟩
  | .hbm, ⟨89, _⟩ => ⟨S8x4096x4096, .f32⟩
  | .hbm, ⟨90, _⟩ => ⟨S8x4096x4096, .f32⟩
  | .hbm, ⟨91, _⟩ => ⟨S4x8x4096x4096, .f32⟩
  | .hbm, ⟨92, _⟩ => ⟨S1x8x4096x4096, .f32⟩
  | .hbm, ⟨93, _⟩ => ⟨S4x8x4096x4096, .f32⟩
  | .hbm, ⟨94, _⟩ => ⟨S4x8x4096x4096, .f32⟩
  | .hbm, ⟨95, _⟩ => ⟨S4x8x4096x256, .f32⟩
  | .hbm, ⟨96, _⟩ => ⟨S4x8x4096x256, .f32⟩
  | .hbm, ⟨97, _⟩ => ⟨S_, .f32⟩
  | .hbm, ⟨98, _⟩ => ⟨S4x8x4096, .f32⟩
  | .hbm, ⟨99, _⟩ => ⟨S4x8x4096x1, .f32⟩
  | .hbm, ⟨100, _⟩ => ⟨S_, .f32⟩
  | .hbm, ⟨101, _⟩ => ⟨S4x8x4096x1, .f32⟩
  | .hbm, ⟨102, _⟩ => ⟨S4x8x4096x1, .f32⟩
  | .hbm, ⟨103, _⟩ => ⟨S_, .f32⟩
  | .hbm, ⟨104, _⟩ => ⟨S4x8x4096x1, .f32⟩
  | .hbm, ⟨105, _⟩ => ⟨S4x8x4096x1, .f32⟩
  | .hbm, ⟨106, _⟩ => ⟨S4x8x4096x1, .f32⟩
  | .hbm, ⟨107, _⟩ => ⟨S4x8x4096x256, .f32⟩
  | .hbm, ⟨108, _⟩ => ⟨S4x8x4096x256, .f32⟩
  | .hbm, ⟨109, _⟩ => ⟨S4x4096x8x256, .f32⟩
  | .hbm, ⟨110, _⟩ => ⟨S4x4096x2048, .f32⟩
  | .hbm, ⟨111, _⟩ => ⟨S1x1x2048, .f32⟩
  | .hbm, ⟨112, _⟩ => ⟨S4x4096x2048, .f32⟩
  | .hbm, ⟨113, _⟩ => ⟨S4x4096x2048, .f32⟩
  | .hbm, ⟨114, _⟩ => ⟨S4x4096x2048, .f32⟩
  | .hbm, ⟨115, _⟩ => ⟨S4x4096x2048, .f32⟩
  | .hbm, ⟨116, _⟩ => ⟨S_, .f32⟩
  | .hbm, ⟨117, _⟩ => ⟨S4x4096x2048, .f32⟩
  | .hbm, ⟨118, _⟩ => ⟨S4x4096x2048, .f32⟩
  | .hbm, ⟨119, _⟩ => ⟨S_, .f32⟩
  | .hbm, ⟨120, _⟩ => ⟨S4x4096x2048, .f32⟩
  | .hbm, ⟨121, _⟩ => ⟨S4x4096x2048, .f32⟩
  | .hbm, ⟨122, _⟩ => ⟨S4x4096x2048, .f32⟩
  | .hbm, ⟨123, _⟩ => ⟨S4x4096x2048, .f32⟩
  | .hbm, ⟨124, _⟩ => ⟨S4x4096x2048, .bf16⟩
  | .hbm, ⟨125, _⟩ => ⟨S16384x2048, .bf16⟩
  | _, _ => ⟨S16384x10240, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_v16 : Ref sig .tc := ⟨.hbm, 20, rfl⟩
abbrev main_v17 : Ref sig .tc := ⟨.hbm, 21, rfl⟩
abbrev main_v18 : Ref sig .tc := ⟨.hbm, 22, rfl⟩
abbrev main_v19 : Ref sig .tc := ⟨.hbm, 23, rfl⟩
abbrev main_v20 : Ref sig .tc := ⟨.hbm, 24, rfl⟩
abbrev main_v21 : Ref sig .tc := ⟨.hbm, 25, rfl⟩
abbrev main_v22 : Ref sig .tc := ⟨.hbm, 26, rfl⟩
abbrev main_v23 : Ref sig .tc := ⟨.hbm, 27, rfl⟩
abbrev main_v24 : Ref sig .tc := ⟨.hbm, 28, rfl⟩
abbrev main_v25 : Ref sig .tc := ⟨.hbm, 29, rfl⟩
abbrev main_v26 : Ref sig .tc := ⟨.hbm, 30, rfl⟩
abbrev main_v27 : Ref sig .tc := ⟨.hbm, 31, rfl⟩
abbrev main_v28 : Ref sig .tc := ⟨.hbm, 32, rfl⟩
abbrev main_v29 : Ref sig .tc := ⟨.hbm, 33, rfl⟩
abbrev main_v30 : Ref sig .tc := ⟨.hbm, 34, rfl⟩
abbrev main_v31 : Ref sig .tc := ⟨.hbm, 35, rfl⟩
abbrev main_v32 : Ref sig .tc := ⟨.hbm, 36, rfl⟩
abbrev main_v33 : Ref sig .tc := ⟨.hbm, 37, rfl⟩
abbrev main_v34 : Ref sig .tc := ⟨.hbm, 38, rfl⟩
abbrev main_v35 : Ref sig .tc := ⟨.hbm, 39, rfl⟩
abbrev main_v36 : Ref sig .tc := ⟨.hbm, 40, rfl⟩
abbrev main_v37 : Ref sig .tc := ⟨.hbm, 41, rfl⟩
abbrev main_v38 : Ref sig .tc := ⟨.hbm, 42, rfl⟩
abbrev main_v39 : Ref sig .tc := ⟨.hbm, 43, rfl⟩
abbrev main_v40 : Ref sig .tc := ⟨.hbm, 44, rfl⟩
abbrev main_v41 : Ref sig .tc := ⟨.hbm, 45, rfl⟩
abbrev main_cst : Ref sig .tc := ⟨.hbm, 46, rfl⟩
abbrev main_v42 : Ref sig .tc := ⟨.hbm, 47, rfl⟩
abbrev main_v43 : Ref sig .tc := ⟨.hbm, 48, rfl⟩
abbrev main_v44 : Ref sig .tc := ⟨.hbm, 49, rfl⟩
abbrev main_v45 : Ref sig .tc := ⟨.hbm, 50, rfl⟩
abbrev main_v46 : Ref sig .tc := ⟨.hbm, 51, rfl⟩
abbrev main_v47 : Ref sig .tc := ⟨.hbm, 52, rfl⟩
abbrev main_v48 : Ref sig .tc := ⟨.hbm, 53, rfl⟩
abbrev main_cst_0 : Ref sig .tc := ⟨.hbm, 54, rfl⟩
abbrev main_v49 : Ref sig .tc := ⟨.hbm, 55, rfl⟩
abbrev main_v50 : Ref sig .tc := ⟨.hbm, 56, rfl⟩
abbrev main_cst_1 : Ref sig .tc := ⟨.hbm, 57, rfl⟩
abbrev main_v51 : Ref sig .tc := ⟨.hbm, 58, rfl⟩
abbrev main_v52 : Ref sig .tc := ⟨.hbm, 59, rfl⟩
abbrev main_cst_2 : Ref sig .tc := ⟨.hbm, 60, rfl⟩
abbrev main_v53 : Ref sig .tc := ⟨.hbm, 61, rfl⟩
abbrev main_v54 : Ref sig .tc := ⟨.hbm, 62, rfl⟩
abbrev main_v55 : Ref sig .tc := ⟨.hbm, 63, rfl⟩
abbrev main_v56 : Ref sig .tc := ⟨.hbm, 64, rfl⟩
abbrev main_v57 : Ref sig .tc := ⟨.hbm, 65, rfl⟩
abbrev main_v58 : Ref sig .tc := ⟨.hbm, 66, rfl⟩
abbrev main_v59 : Ref sig .tc := ⟨.hbm, 67, rfl⟩
abbrev main_v60 : Ref sig .tc := ⟨.hbm, 68, rfl⟩
abbrev main_v61 : Ref sig .tc := ⟨.hbm, 69, rfl⟩
abbrev main_v62 : Ref sig .tc := ⟨.hbm, 70, rfl⟩
abbrev main_v63 : Ref sig .tc := ⟨.hbm, 71, rfl⟩
abbrev main_v64 : Ref sig .tc := ⟨.hbm, 72, rfl⟩
abbrev main_v65 : Ref sig .tc := ⟨.hbm, 73, rfl⟩
abbrev main_v66 : Ref sig .tc := ⟨.hbm, 74, rfl⟩
abbrev main_v67 : Ref sig .tc := ⟨.hbm, 75, rfl⟩
abbrev main_v68 : Ref sig .tc := ⟨.hbm, 76, rfl⟩
abbrev main_v69 : Ref sig .tc := ⟨.hbm, 77, rfl⟩
abbrev main_v70 : Ref sig .tc := ⟨.hbm, 78, rfl⟩
abbrev main_v71 : Ref sig .tc := ⟨.hbm, 79, rfl⟩
abbrev main_v72 : Ref sig .tc := ⟨.hbm, 80, rfl⟩
abbrev main_v73 : Ref sig .tc := ⟨.hbm, 81, rfl⟩
abbrev main_v74 : Ref sig .tc := ⟨.hbm, 82, rfl⟩
abbrev main_v75 : Ref sig .tc := ⟨.hbm, 83, rfl⟩
abbrev main_v76 : Ref sig .tc := ⟨.hbm, 84, rfl⟩
abbrev main_v77 : Ref sig .tc := ⟨.hbm, 85, rfl⟩
abbrev main_cst_3 : Ref sig .tc := ⟨.hbm, 86, rfl⟩
abbrev main_call0_v0 : Ref sig .tc := ⟨.hbm, 87, rfl⟩
abbrev main_call0_v1 : Ref sig .tc := ⟨.hbm, 88, rfl⟩
abbrev main_call0_v2 : Ref sig .tc := ⟨.hbm, 89, rfl⟩
abbrev main_v78 : Ref sig .tc := ⟨.hbm, 90, rfl⟩
abbrev main_v79 : Ref sig .tc := ⟨.hbm, 91, rfl⟩
abbrev main_v80 : Ref sig .tc := ⟨.hbm, 92, rfl⟩
abbrev main_v81 : Ref sig .tc := ⟨.hbm, 93, rfl⟩
abbrev main_v82 : Ref sig .tc := ⟨.hbm, 94, rfl⟩
abbrev main_v83 : Ref sig .tc := ⟨.hbm, 95, rfl⟩
abbrev main_v84 : Ref sig .tc := ⟨.hbm, 96, rfl⟩
abbrev main_cst_4 : Ref sig .tc := ⟨.hbm, 97, rfl⟩
abbrev main_v85 : Ref sig .tc := ⟨.hbm, 98, rfl⟩
abbrev main_v86 : Ref sig .tc := ⟨.hbm, 99, rfl⟩
abbrev main_cst_5 : Ref sig .tc := ⟨.hbm, 100, rfl⟩
abbrev main_v87 : Ref sig .tc := ⟨.hbm, 101, rfl⟩
abbrev main_v88 : Ref sig .tc := ⟨.hbm, 102, rfl⟩
abbrev main_cst_6 : Ref sig .tc := ⟨.hbm, 103, rfl⟩
abbrev main_v89 : Ref sig .tc := ⟨.hbm, 104, rfl⟩
abbrev main_v90 : Ref sig .tc := ⟨.hbm, 105, rfl⟩
abbrev main_v91 : Ref sig .tc := ⟨.hbm, 106, rfl⟩
abbrev main_v92 : Ref sig .tc := ⟨.hbm, 107, rfl⟩
abbrev main_v93 : Ref sig .tc := ⟨.hbm, 108, rfl⟩
abbrev main_v94 : Ref sig .tc := ⟨.hbm, 109, rfl⟩
abbrev main_v95 : Ref sig .tc := ⟨.hbm, 110, rfl⟩
abbrev main_v96 : Ref sig .tc := ⟨.hbm, 111, rfl⟩
abbrev main_v97 : Ref sig .tc := ⟨.hbm, 112, rfl⟩
abbrev main_v98 : Ref sig .tc := ⟨.hbm, 113, rfl⟩
abbrev main_call1_v0 : Ref sig .tc := ⟨.hbm, 114, rfl⟩
abbrev main_call1_v1 : Ref sig .tc := ⟨.hbm, 115, rfl⟩
abbrev main_call1_cst : Ref sig .tc := ⟨.hbm, 116, rfl⟩
abbrev main_call1_v2 : Ref sig .tc := ⟨.hbm, 117, rfl⟩
abbrev main_call1_v3 : Ref sig .tc := ⟨.hbm, 118, rfl⟩
abbrev main_call1_cst_0 : Ref sig .tc := ⟨.hbm, 119, rfl⟩
abbrev main_call1_v4 : Ref sig .tc := ⟨.hbm, 120, rfl⟩
abbrev main_call1_v5 : Ref sig .tc := ⟨.hbm, 121, rfl⟩
abbrev main_v99 : Ref sig .tc := ⟨.hbm, 122, rfl⟩
abbrev main_v100 : Ref sig .tc := ⟨.hbm, 123, rfl⟩
abbrev main_v101 : Ref sig .tc := ⟨.hbm, 124, rfl⟩
abbrev main_v102 : Ref sig .tc := ⟨.hbm, 125, rfl⟩

abbrev nD : Nat := 1
abbrev τ : Topo := Topo.v7x

variable {F : FTy → Type} [FloatOps F]
-- ==== Proof.Val.Run.lean ====
module

public import proofs.«01_k».proof.Proof.Gen.KernelIdeal.Frame

@[expose] public section

noncomputable section

/-! The whole run, with every array of the final state at its contents after the last region. -/

namespace Cert.Val.Run

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every execution ends with each array at its contents at the last boundary, and with no counter raised. -/
theorem run : θ_run defs (onTc (τ := τ) (main (F := F))) ⟨m, fun _ => 0, ρ⟩ (fun r =>
    (∀ c : Dev nD, ∀ b ∈ Pipeline.ucRefs τ sig, r.2.mem (((c : Thread nD τ)).1, b) = W11 m ρ c b) ∧ r.2.sem = fun _ => 0) :=
  Pipeline.θ_run_regions_kit_sems (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W11 m ρ c b)
    (hfin := fun c s' => by
      iintro ⟨⟨Hh, -⟩, HSI⟩
      unfold StableHlo.held
      imodintro
      iapply (pointsTo_read_all (Pipeline.ucRefs τ sig) (fun b => (((c : Thread nD τ)).1, b)) (W11 m ρ c) s')
      isplitl [Hh] <;> iassumption)
    (hQ := fun s h hz => ⟨h, funext fun g => hz g (.inr (no_unscoped g.2))⟩)

end Cert.Val.Run

end
-- ==== Proof.Val.Pay.lean ====
module

public import proofs.«01_k».proof.Proof.Gen.KernelIdeal.Skeleton
public import Idealize.ShloMosaic.Lib.Pointwise

@[expose] public section

noncomputable section

/-! The values the kernels store, read at one element over the extended reals. -/

namespace Cert.Val.Pay

open Idealize.ShloMosaic Cert.KernelIdeal Cert.KernelIdeal.Gen

theorem k0_pay1_apply (v0 : Vec Ideal S512x2048 .bf16) (v1 : Vec Ideal S2048x1024 .bf16) (v4 : Vec Ideal S512x2048 .bf16)
    (v5 : Vec Ideal S2048x1024 .bf16) (v9 : Vec Ideal S512x1024 .f32) (r : Fin 512) (l : Fin 1024) :
    k0_pay1 v0 v1 v4 v5 v9 (ix2 r l)
      = v9 (ix2 r l) + ((∑ k : Fin 2048, v0 (ix2 r k) * v1 (ix2 k l)) + ∑ k : Fin 2048, v4 (ix2 r k) * v5 (ix2 k l)) := by
  pointwise [k0_pay1]

theorem k0_pay2_apply (v0 : Vec Ideal S512x2048 .bf16) (v1 : Vec Ideal S2048x1024 .bf16) (v4 : Vec Ideal S512x2048 .bf16)
    (v5 : Vec Ideal S2048x1024 .bf16) (v9 : Vec Ideal S512x1024 .f32) (v12 : Vec Ideal S1x1024 .f32) (r : Fin 512) (l : Fin 1024) :
    k0_pay2 v0 v1 v4 v5 v9 v12 (ix2 r l) = k0_pay1 v0 v1 v4 v5 v9 (ix2 r l) * v12 (ix2 0 l) := by
  pointwise [k0_pay2]

theorem k0_pay3_apply (v0 : Vec Ideal S512x2048 .bf16) (v1 : Vec Ideal S2048x1024 .bf16) (v4 : Vec Ideal S512x2048 .bf16)
    (v5 : Vec Ideal S2048x1024 .bf16) (v9 : Vec Ideal S512x1024 .f32) (r : Fin 512) (l : Fin 128) :
    k0_pay3 v0 v1 v4 v5 v9 (ix2 r l)
      = ∑ k : Fin 1024, k0_pay1 v0 v1 v4 v5 v9 (ix2 r k) * k0_pay1 v0 v1 v4 v5 v9 (ix2 r k) := by
  pointwise [k0_pay3]

theorem k1_pay1_apply (v0 : Vec Ideal S512x4096 .f32) (r : Fin 512) (l : Fin 4096) : k1_pay1 v0 (ix2 r l) = v0 (ix2 r l) := by
  pointwise [k1_pay1]

theorem k3_pay1_apply (v0 : Vec Ideal S512x4096 .f32) (r : Fin 512) (l : Fin 4096) : k3_pay1 v0 (ix2 r l) = v0 (ix2 r l) := by
  pointwise [k3_pay1]

/-- The row factor the projections read back from the 512 lanes of partial sums. -/
def rowR (s : Fin 512 → EReal) : EReal :=
  Ideal.rsqrt ((∑ l : Fin 512, s l) * Ideal.ofBits .f32 0x36000000#32 + Ideal.ofBits .f32 0x358637BD#32)

theorem k2_pay1_apply (v0 : Vec Ideal S1024x4096 .bf16) (v2 : Vec Ideal S1024x4096 .bf16) (v5 : Vec Ideal S1024x512 .f32)
    (r l : Fin 1024) :
    k2_pay1 v0 v2 v5 (ix2 r l) = (∑ k : Fin 4096, v0 (ix2 r k) * v2 (ix2 l k)) * rowR (fun a => v5 (ix2 r a)) := by
  pointwise [k2_pay1, rowR]

theorem k4_pay1_apply (v0 : Vec Ideal S1024x4096 .bf16) (v2 : Vec Ideal S1024x4096 .bf16) (v5 : Vec Ideal S1024x512 .f32)
    (r l : Fin 1024) :
    k4_pay1 v0 v2 v5 (ix2 r l) = (∑ k : Fin 4096, v0 (ix2 r k) * v2 (ix2 l k)) * rowR (fun a => v5 (ix2 r a)) := by
  pointwise [k4_pay1, rowR]

theorem k5_pay1_apply (v0 : Vec Ideal S1024x4096 .bf16) (v2 : Vec Ideal S128x4096 .bf16) (v5 : Vec Ideal S1024x512 .f32)
    (r : Fin 1024) (l : Fin 128) :
    k5_pay1 v0 v2 v5 (ix2 r l) = (∑ k : Fin 4096, v0 (ix2 r k) * v2 (ix2 l k)) * rowR (fun a => v5 (ix2 r a)) := by
  pointwise [k5_pay1, rowR]

end Cert.Val.Pay

end
-- ==== Proof.Val.Pay2.lean ====
module

public import proofs.«01_k».proof.Proof.Gen.KernelIdeal.Skeleton
public import Idealize.ShloMosaic.Lib.Pointwise

@[expose] public section

noncomputable section

/-! The head-normalized pieces of the q/k/v projection, read at one element over the extended reals. -/

namespace Cert.Val.Pay

open Idealize.ShloMosaic Cert.KernelIdeal Cert.KernelIdeal.Gen

/-- One element of a head: the value, the head's root-mean-square factor where `f` is set, and the gain. -/
def headEl (p : Fin 128 → EReal) (f : BitVec 1) (g : Fin 128 → EReal) (l : Fin 128) : EReal :=
  p l * Scalar.select f (Ideal.rsqrt (Ideal.div (∑ q : Fin 128, p q * p q) (Ideal.ofBits .f32 0x43000000#32)
    + Ideal.ofBits .f32 0x358637BD#32)) 1 * g l

variable (v : FVec Ideal S1024x1024 .f32) (f : BitVec 1) (g : FVec Ideal S1x128 .f32) (r : Fin 1024) (l : Fin 128)

/-- Lane `l` of head `h` of the tile. -/
abbrev lane (h : Fin 8) (l : Fin 128) : Fin 1024 := ⟨128 * h.val + l.val, by omega⟩

theorem k2_pay6_apply : k2_pay6 v f g (ix2 r l) = headEl (fun q => v (ix2 r (lane 1 q))) f (fun q => g (ix2 0 q)) l := by
  pointwise [k2_pay6, headEl, lane]

theorem k2_pay7_apply : k2_pay7 v f g (ix2 r l) = headEl (fun q => v (ix2 r (lane 2 q))) f (fun q => g (ix2 0 q)) l := by
  pointwise [k2_pay7, headEl, lane]

theorem k2_pay9_apply : k2_pay9 f g (k2_pay8 v) (ix2 r l) = headEl (fun q => v (ix2 r (lane 3 q))) f (fun q => g (ix2 0 q)) l := by
  pointwise [k2_pay9, k2_pay8, headEl, lane]

theorem k2_pay10_apply : k2_pay10 v f g (ix2 r l) = headEl (fun q => v (ix2 r (lane 4 q))) f (fun q => g (ix2 0 q)) l := by
  pointwise [k2_pay10, headEl, lane]

theorem k2_pay13_apply : k2_pay13 f g (k2_pay11 v) (k2_pay12 v) (Scalar.ofBits .f32 0x3F800000#32) (ix2 r l) = headEl (fun q => v (ix2 r (lane 5 q))) f (fun q => g (ix2 0 q)) l := by
  pointwise [k2_pay13, k2_pay11, k2_pay12, headEl, lane]

theorem k2_pay14_apply : k2_pay14 v f g (ix2 r l) = headEl (fun q => v (ix2 r (lane 6 q))) f (fun q => g (ix2 0 q)) l := by
  pointwise [k2_pay14, headEl, lane]

theorem k2_pay15_apply : k2_pay15 v f g (ix2 r l) = headEl (fun q => v (ix2 r (lane 7 q))) f (fun q => g (ix2 0 q)) l := by
  pointwise [k2_pay15, headEl, lane]

theorem k2_pay5_apply (v0 : FVec Ideal S1024x4096 .bf16) (v2 : FVec Ideal S1024x4096 .bf16) (v5 : FVec Ideal S1024x512 .f32) :
    k2_pay5 f g (k2_pay3 v0 v2 v5) (k2_pay4 v0 v2 v5) (Scalar.ofBits .f32 0x3F800000#32) (ix2 r l)
      = headEl (fun q => k2_pay1 (F := Ideal) v0 v2 v5 (ix2 r (lane 0 q))) f (fun q => g (ix2 0 q)) l := by
  pointwise [k2_pay5, k2_pay3, k2_pay4, k2_pay1, headEl, lane]

theorem k2_pay2_apply (i : grid2.Coords) (a b : FVec Ideal S1x128 .f32) :
    k2_pay2 (F := Ideal) i a b (ix2 0 l) = Scalar.select (Scalar.cmpi .slt (BitVec.ofNat 32 (i 0).val) 4#32)
      (Scalar.select (Scalar.cmpi .slt (BitVec.ofNat 32 (i 0).val) 2#32) (a (ix2 0 l) * Ideal.ofBits .f32 0x3E0293EE#32) (b (ix2 0 l))) 1 := by
  pointwise [k2_pay2]

end Cert.Val.Pay

end
-- ==== Proof.Val.Base.lean ====
module

public import proofs.«01_k».proof.Proof.Val.Pay
public import proofs.«01_k».proof.Proof.Val.Pay2

@[expose] public section

noncomputable section

/-! The entries that the program's arrays hold, each as a plain function of row and column. -/

namespace Cert.Val

open Idealize.ShloMosaic Cert.Val.Pay

theorem hz : (![0, 0] : Fin 2 → Nat) = fun _ => 0 := funext fun a => by fin_cases a <;> rfl

/-- The two-axis array whose entry at row `r` and column `c` is `f r c`. -/
def arr2 {n k : Nat} (f : Fin n → Fin k → EReal) : (⟨2, ![n, k]⟩ : Shape).Idx → EReal :=
  fun i => f ⟨(i 0).val, (i 0).isLt⟩ ⟨(i 1).val, (i 1).isLt⟩

theorem arr2_ix {n k : Nat} (f : Fin n → Fin k → EReal) (r : Fin n) (c : Fin k) : arr2 f (ix2 r c) = f r c := rfl

/-- The array at an index whose coordinates are `r` and `c`. -/
theorem arr2_at {n k : Nat} (f : Fin n → Fin k → EReal) (i : (⟨2, ![n, k]⟩ : Shape).Idx) (r : Fin n) (c : Fin k)
    (h0 : (i 0).val = r.val) (h1 : (i 1).val = c.val) : arr2 f i = f r c := by
  unfold arr2
  rw [show (⟨(i 0).val, (i 0).isLt⟩ : Fin n) = r from Fin.ext h0, show (⟨(i 1).val, (i 1).isLt⟩ : Fin k) = c from Fin.ext h1]

/-- An array at an index whose coordinates are `r` and `c`. -/
theorem at_ix2 {n k : Nat} (x : (⟨2, ![n, k]⟩ : Shape).Idx → EReal) (i : (⟨2, ![n, k]⟩ : Shape).Idx) (r : Fin n) (c : Fin k)
    (h0 : (i 0).val = r.val) (h1 : (i 1).val = c.val) : x i = x (ix2 r c) := by
  congr 1
  funext a
  match a with
  | ⟨0, _⟩ => exact Fin.ext h0
  | ⟨1, _⟩ => exact Fin.ext h1

theorem ix2_eta {n k : Nat} (j : (⟨2, ![n, k]⟩ : Shape).Idx) : ∃ (r : Fin n) (l : Fin k), j = ix2 r l :=
  ⟨⟨(j 0).val, (j 0).isLt⟩, ⟨(j 1).val, (j 1).isLt⟩, funext fun a => by
    match a with
    | ⟨0, _⟩ => rfl
    | ⟨1, _⟩ => rfl⟩

/-- Row `R` of the activations against row `C` of the weight, times the row's normalizing factor. -/
def projEl {n : Nat} (h : (⟨2, ![16384, 4096]⟩ : Shape).Idx → EReal) (w : (⟨2, ![n, 4096]⟩ : Shape).Idx → EReal)
    (ss : (⟨2, ![16384, 512]⟩ : Shape).Idx → EReal) (R : Fin 16384) (C : Fin n) : EReal :=
  (∑ k : Fin 4096, h (ix2 R k) * w (ix2 C k)) * rowR fun a => ss (ix2 R a)

/-- The gain of lane `l` in column tile `n` of the q/k/v projection: q's scaled gain, k's gain, or one. -/
def gainEl (gq gk : (⟨2, ![1, 128]⟩ : Shape).Idx → EReal) (n : Nat) (l : Fin 128) : EReal :=
  Scalar.select (Scalar.cmpi .slt (BitVec.ofNat 32 n) 4#32)
    (Scalar.select (Scalar.cmpi .slt (BitVec.ofNat 32 n) 2#32) (gq (ix2 0 l) * Ideal.ofBits .f32 0x3E0293EE#32) (gk (ix2 0 l))) 1

/-- Entry (R, C) of the q/k/v projection: the head of 128 columns around C is normalized where its tile is q's or k's. -/
def qkvEl (h : (⟨2, ![16384, 4096]⟩ : Shape).Idx → EReal) (w : (⟨2, ![6144, 4096]⟩ : Shape).Idx → EReal)
    (gq gk : (⟨2, ![1, 128]⟩ : Shape).Idx → EReal) (ss : (⟨2, ![16384, 512]⟩ : Shape).Idx → EReal)
    (R : Fin 16384) (C : Fin 6144) : EReal :=
  headEl (fun q => projEl h w ss R ⟨128 * (C.val / 128) + q.val, by omega⟩)
    (Scalar.cmpi .slt (BitVec.ofNat 32 (C.val / 1024)) 4#32) (gainEl gq gk (C.val / 1024)) ⟨C.val % 128, by omega⟩

/-- Entry (R, C) of the residual stream after the output projection of the two mixers' outputs. -/
def resEl (ya yb : (⟨2, ![16384, 2048]⟩ : Shape).Idx → EReal) (w : (⟨2, ![4096, 4096]⟩ : Shape).Idx → EReal)
    (x : (⟨2, ![16384, 4096]⟩ : Shape).Idx → EReal) (R : Fin 16384) (C : Fin 4096) : EReal :=
  x (ix2 R C) + ((∑ k : Fin 2048, ya (ix2 R k) * w (ix2 ⟨k.val, by omega⟩ C))
    + ∑ k : Fin 2048, yb (ix2 R k) * w (ix2 ⟨2048 + k.val, by omega⟩ C))

/-- The residual stream times the next layer's norm gain. -/
def resGainEl (ya yb : (⟨2, ![16384, 2048]⟩ : Shape).Idx → EReal) (w : (⟨2, ![4096, 4096]⟩ : Shape).Idx → EReal)
    (x : (⟨2, ![16384, 4096]⟩ : Shape).Idx → EReal) (g : (⟨2, ![1, 4096]⟩ : Shape).Idx → EReal) (R : Fin 16384) (C : Fin 4096) : EReal :=
  resEl ya yb w x R C * g (ix2 0 C)

/-- The sum of squares of row R over the 1024 columns of tile C / 128, which every one of the tile's 128 lanes holds. -/
def resSqEl (ya yb : (⟨2, ![16384, 2048]⟩ : Shape).Idx → EReal) (w : (⟨2, ![4096, 4096]⟩ : Shape).Idx → EReal)
    (x : (⟨2, ![16384, 4096]⟩ : Shape).Idx → EReal) (R : Fin 16384) (C : Fin 512) : EReal :=
  ∑ k : Fin 1024, resEl ya yb w x R ⟨1024 * (C.val / 128) + k.val, by omega⟩ * resEl ya yb w x R ⟨1024 * (C.val / 128) + k.val, by omega⟩

end Cert.Val

end
-- ==== Proof.Val.RegCast.lean ====
module

public import proofs.«01_k».proof.Proof.Gen.KernelIdeal.Frame
public import Idealize.ShloMosaic.Lib.Pipeline.Value
public import Idealize.ShloMosaic.Lib.Pipeline.ValueKit
public import proofs.«01_k».proof.Proof.Val.Base

@[expose] public section

noncomputable section

/-! The two regions that copy a span of rows of the transposed weight: what each leaves in its output array. The input
    window is indexed by elements, so its block starts at the row that the index map names, whatever the block's height. -/

namespace Cert.Val.RegCast

open Idealize.ShloMosaic Idealize.ShloMosaic.TcCoe Cert.KernelIdeal Cert.KernelIdeal.Gen Cert.Val Cert.Val.Pay
open Idealize.ShloMosaic.Pipeline (Dat Cfg Window)

variable (V : (c : Dev nD) → (b : Ref sig .tc) → Buf (Elt Ideal) ((c : Thread nD τ).loc b)) (c : Dev nD)

/-- Rows 0..6144 of a 16400-row array. -/
def G1 (x : S16400x4096.Idx → EReal) : S6144x4096.Idx → EReal :=
  arr2 fun r k => x (ix2 ⟨r.val, by omega⟩ k)

/-- Rows 6160..16400 of a 16400-row array. -/
def G3 (x : S16400x4096.Idx → EReal) : S10240x4096.Idx → EReal :=
  arr2 fun r k => x (ix2 ⟨6160 + r.val, by omega⟩ k)

theorem in1 : ∀ t : Fin cfg1.N, win1_0.index t (0 : Fin 2) = 512 * t.val ∧ win1_0.index t (1 : Fin 2) = 0 :=
  (by decide +kernel : ∀ t : Fin grid1.N, _)
theorem ou1 : ∀ t : Fin cfg1.N, win1_1.index t (0 : Fin 2) = t.val ∧ win1_1.index t (1 : Fin 2) = 0 :=
  (by decide +kernel : ∀ t : Fin grid1.N, _)

theorem flushed1 (t : Fin cfg1.N) :
    (dat1 V c).flushed 1 t = ((cfg1.win 1).blk t).view.read (Elt Ideal) (G1 (V c main_v3)) := by
  obtain ⟨a0, a1⟩ := in1 t
  obtain ⟨b0, b1⟩ := ou1 t
  have ht : t.val < 12 := lt_of_lt_of_eq t.isLt (by decide)
  show (cfg1.win 1).cut (grid1.coords t) ((dat1 V c).after 1 t) = _
  rw [after1_1]
  unfold out1_1
  rw [View.canon_unit_zero hz, View.ld_unit_zero hz]
  funext j
  show k1_pay1 (F := Ideal) (iblk1 V c 0 t) j = G1 (V c main_v3) (((cfg1.win 1).blk t).view.emb j)
  obtain ⟨r, l, rfl⟩ := ix2_eta (n := 512) (k := 4096) j
  rw [k1_pay1_apply]
  refine Eq.trans ?_ (arr2_at _ _ ⟨512 * t.val + r.val, by omega⟩ l ?_ ?_).symm
  · refine at_ix2 (V c main_v3) (((cfg1.win 0).blk t).view.emb (ix2 r l)) ⟨(512 * t.val + r.val), by omega⟩ l ?_ ?_
    · show win1_0.index t (0 : Fin 2) + 1 * r.val = (512 * t.val + r.val); omega
    · show win1_0.index t (1 : Fin 2) + 1 * l.val = l.val; omega
  · show win1_1.index t (0 : Fin 2) * 512 + 1 * r.val = 512 * t.val + r.val; omega
  · show win1_1.index t (1 : Fin 2) * 4096 + 1 * l.val = l.val; omega

/-- Region 1 leaves its rows of the weight. -/
theorem final1 : (dat1 V c).arrAt 1 cfg1.N = G1 (V c main_v3) :=
  (dat1 V c).arrAt_eq_of_cover 1 (G1 (V c main_v3)) (fun t _ => flushed1 V c t)
    (Window.Covers.cover (w := cfg1.win 1) (by decide +kernel) (Memref.isWhole_whole _))

theorem in3 : ∀ t : Fin cfg3.N, win3_0.index t (0 : Fin 2) = 6160 + 512 * t.val ∧ win3_0.index t (1 : Fin 2) = 0 :=
  (by decide +kernel : ∀ t : Fin grid3.N, _)
theorem ou3 : ∀ t : Fin cfg3.N, win3_1.index t (0 : Fin 2) = t.val ∧ win3_1.index t (1 : Fin 2) = 0 :=
  (by decide +kernel : ∀ t : Fin grid3.N, _)

theorem flushed3 (t : Fin cfg3.N) :
    (dat3 V c).flushed 1 t = ((cfg3.win 1).blk t).view.read (Elt Ideal) (G3 (V c main_v3)) := by
  obtain ⟨a0, a1⟩ := in3 t
  obtain ⟨b0, b1⟩ := ou3 t
  have ht : t.val < 20 := lt_of_lt_of_eq t.isLt (by decide)
  show (cfg3.win 1).cut (grid3.coords t) ((dat3 V c).after 1 t) = _
  rw [after3_1]
  unfold out3_1
  rw [View.canon_unit_zero hz, View.ld_unit_zero hz]
  funext j
  show k3_pay1 (F := Ideal) (iblk3 V c 0 t) j = G3 (V c main_v3) (((cfg3.win 1).blk t).view.emb j)
  obtain ⟨r, l, rfl⟩ := ix2_eta (n := 512) (k := 4096) j
  rw [k3_pay1_apply]
  refine Eq.trans ?_ (arr2_at _ _ ⟨512 * t.val + r.val, by omega⟩ l ?_ ?_).symm
  · refine at_ix2 (V c main_v3) (((cfg3.win 0).blk t).view.emb (ix2 r l)) ⟨6160 + (512 * t.val + r.val), by omega⟩ l ?_ ?_
    · show win3_0.index t (0 : Fin 2) + 1 * r.val = 6160 + (512 * t.val + r.val); omega
    · show win3_0.index t (1 : Fin 2) + 1 * l.val = l.val; omega
  · show win3_1.index t (0 : Fin 2) * 512 + 1 * r.val = 512 * t.val + r.val; omega
  · show win3_1.index t (1 : Fin 2) * 4096 + 1 * l.val = l.val; omega

/-- Region 3 leaves its rows of the weight. -/
theorem final3 : (dat3 V c).arrAt 1 cfg3.N = G3 (V c main_v3) :=
  (dat3 V c).arrAt_eq_of_cover 1 (G3 (V c main_v3)) (fun t _ => flushed3 V c t)
    (Window.Covers.cover (w := cfg3.win 1) (by decide +kernel) (Memref.isWhole_whole _))

end Cert.Val.RegCast

end
-- ==== Proof.Val.RegProj.lean ====
module

public import proofs.«01_k».proof.Proof.Gen.KernelIdeal.Frame
public import Idealize.ShloMosaic.Lib.Pipeline.Value
public import Idealize.ShloMosaic.Lib.Pipeline.ValueKit
public import proofs.«01_k».proof.Proof.Val.Base

@[expose] public section

noncomputable section

/-! The two plain projections: what each leaves in its output array, as one function of the arrays it reads. -/

namespace Cert.Val.RegProj

open Idealize.ShloMosaic Idealize.ShloMosaic.TcCoe Cert.KernelIdeal Cert.KernelIdeal.Gen Cert.Val Cert.Val.Pay
open Idealize.ShloMosaic.Pipeline (Dat Cfg Window)

variable (V : (c : Dev nD) → (b : Ref sig .tc) → Buf (Elt Ideal) ((c : Thread nD τ).loc b)) (c : Dev nD)

theorem in4_0 : ∀ t : Fin cfg4.N, win4_0.index t (0 : Fin 2) = t.val % 16 ∧ win4_0.index t (1 : Fin 2) = 0 :=
  (by decide +kernel : ∀ t : Fin grid4.N, _)
theorem in4_1 : ∀ t : Fin cfg4.N, win4_1.index t (0 : Fin 2) = t.val / 16 ∧ win4_1.index t (1 : Fin 2) = 0 :=
  (by decide +kernel : ∀ t : Fin grid4.N, _)
theorem in4_2 : ∀ t : Fin cfg4.N, win4_2.index t (0 : Fin 2) = t.val % 16 ∧ win4_2.index t (1 : Fin 2) = 0 :=
  (by decide +kernel : ∀ t : Fin grid4.N, _)
theorem ou4 : ∀ t : Fin cfg4.N, win4_3.index t (0 : Fin 2) = t.val % 16 ∧ win4_3.index t (1 : Fin 2) = t.val / 16 :=
  (by decide +kernel : ∀ t : Fin grid4.N, _)

theorem flushed4 (t : Fin cfg4.N) :
    (dat4 V c).flushed 3 t = ((cfg4.win 3).blk t).view.read (Elt Ideal)
      (arr2 (projEl (n := 10240) (V c main_v2_1) (V c main_v11) (V c main_v2_2))) := by
  obtain ⟨a0, a1⟩ := in4_0 t
  obtain ⟨b0, b1⟩ := in4_1 t
  obtain ⟨d0, d1⟩ := in4_2 t
  obtain ⟨e0, e1⟩ := ou4 t
  have ht : t.val < 160 := lt_of_lt_of_eq t.isLt (by decide)
  show (cfg4.win 3).cut (grid4.coords t) ((dat4 V c).after 3 t) = _
  rw [after4_3]
  unfold out4_3
  rw [View.canon_unit_zero hz, View.ld_unit_zero hz, View.ld_unit_zero hz, View.ld_unit_zero hz]
  funext j
  show k4_pay1 (F := Ideal) (iblk4 V c 0 t) (iblk4 V c 1 t) (iblk4 V c 2 t) j
    = arr2 (projEl (n := 10240) (V c main_v2_1) (V c main_v11) (V c main_v2_2)) (((cfg4.win 3).blk t).view.emb j)
  obtain ⟨r, l, rfl⟩ := ix2_eta (n := 1024) (k := 1024) j
  rw [k4_pay1_apply]
  refine Eq.trans ?_ (arr2_at _ _ ⟨1024 * (t.val % 16) + r.val, by omega⟩ ⟨1024 * (t.val / 16) + l.val, by omega⟩ ?_ ?_).symm
  · unfold projEl
    congr 2
    · funext k; refine congrArg₂ (fun a b : EReal => a * b) ?_ ?_
      · refine at_ix2 (V c main_v2_1) (((cfg4.win 0).blk t).view.emb (ix2 r k)) _ _ ?_ ?_
        · show win4_0.index t (0 : Fin 2) * 1024 + 1 * r.val = 1024 * (t.val % 16) + r.val; omega
        · show win4_0.index t (1 : Fin 2) * 4096 + 1 * k.val = k.val; omega
      · refine at_ix2 (V c main_v11) (((cfg4.win 1).blk t).view.emb (ix2 l k)) _ _ ?_ ?_
        · show win4_1.index t (0 : Fin 2) * 1024 + 1 * l.val = 1024 * (t.val / 16) + l.val; omega
        · show win4_1.index t (1 : Fin 2) * 4096 + 1 * k.val = k.val; omega
    · funext a
      refine at_ix2 (V c main_v2_2) (((cfg4.win 2).blk t).view.emb (ix2 r a)) _ _ ?_ ?_
      · show win4_2.index t (0 : Fin 2) * 1024 + 1 * r.val = 1024 * (t.val % 16) + r.val; omega
      · show win4_2.index t (1 : Fin 2) * 512 + 1 * a.val = a.val; omega
  · show win4_3.index t (0 : Fin 2) * 1024 + 1 * r.val = 1024 * (t.val % 16) + r.val; omega
  · show win4_3.index t (1 : Fin 2) * 1024 + 1 * l.val = 1024 * (t.val / 16) + l.val; omega

/-- Region 4 leaves its projection of the normalized rows. -/
theorem final4 : (dat4 V c).arrAt 3 cfg4.N = arr2 (projEl (n := 10240) (V c main_v2_1) (V c main_v11) (V c main_v2_2)) :=
  (dat4 V c).arrAt_eq_of_cover 3 (arr2 (projEl (n := 10240) (V c main_v2_1) (V c main_v11) (V c main_v2_2))) (fun t _ => flushed4 V c t)
    (Window.Covers.cover (w := cfg4.win 3) (by decide +kernel) (Memref.isWhole_whole _))

theorem in5_0 : ∀ t : Fin cfg5.N, win5_0.index t (0 : Fin 2) = t.val % 16 ∧ win5_0.index t (1 : Fin 2) = 0 :=
  (by decide +kernel : ∀ t : Fin grid5.N, _)
theorem in5_1 : ∀ t : Fin cfg5.N, win5_1.index t (0 : Fin 2) = t.val / 16 ∧ win5_1.index t (1 : Fin 2) = 0 :=
  (by decide +kernel : ∀ t : Fin grid5.N, _)
theorem in5_2 : ∀ t : Fin cfg5.N, win5_2.index t (0 : Fin 2) = t.val % 16 ∧ win5_2.index t (1 : Fin 2) = 0 :=
  (by decide +kernel : ∀ t : Fin grid5.N, _)
theorem ou5 : ∀ t : Fin cfg5.N, win5_3.index t (0 : Fin 2) = t.val % 16 ∧ win5_3.index t (1 : Fin 2) = t.val / 16 :=
  (by decide +kernel : ∀ t : Fin grid5.N, _)

theorem flushed5 (t : Fin cfg5.N) :
    (dat5 V c).flushed 3 t = ((cfg5.win 3).blk t).view.read (Elt Ideal)
      (arr2 (projEl (n := 128) (V c main_v2_1) (V c main_v6) (V c main_v2_2))) := by
  obtain ⟨a0, a1⟩ := in5_0 t
  obtain ⟨b0, b1⟩ := in5_1 t
  obtain ⟨d0, d1⟩ := in5_2 t
  obtain ⟨e0, e1⟩ := ou5 t
  have ht : t.val < 16 := lt_of_lt_of_eq t.isLt (by decide)
  show (cfg5.win 3).cut (grid5.coords t) ((dat5 V c).after 3 t) = _
  rw [after5_3]
  unfold out5_3
  rw [View.canon_unit_zero hz, View.ld_unit_zero hz, View.ld_unit_zero hz, View.ld_unit_zero hz]
  funext j
  show k5_pay1 (F := Ideal) (iblk5 V c 0 t) (iblk5 V c 1 t) (iblk5 V c 2 t) j
    = arr2 (projEl (n := 128) (V c main_v2_1) (V c main_v6) (V c main_v2_2)) (((cfg5.win 3).blk t).view.emb j)
  obtain ⟨r, l, rfl⟩ := ix2_eta (n := 1024) (k := 128) j
  rw [k5_pay1_apply]
  refine Eq.trans ?_ (arr2_at _ _ ⟨1024 * (t.val % 16) + r.val, by omega⟩ ⟨128 * (t.val / 16) + l.val, by omega⟩ ?_ ?_).symm
  · unfold projEl
    congr 2
    · funext k; refine congrArg₂ (fun a b : EReal => a * b) ?_ ?_
      · refine at_ix2 (V c main_v2_1) (((cfg5.win 0).blk t).view.emb (ix2 r k)) _ _ ?_ ?_
        · show win5_0.index t (0 : Fin 2) * 1024 + 1 * r.val = 1024 * (t.val % 16) + r.val; omega
        · show win5_0.index t (1 : Fin 2) * 4096 + 1 * k.val = k.val; omega
      · refine at_ix2 (V c main_v6) (((cfg5.win 1).blk t).view.emb (ix2 l k)) _ _ ?_ ?_
        · show win5_1.index t (0 : Fin 2) * 128 + 1 * l.val = 128 * (t.val / 16) + l.val; omega
        · show win5_1.index t (1 : Fin 2) * 4096 + 1 * k.val = k.val; omega
    · funext a
      refine at_ix2 (V c main_v2_2) (((cfg5.win 2).blk t).view.emb (ix2 r a)) _ _ ?_ ?_
      · show win5_2.index t (0 : Fin 2) * 1024 + 1 * r.val = 1024 * (t.val % 16) + r.val; omega
      · show win5_2.index t (1 : Fin 2) * 512 + 1 * a.val = a.val; omega
  · show win5_3.index t (0 : Fin 2) * 1024 + 1 * r.val = 1024 * (t.val % 16) + r.val; omega
  · show win5_3.index t (1 : Fin 2) * 128 + 1 * l.val = 128 * (t.val / 16) + l.val; omega

/-- Region 5 leaves its projection of the normalized rows. -/
theorem final5 : (dat5 V c).arrAt 3 cfg5.N = arr2 (projEl (n := 128) (V c main_v2_1) (V c main_v6) (V c main_v2_2)) :=
  (dat5 V c).arrAt_eq_of_cover 3 (arr2 (projEl (n := 128) (V c main_v2_1) (V c main_v6) (V c main_v2_2))) (fun t _ => flushed5 V c t)
    (Window.Covers.cover (w := cfg5.win 3) (by decide +kernel) (Memref.isWhole_whole _))

end Cert.Val.RegProj

end
-- ==== Proof.Val.RegQkv.lean ====
module

public import proofs.«01_k».proof.Proof.Gen.KernelIdeal.Frame
public import Idealize.ShloMosaic.Lib.Pipeline.Value
public import Idealize.ShloMosaic.Lib.Pipeline.ValueKit
public import proofs.«01_k».proof.Proof.Val.Base

@[expose] public section

noncomputable section

/-! The projection to q, k and v: what it leaves in its output array, as one function of the arrays it reads. -/

namespace Cert.Val.RegQkv

open Idealize.ShloMosaic Idealize.ShloMosaic.TcCoe Cert.KernelIdeal Cert.KernelIdeal.Gen Cert.Val Cert.Val.Pay
open Idealize.ShloMosaic.Pipeline (Dat Cfg Window)

variable (V : (c : Dev nD) → (b : Ref sig .tc) → Buf (Elt Ideal) ((c : Thread nD τ).loc b)) (c : Dev nD)

/-- One tile after the head normalization: the head of 128 columns around column `l`. -/
def tileEl (P : FVec Ideal S1024x1024 .f32) (f : BitVec 1) (g : FVec Ideal S1x128 .f32) (r l : Fin 1024) : EReal :=
  headEl (fun q => P (ix2 r ⟨128 * (l.val / 128) + q.val, by omega⟩)) f (fun q => g (ix2 0 q)) ⟨l.val % 128, by omega⟩

/-- Column 128·h + l of the tile is lane l of head h. -/
theorem lanes (P : FVec Ideal S1024x1024 .f32) (f : BitVec 1) (g : FVec Ideal S1x128 .f32) (r : Fin 1024) (l : Fin 128)
    (h : Fin 8) (i : S1024x1024.Idx) (h1 : (i 1).val = 128 * h.val + l.val) (h0 : (i 0).val = r.val) :
    headEl (fun q => P (ix2 r (lane h q))) f (fun q => g (ix2 0 q)) l = arr2 (tileEl P f g) i := by
  rw [arr2_at _ i r (lane h l) h0 h1]
  unfold tileEl
  have e : (lane h l).val / 128 = h.val := by show (128 * h.val + l.val) / 128 = h.val; omega
  congr 1
  · funext q; congr 2; exact Fin.ext (show 128 * h.val + q.val = 128 * ((lane h l).val / 128) + q.val by rw [e])
  · exact Fin.ext (show l.val = (128 * h.val + l.val) % 128 by omega)

/-- The eight stores of a point, column block by column block, together. -/
theorem out2_eq (i : grid2.Coords) (x0 x1 : Vec Ideal S1024x4096 .bf16) (x2 x3 : Vec Ideal S1x128 .f32) (x4 : Vec Ideal S1024x512 .f32) :
    out2_5 i x0 x1 x2 x3 x4 = arr2 (tileEl (k2_pay1 x0 x1 x4) (Scalar.cmpi .slt (BitVec.ofNat 32 (i 0).val) 4#32) (k2_pay2 i x2 x3)) := by
  have e16 : k2_pay16 i x0 x1 x2 x3 x4 = k2_pay1 x0 x1 x4 := by
    unfold k2_pay16; rw [View.ld_unit_zero hz, View.ld_unit_zero hz, View.ld_unit_zero hz]
  have e17 : k2_pay17 i x0 x1 x2 x3 x4 = k2_pay2 i x2 x3 := by
    unfold k2_pay17; rw [View.ld_unit_zero hz, View.ld_unit_zero hz]
  unfold out2_5
  rw [e16, e17, View.ld_unit_zero hz, View.ld_unit_zero hz, View.ld_unit_zero hz]
  funext y
  refine View.canon_apply_of_pieces _ _ ?_ y (cover2_5 _ _ _ _ _ _ _ _ y)
  refine List.forall_mem_cons.2 ⟨?_, List.forall_mem_cons.2 ⟨?_, List.forall_mem_cons.2 ⟨?_, List.forall_mem_cons.2 ⟨?_,
    List.forall_mem_cons.2 ⟨?_, List.forall_mem_cons.2 ⟨?_, List.forall_mem_cons.2 ⟨?_, List.forall_mem_cons.2 ⟨?_,
      fun p hp => absurd hp (List.not_mem_nil)⟩⟩⟩⟩⟩⟩⟩⟩ <;>
    intro x <;> obtain ⟨r, l, rfl⟩ := ix2_eta (n := 1024) (k := 128) x
  · exact (k2_pay15_apply _ _ _ r l ).trans (lanes _ _ _ r l 7 _
      (show 896 + 1 * l.val = 128 * ((7 : Fin 8) : Nat) + l.val by rw [show ((7 : Fin 8) : Nat) = 7 from rfl]; omega) (show 0 + 1 * r.val = r.val by omega))
  · exact (k2_pay14_apply _ _ _ r l ).trans (lanes _ _ _ r l 6 _
      (show 768 + 1 * l.val = 128 * ((6 : Fin 8) : Nat) + l.val by rw [show ((6 : Fin 8) : Nat) = 6 from rfl]; omega) (show 0 + 1 * r.val = r.val by omega))
  · exact (k2_pay13_apply _ _ _ r l ).trans (lanes _ _ _ r l 5 _
      (show 640 + 1 * l.val = 128 * ((5 : Fin 8) : Nat) + l.val by rw [show ((5 : Fin 8) : Nat) = 5 from rfl]; omega) (show 0 + 1 * r.val = r.val by omega))
  · exact (k2_pay10_apply _ _ _ r l ).trans (lanes _ _ _ r l 4 _
      (show 512 + 1 * l.val = 128 * ((4 : Fin 8) : Nat) + l.val by rw [show ((4 : Fin 8) : Nat) = 4 from rfl]; omega) (show 0 + 1 * r.val = r.val by omega))
  · exact (k2_pay9_apply _ _ _ r l ).trans (lanes _ _ _ r l 3 _
      (show 384 + 1 * l.val = 128 * ((3 : Fin 8) : Nat) + l.val by rw [show ((3 : Fin 8) : Nat) = 3 from rfl]; omega) (show 0 + 1 * r.val = r.val by omega))
  · exact (k2_pay7_apply _ _ _ r l ).trans (lanes _ _ _ r l 2 _
      (show 256 + 1 * l.val = 128 * ((2 : Fin 8) : Nat) + l.val by rw [show ((2 : Fin 8) : Nat) = 2 from rfl]; omega) (show 0 + 1 * r.val = r.val by omega))
  · exact (k2_pay6_apply _ _ _ r l ).trans (lanes _ _ _ r l 1 _
      (show 128 + 1 * l.val = 128 * ((1 : Fin 8) : Nat) + l.val by rw [show ((1 : Fin 8) : Nat) = 1 from rfl]; omega) (show 0 + 1 * r.val = r.val by omega))
  · exact (k2_pay5_apply _ _ r l _ _ _).trans (lanes _ _ _ r l 0 _
      (show 0 + 1 * l.val = 128 * ((0 : Fin 8) : Nat) + l.val by rw [show ((0 : Fin 8) : Nat) = 0 from rfl]; omega) (show 0 + 1 * r.val = r.val by omega))
theorem in2_0 : ∀ t : Fin cfg2.N, win2_0.index t (0 : Fin 2) = t.val % 16 ∧ win2_0.index t (1 : Fin 2) = 0 :=
  (by decide +kernel : ∀ t : Fin grid2.N, _)
theorem in2_1 : ∀ t : Fin cfg2.N, win2_1.index t (0 : Fin 2) = t.val / 16 ∧ win2_1.index t (1 : Fin 2) = 0 :=
  (by decide +kernel : ∀ t : Fin grid2.N, _)
theorem in2_2 : ∀ t : Fin cfg2.N, win2_2.index t (0 : Fin 2) = 0 ∧ win2_2.index t (1 : Fin 2) = 0 :=
  (by decide +kernel : ∀ t : Fin grid2.N, _)
theorem in2_3 : ∀ t : Fin cfg2.N, win2_3.index t (0 : Fin 2) = 0 ∧ win2_3.index t (1 : Fin 2) = 0 :=
  (by decide +kernel : ∀ t : Fin grid2.N, _)
theorem in2_4 : ∀ t : Fin cfg2.N, win2_4.index t (0 : Fin 2) = t.val % 16 ∧ win2_4.index t (1 : Fin 2) = 0 :=
  (by decide +kernel : ∀ t : Fin grid2.N, _)
theorem ou2 : ∀ t : Fin cfg2.N, win2_5.index t (0 : Fin 2) = t.val % 16 ∧ win2_5.index t (1 : Fin 2) = t.val / 16 :=
  (by decide +kernel : ∀ t : Fin grid2.N, _)
theorem co2 : ∀ t : Fin cfg2.N, (grid2.coords t 0).val = t.val / 16 := (by decide +kernel : ∀ t : Fin grid2.N, _)

/-- The whole q/k/v projection, from the arrays as the region finds them. -/
abbrev G2 : (⟨2, ![16384, 6144]⟩ : Shape).Idx → EReal :=
  arr2 (qkvEl (V c main_v2_1) (V c main_v7) (V c main_v8) (V c main_v9) (V c main_v2_2))

/-- The tile's product before the head normalization, at the array's own row and column. -/
theorem prod2 (t : Fin cfg2.N) (r l : Fin 1024) (R : Fin 16384) (C : Fin 6144) (hR : R.val = 1024 * (t.val % 16) + r.val)
    (hC : C.val = 1024 * (t.val / 16) + l.val) :
    k2_pay1 (F := Ideal) (iblk2 V c 0 t) (iblk2 V c 1 t) (iblk2 V c 4 t) (ix2 r l)
      = projEl (n := 6144) (V c main_v2_1) (V c main_v7) (V c main_v2_2) R C := by
  obtain ⟨a0, a1⟩ := in2_0 t
  obtain ⟨b0, b1⟩ := in2_1 t
  obtain ⟨d0, d1⟩ := in2_4 t
  rw [k2_pay1_apply]
  unfold projEl
  congr 2
  · funext k; refine congrArg₂ (fun a b : EReal => a * b) ?_ ?_
    · refine at_ix2 (V c main_v2_1) (((cfg2.win 0).blk t).view.emb (ix2 r k)) _ _ ?_ ?_
      · show win2_0.index t (0 : Fin 2) * 1024 + 1 * r.val = R.val; omega
      · show win2_0.index t (1 : Fin 2) * 4096 + 1 * k.val = k.val; omega
    · refine at_ix2 (V c main_v7) (((cfg2.win 1).blk t).view.emb (ix2 l k)) _ _ ?_ ?_
      · show win2_1.index t (0 : Fin 2) * 1024 + 1 * l.val = C.val; omega
      · show win2_1.index t (1 : Fin 2) * 4096 + 1 * k.val = k.val; omega
  · funext a
    refine at_ix2 (V c main_v2_2) (((cfg2.win 4).blk t).view.emb (ix2 r a)) _ _ ?_ ?_
    · show win2_4.index t (0 : Fin 2) * 1024 + 1 * r.val = R.val; omega
    · show win2_4.index t (1 : Fin 2) * 512 + 1 * a.val = a.val; omega

/-- The gain row of a point. -/
theorem gain2 (t : Fin cfg2.N) (q : Fin 128) :
    k2_pay2 (F := Ideal) (grid2.coords t) (iblk2 V c 2 t) (iblk2 V c 3 t) (ix2 0 q)
      = gainEl (V c main_v8) (V c main_v9) (t.val / 16) q := by
  obtain ⟨a0, a1⟩ := in2_2 t
  obtain ⟨b0, b1⟩ := in2_3 t
  have e2 : iblk2 V c 2 t (ix2 0 q) = V c main_v8 (ix2 0 q) := by
    refine at_ix2 (V c main_v8) (((cfg2.win 2).blk t).view.emb (ix2 0 q)) 0 q ?_ ?_
    · show win2_2.index t (0 : Fin 2) * 1 + 1 * 0 = 0; omega
    · show win2_2.index t (1 : Fin 2) * 128 + 1 * q.val = q.val; omega
  have e3 : iblk2 V c 3 t (ix2 0 q) = V c main_v9 (ix2 0 q) := by
    refine at_ix2 (V c main_v9) (((cfg2.win 3).blk t).view.emb (ix2 0 q)) 0 q ?_ ?_
    · show win2_3.index t (0 : Fin 2) * 1 + 1 * 0 = 0; omega
    · show win2_3.index t (1 : Fin 2) * 128 + 1 * q.val = q.val; omega
  refine (k2_pay2_apply q (grid2.coords t) (iblk2 V c 2 t) (iblk2 V c 3 t)).trans ?_
  rw [co2 t, e2, e3]
  rfl

theorem flushed2 (t : Fin cfg2.N) : (dat2 V c).flushed 5 t = ((cfg2.win 5).blk t).view.read (Elt Ideal) (G2 V c) := by
  obtain ⟨e0, e1⟩ := ou2 t
  have ht : t.val < 96 := lt_of_lt_of_eq t.isLt (by decide)
  show (cfg2.win 5).cut (grid2.coords t) ((dat2 V c).after 5 t) = _
  rw [after2_5, out2_eq]
  funext j
  show arr2 (tileEl (k2_pay1 (F := Ideal) (iblk2 V c 0 t) (iblk2 V c 1 t) (iblk2 V c 4 t))
    (Scalar.cmpi .slt (BitVec.ofNat 32 (grid2.coords t 0).val) 4#32)
    (k2_pay2 (F := Ideal) (grid2.coords t) (iblk2 V c 2 t) (iblk2 V c 3 t))) j = G2 V c (((cfg2.win 5).blk t).view.emb j)
  obtain ⟨r, l, rfl⟩ := ix2_eta (n := 1024) (k := 1024) j
  refine Eq.trans ?_ (arr2_at _ _ ⟨1024 * (t.val % 16) + r.val, by omega⟩ ⟨1024 * (t.val / 16) + l.val, by omega⟩ ?_ ?_).symm
  · rw [arr2_ix]
    unfold tileEl qkvEl
    have e : (1024 * (t.val / 16) + l.val) / 1024 = t.val / 16 := by omega
    congr 1
    · funext q
      exact prod2 V c t r _ _ _ rfl (show 128 * ((1024 * (t.val / 16) + l.val) / 128) + q.val
        = 1024 * (t.val / 16) + (128 * (l.val / 128) + q.val) by omega)
    · rw [co2 t]; simp only [e]
    · funext q; rw [gain2 V c t q]; simp only [e]
    · exact Fin.ext (show l.val % 128 = (1024 * (t.val / 16) + l.val) % 128 by omega)
  · show win2_5.index t (0 : Fin 2) * 1024 + 1 * r.val = 1024 * (t.val % 16) + r.val; omega
  · show win2_5.index t (1 : Fin 2) * 1024 + 1 * l.val = 1024 * (t.val / 16) + l.val; omega

/-- Region 2 leaves q, k and v, q and k normalized head by head. -/
theorem final2 : (dat2 V c).arrAt 5 cfg2.N = G2 V c :=
  (dat2 V c).arrAt_eq_of_cover 5 (G2 V c) (fun t _ => flushed2 V c t)
    (Window.Covers.cover (w := cfg2.win 5) (by decide +kernel) (Memref.isWhole_whole _))

end Cert.Val.RegQkv

end
-- ==== Proof.Val.RegOut.lean ====
module

public import proofs.«01_k».proof.Proof.Gen.KernelIdeal.Frame
public import Idealize.ShloMosaic.Lib.Pipeline.Value
public import Idealize.ShloMosaic.Lib.Pipeline.ValueKit
public import proofs.«01_k».proof.Proof.Val.Base

@[expose] public section

noncomputable section

/-! The output projection with the residual sum: what it leaves in its three output arrays. -/

namespace Cert.Val.RegOut

open Idealize.ShloMosaic Idealize.ShloMosaic.TcCoe Cert.KernelIdeal Cert.KernelIdeal.Gen Cert.Val Cert.Val.Pay
open Idealize.ShloMosaic.Pipeline (Dat Cfg Window)

variable (V : (c : Dev nD) → (b : Ref sig .tc) → Buf (Elt Ideal) ((c : Thread nD τ).loc b)) (c : Dev nD)

theorem in0_0 : ∀ t : Fin cfg0.N, win0_0.index t (0 : Fin 2) = t.val % 32 ∧ win0_0.index t (1 : Fin 2) = 0 :=
  (by decide +kernel : ∀ t : Fin grid0.N, _)
theorem in0_1 : ∀ t : Fin cfg0.N, win0_1.index t (0 : Fin 2) = t.val % 32 ∧ win0_1.index t (1 : Fin 2) = 0 :=
  (by decide +kernel : ∀ t : Fin grid0.N, _)
theorem in0_2 : ∀ t : Fin cfg0.N, win0_2.index t (0 : Fin 2) = 0 ∧ win0_2.index t (1 : Fin 2) = t.val / 32 :=
  (by decide +kernel : ∀ t : Fin grid0.N, _)
theorem in0_3 : ∀ t : Fin cfg0.N, win0_3.index t (0 : Fin 2) = 1 ∧ win0_3.index t (1 : Fin 2) = t.val / 32 :=
  (by decide +kernel : ∀ t : Fin grid0.N, _)
theorem in0_4 : ∀ t : Fin cfg0.N, win0_4.index t (0 : Fin 2) = t.val % 32 ∧ win0_4.index t (1 : Fin 2) = t.val / 32 :=
  (by decide +kernel : ∀ t : Fin grid0.N, _)
theorem in0_5 : ∀ t : Fin cfg0.N, win0_5.index t (0 : Fin 2) = 0 ∧ win0_5.index t (1 : Fin 2) = t.val / 32 :=
  (by decide +kernel : ∀ t : Fin grid0.N, _)
theorem ou0_6 : ∀ t : Fin cfg0.N, win0_6.index t (0 : Fin 2) = t.val % 32 ∧ win0_6.index t (1 : Fin 2) = t.val / 32 :=
  (by decide +kernel : ∀ t : Fin grid0.N, _)
theorem ou0_7 : ∀ t : Fin cfg0.N, win0_7.index t (0 : Fin 2) = t.val % 32 ∧ win0_7.index t (1 : Fin 2) = t.val / 32 :=
  (by decide +kernel : ∀ t : Fin grid0.N, _)
theorem ou0_8 : ∀ t : Fin cfg0.N, win0_8.index t (0 : Fin 2) = t.val % 32 ∧ win0_8.index t (1 : Fin 2) = t.val / 32 :=
  (by decide +kernel : ∀ t : Fin grid0.N, _)

/-- The residual entry from the region's arrays as found. -/
abbrev res (R : Fin 16384) (C : Fin 4096) : EReal := resEl (V c main_arg0) (V c main_arg1) (V c main_v0) (V c main_arg3) R C

/-- A point's tile of the residual stream. -/
theorem tile0 (t : Fin cfg0.N) (r : Fin 512) (l : Fin 1024) (R : Fin 16384) (C : Fin 4096) (hR : R.val = 512 * (t.val % 32) + r.val)
    (hC : C.val = 1024 * (t.val / 32) + l.val) :
    k0_pay1 (F := Ideal) (iblk0 V c 0 t) (iblk0 V c 2 t) (iblk0 V c 1 t) (iblk0 V c 3 t) (iblk0 V c 4 t) (ix2 r l) = res V c R C := by
  obtain ⟨a0, a1⟩ := in0_0 t
  obtain ⟨b0, b1⟩ := in0_1 t
  obtain ⟨d0, d1⟩ := in0_2 t
  obtain ⟨e0, e1⟩ := in0_3 t
  obtain ⟨f0, f1⟩ := in0_4 t
  rw [k0_pay1_apply]
  unfold res resEl
  refine congrArg₂ (fun a b : EReal => a + b) ?_ (congrArg₂ (fun a b : EReal => a + b)
    (Finset.sum_congr rfl fun k _ => congrArg₂ (fun a b : EReal => a * b) ?_ ?_)
    (Finset.sum_congr rfl fun k _ => congrArg₂ (fun a b : EReal => a * b) ?_ ?_))
  · refine at_ix2 (V c main_arg3) (((cfg0.win 4).blk t).view.emb (ix2 r l)) _ _ ?_ ?_
    · show win0_4.index t (0 : Fin 2) * 512 + 1 * r.val = R.val; omega
    · show win0_4.index t (1 : Fin 2) * 1024 + 1 * l.val = C.val; omega
  · refine at_ix2 (V c main_arg0) (((cfg0.win 0).blk t).view.emb (ix2 r k)) _ _ ?_ ?_
    · show win0_0.index t (0 : Fin 2) * 512 + 1 * r.val = R.val; omega
    · show win0_0.index t (1 : Fin 2) * 2048 + 1 * k.val = k.val; omega
  · refine at_ix2 (V c main_v0) (((cfg0.win 2).blk t).view.emb (ix2 k l)) _ _ ?_ ?_
    · show win0_2.index t (0 : Fin 2) * 2048 + 1 * k.val = k.val; omega
    · show win0_2.index t (1 : Fin 2) * 1024 + 1 * l.val = C.val; omega
  · refine at_ix2 (V c main_arg1) (((cfg0.win 1).blk t).view.emb (ix2 r k)) _ _ ?_ ?_
    · show win0_1.index t (0 : Fin 2) * 512 + 1 * r.val = R.val; omega
    · show win0_1.index t (1 : Fin 2) * 2048 + 1 * k.val = k.val; omega
  · refine at_ix2 (V c main_v0) (((cfg0.win 3).blk t).view.emb (ix2 k l)) _ _ ?_ ?_
    · show win0_3.index t (0 : Fin 2) * 2048 + 1 * k.val = 2048 + k.val; omega
    · show win0_3.index t (1 : Fin 2) * 1024 + 1 * l.val = C.val; omega

/-- The three arrays that region 0 writes. -/
abbrev G6 : (⟨2, ![16384, 4096]⟩ : Shape).Idx → EReal := arr2 (resEl (V c main_arg0) (V c main_arg1) (V c main_v0) (V c main_arg3))
abbrev G7 : (⟨2, ![16384, 4096]⟩ : Shape).Idx → EReal :=
  arr2 (resGainEl (V c main_arg0) (V c main_arg1) (V c main_v0) (V c main_arg3) (V c main_v1))
abbrev G8 : (⟨2, ![16384, 512]⟩ : Shape).Idx → EReal := arr2 (resSqEl (V c main_arg0) (V c main_arg1) (V c main_v0) (V c main_arg3))

theorem flushed6 (t : Fin cfg0.N) : (dat0 V c).flushed 6 t = ((cfg0.win 6).blk t).view.read (Elt Ideal) (G6 V c) := by
  obtain ⟨e0, e1⟩ := ou0_6 t
  have ht : t.val < 128 := lt_of_lt_of_eq t.isLt (by decide)
  show (cfg0.win 6).cut (grid0.coords t) ((dat0 V c).after 6 t) = _
  rw [after0_6]
  unfold out0_6
  rw [View.canon_unit_zero hz, View.ld_unit_zero hz, View.ld_unit_zero hz, View.ld_unit_zero hz, View.ld_unit_zero hz, View.ld_unit_zero hz]
  funext j
  show k0_pay1 (F := Ideal) (iblk0 V c 0 t) (iblk0 V c 2 t) (iblk0 V c 1 t) (iblk0 V c 3 t) (iblk0 V c 4 t) j
    = G6 V c (((cfg0.win 6).blk t).view.emb j)
  obtain ⟨r, l, rfl⟩ := ix2_eta (n := 512) (k := 1024) j
  refine Eq.trans ?_ (arr2_at _ _ ⟨512 * (t.val % 32) + r.val, by omega⟩ ⟨1024 * (t.val / 32) + l.val, by omega⟩ ?_ ?_).symm
  · exact tile0 V c t r l _ _ rfl rfl
  · show win0_6.index t (0 : Fin 2) * 512 + 1 * r.val = 512 * (t.val % 32) + r.val; omega
  · show win0_6.index t (1 : Fin 2) * 1024 + 1 * l.val = 1024 * (t.val / 32) + l.val; omega

theorem flushed7 (t : Fin cfg0.N) : (dat0 V c).flushed 7 t = ((cfg0.win 7).blk t).view.read (Elt Ideal) (G7 V c) := by
  obtain ⟨e0, e1⟩ := ou0_7 t
  obtain ⟨f0, f1⟩ := in0_5 t
  have ht : t.val < 128 := lt_of_lt_of_eq t.isLt (by decide)
  show (cfg0.win 7).cut (grid0.coords t) ((dat0 V c).after 7 t) = _
  rw [after0_7]
  unfold out0_7
  rw [View.canon_unit_zero hz, View.ld_unit_zero hz, View.ld_unit_zero hz, View.ld_unit_zero hz, View.ld_unit_zero hz, View.ld_unit_zero hz,
    View.ld_unit_zero hz]
  funext j
  show k0_pay2 (F := Ideal) (iblk0 V c 0 t) (iblk0 V c 2 t) (iblk0 V c 1 t) (iblk0 V c 3 t) (iblk0 V c 4 t) (iblk0 V c 5 t) j
    = G7 V c (((cfg0.win 7).blk t).view.emb j)
  obtain ⟨r, l, rfl⟩ := ix2_eta (n := 512) (k := 1024) j
  rw [k0_pay2_apply]
  refine Eq.trans ?_ (arr2_at _ _ ⟨512 * (t.val % 32) + r.val, by omega⟩ ⟨1024 * (t.val / 32) + l.val, by omega⟩ ?_ ?_).symm
  · refine congrArg₂ (fun a b : EReal => a * b) (tile0 V c t r l _ _ rfl rfl) ?_
    refine at_ix2 (V c main_v1) (((cfg0.win 5).blk t).view.emb (ix2 0 l)) _ _ ?_ ?_
    · show win0_5.index t (0 : Fin 2) * 1 + 1 * 0 = 0; omega
    · show win0_5.index t (1 : Fin 2) * 1024 + 1 * l.val = 1024 * (t.val / 32) + l.val; omega
  · show win0_7.index t (0 : Fin 2) * 512 + 1 * r.val = 512 * (t.val % 32) + r.val; omega
  · show win0_7.index t (1 : Fin 2) * 1024 + 1 * l.val = 1024 * (t.val / 32) + l.val; omega

theorem flushed8 (t : Fin cfg0.N) : (dat0 V c).flushed 8 t = ((cfg0.win 8).blk t).view.read (Elt Ideal) (G8 V c) := by
  obtain ⟨e0, e1⟩ := ou0_8 t
  have ht : t.val < 128 := lt_of_lt_of_eq t.isLt (by decide)
  show (cfg0.win 8).cut (grid0.coords t) ((dat0 V c).after 8 t) = _
  rw [after0_8]
  unfold out0_8
  rw [View.canon_unit_zero hz, View.ld_unit_zero hz, View.ld_unit_zero hz, View.ld_unit_zero hz, View.ld_unit_zero hz, View.ld_unit_zero hz]
  funext j
  show k0_pay3 (F := Ideal) (iblk0 V c 0 t) (iblk0 V c 2 t) (iblk0 V c 1 t) (iblk0 V c 3 t) (iblk0 V c 4 t) j
    = G8 V c (((cfg0.win 8).blk t).view.emb j)
  obtain ⟨r, l, rfl⟩ := ix2_eta (n := 512) (k := 128) j
  rw [k0_pay3_apply]
  refine Eq.trans ?_ (arr2_at _ _ ⟨512 * (t.val % 32) + r.val, by omega⟩ ⟨128 * (t.val / 32) + l.val, by omega⟩ ?_ ?_).symm
  · refine Finset.sum_congr rfl fun k _ => ?_
    rw [tile0 V c t r k ⟨512 * (t.val % 32) + r.val, by omega⟩ ⟨1024 * ((128 * (t.val / 32) + l.val) / 128) + k.val, by omega⟩ rfl
      (show 1024 * ((128 * (t.val / 32) + l.val) / 128) + k.val = 1024 * (t.val / 32) + k.val by omega)]
  · show win0_8.index t (0 : Fin 2) * 512 + 1 * r.val = 512 * (t.val % 32) + r.val; omega
  · show win0_8.index t (1 : Fin 2) * 128 + 1 * l.val = 128 * (t.val / 32) + l.val; omega

theorem final6 : (dat0 V c).arrAt 6 cfg0.N = G6 V c :=
  (dat0 V c).arrAt_eq_of_cover 6 (G6 V c) (fun t _ => flushed6 V c t)
    (Window.Covers.cover (w := cfg0.win 6) (by decide +kernel) (Memref.isWhole_whole _))

theorem final7 : (dat0 V c).arrAt 7 cfg0.N = G7 V c :=
  (dat0 V c).arrAt_eq_of_cover 7 (G7 V c) (fun t _ => flushed7 V c t)
    (Window.Covers.cover (w := cfg0.win 7) (by decide +kernel) (Memref.isWhole_whole _))

theorem final8 : (dat0 V c).arrAt 8 cfg0.N = G8 V c :=
  (dat0 V c).arrAt_eq_of_cover 8 (G8 V c) (fun t _ => flushed8 V c t)
    (Window.Covers.cover (w := cfg0.win 8) (by decide +kernel) (Memref.isWhole_whole _))

end Cert.Val.RegOut

end
-- ==== Proof.Val.Chain.lean ====
module

public import proofs.«01_k».proof.Proof.Val.RegCast
public import proofs.«01_k».proof.Proof.Val.RegProj
public import proofs.«01_k».proof.Proof.Val.RegQkv
public import proofs.«01_k».proof.Proof.Val.RegOut
public import Idealize.ShloMosaic.Lib.Pointwise

@[expose] public section

noncomputable section

/-! The contents of the program's arrays at each boundary between its regions, from the launch memory. -/

namespace Cert.Val.Chain

open Idealize.ShloMosaic Idealize.ShloMosaic.TcCoe Cert.KernelIdeal Cert.KernelIdeal.Gen Cert.Val Cert.Val.Pay

variable (m : (ℓ : Loc nD τ sig) → Buf (Elt Ideal) ℓ) (ρ : Dev nD → PrngReg) (c : Dev nD)

/-- The arguments of the device's program. -/
abbrev ya : S16384x2048.Idx → EReal := m ((c : Thread nD τ).loc main_arg0)
abbrev yb : S16384x2048.Idx → EReal := m ((c : Thread nD τ).loc main_arg1)
abbrev wo : S4096x4096.Idx → EReal := m ((c : Thread nD τ).loc main_arg2)
abbrev x : S16384x4096.Idx → EReal := m ((c : Thread nD τ).loc main_arg3)
abbrev g : S4096.Idx → EReal := m ((c : Thread nD τ).loc main_arg4)
abbrev wi : S4096x16400.Idx → EReal := m ((c : Thread nD τ).loc main_arg5)
abbrev gq : S128.Idx → EReal := m ((c : Thread nD τ).loc main_arg6)
abbrev gk : S128.Idx → EReal := m ((c : Thread nD τ).loc main_arg7)

/-! ## What the host writes -/

theorem v0_eq : V1 m ρ c main_v0 = wo m c := by
  have e : V1 m ρ c main_v0 = truncf (F := Ideal) .bf16 (m ((c : Thread nD τ).loc main_arg2)) bitsLt_bf16_f32 := by
    show StableHlo.after hostOps0 (W0 m ρ c) (Proc.devRef .tc main_v0) = _
    after_results_simp <;> rfl
  rw [e]
  rfl

theorem v1_at (C : Fin 4096) : V1 m ρ c main_v1 (ix2 0 C) = g m c (ix1 C) := by
  have e : V1 m ρ c main_v1 = shapeCast S1x4096 (g m c) shapeCasts_S4096_S1x4096 := by
    show StableHlo.after hostOps0 (W0 m ρ c) (Proc.devRef .tc main_v1) = _
    after_results_simp <;> rfl
  rw [e]
  pointwise []

theorem v3_at (r : Fin 16400) (k : Fin 4096) : W3 m ρ c (Proc.devRef .tc main_v3) (ix2 r k) = wi m c (ix2 k r) := by
  have e : W3 m ρ c (Proc.devRef .tc main_v3) = transpose S16400x4096 [1, 0] (W2 m ρ c (Proc.devRef .tc main_arg5)) transposes_S4096x16400_S16400x4096_1_0 := by
    show StableHlo.after hostOps1 (W2 m ρ c) (Proc.devRef .tc main_v3) = _
    after_results_simp <;> rfl
  rw [e, W2_args m ρ c main_arg5 (by decide)]
  pointwise []

theorem v4_eq : W3 m ρ c (Proc.devRef .tc main_v4) = extractStridedSlice S16x4096 ![6144, 0] (W3 m ρ c (Proc.devRef .tc main_v3)) slices_S16400x4096_S16x4096_6144_0 := by
  show StableHlo.after hostOps1 (W2 m ρ c) (Proc.devRef .tc main_v4) = extractStridedSlice S16x4096 ![6144, 0] (StableHlo.after hostOps1 (W2 m ρ c) (Proc.devRef .tc main_v3)) slices_S16400x4096_S16x4096_6144_0
  after_results_simp <;> rfl

theorem c_eq : W3 m ρ c (Proc.devRef .tc main_c) = (constantI S_ 32 0#32 : S_.Idx → BitVec 32) := by
  show StableHlo.after hostOps1 (W2 m ρ c) (Proc.devRef .tc main_c) = _
  after_results_simp <;> rfl

theorem v5_eq : W4 m ρ c (Proc.devRef .tc main_v5) = pad S128x4096 ![0, 0] ![112, 0] ![0, 0] (W3 m ρ c (Proc.devRef .tc main_v4))
    (sitofp (F := Ideal) .f32 (W3 m ρ c (Proc.devRef .tc main_c))) pads_S16x4096_S128x4096_01120_000 h_S_ := by
  show StableHlo.after hostOps1_1 (W3 m ρ c) (Proc.devRef .tc main_v5) = _
  simp only [hostOps1_1, StableHlo.TRef.binary, StableHlo.TRef.unary, StableHlo.TRef.toBuf, StableHlo.TRef.ofBuf, cast_eq]
  after_results_simp <;> rfl

/-- The gates' sixteen rows of the weight, padded with zeros to 128 rows and narrowed. -/
theorem padded_at (y : S16400x4096.Idx → EReal) (r : Fin 128) (k : Fin 4096) :
    truncf (F := Ideal) (s := S128x4096) (φ := .f32) .bf16 (pad S128x4096 ![0, 0] ![112, 0] ![0, 0]
      (extractStridedSlice S16x4096 ![6144, 0] y slices_S16400x4096_S16x4096_6144_0)
      (sitofp (F := Ideal) .f32 (constantI S_ 32 0#32)) pads_S16x4096_S128x4096_01120_000 h_S_) bitsLt_bf16_f32 (ix2 r k)
    = if h : r.val < 16 then y (ix2 ⟨6144 + r.val, by omega⟩ k) else (0 : EReal) := by
  pointwise []
  rw [show (FloatOps.sitofp (F := Ideal) .f32 0#32 : EReal) = 0 from by show (((0#32 : BitVec 32).toInt : ℝ) : EReal) = 0; simp]

theorem v6_at (r : Fin 128) (k : Fin 4096) : V5 m ρ c main_v6 (ix2 r k) = if h : r.val < 16 then wi m c (ix2 k ⟨6144 + r.val, by omega⟩) else 0 := by
  have e : V5 m ρ c main_v6 = truncf (F := Ideal) .bf16 (W4 m ρ c (Proc.devRef .tc main_v5)) bitsLt_bf16_f32 := by
    show StableHlo.after hostOps1_2 (W4 m ρ c) (Proc.devRef .tc main_v6) = _
    after_results_simp <;> rfl
  rw [e, v5_eq, v4_eq, c_eq]
  simp only [← v3_at m ρ c]
  exact padded_at _ r k

/-! ## What the regions write -/

theorem v2_0 : W2 m ρ c (Proc.devRef .tc main_v2_0) = arr2 (resEl (ya m c) (yb m c) (wo m c) (x m c)) := by
  refine (W2_arr m ρ c 6).trans ((RegOut.final6 (V1 m ρ) c).trans ?_)
  rw [RegOut.G6, v0_eq, show V1 m ρ c main_arg0 = ya m c from W1_args m ρ c main_arg0 (by decide),
    show V1 m ρ c main_arg1 = yb m c from W1_args m ρ c main_arg1 (by decide), show V1 m ρ c main_arg3 = x m c from W1_args m ρ c main_arg3 (by decide)]

theorem v2_1 : W2 m ρ c (Proc.devRef .tc main_v2_1) = arr2 fun R C => resEl (ya m c) (yb m c) (wo m c) (x m c) R C * g m c (ix1 C) := by
  refine (W2_arr m ρ c 7).trans ((RegOut.final7 (V1 m ρ) c).trans ?_)
  rw [RegOut.G7, v0_eq, show V1 m ρ c main_arg0 = ya m c from W1_args m ρ c main_arg0 (by decide),
    show V1 m ρ c main_arg1 = yb m c from W1_args m ρ c main_arg1 (by decide), show V1 m ρ c main_arg3 = x m c from W1_args m ρ c main_arg3 (by decide)]
  exact congrArg arr2 (funext fun R => funext fun C =>
    congrArg (fun a : EReal => resEl (ya m c) (yb m c) (wo m c) (x m c) R C * a) (v1_at m ρ c C))

theorem v2_2 : W2 m ρ c (Proc.devRef .tc main_v2_2) = arr2 (resSqEl (ya m c) (yb m c) (wo m c) (x m c)) := by
  refine (W2_arr m ρ c 8).trans ((RegOut.final8 (V1 m ρ) c).trans ?_)
  rw [RegOut.G8, v0_eq, show V1 m ρ c main_arg0 = ya m c from W1_args m ρ c main_arg0 (by decide),
    show V1 m ρ c main_arg1 = yb m c from W1_args m ρ c main_arg1 (by decide), show V1 m ρ c main_arg3 = x m c from W1_args m ρ c main_arg3 (by decide)]

/-- The transposed weight keeps its contents up to the second copy. -/
theorem v3_5 : V5 m ρ c main_v3 = W3 m ρ c (Proc.devRef .tc main_v3) :=
  (W5_of m ρ c main_v3 (by decide)).trans (W4_of m ρ c main_v3 (by decide))
theorem v3_8 : V8 m ρ c main_v3 = W3 m ρ c (Proc.devRef .tc main_v3) :=
  (W8_of m ρ c main_v3 (by decide)).trans ((W7_of m ρ c main_v3 (by decide)).trans ((W6_of m ρ c main_v3 (by decide)).trans (v3_5 m ρ c)))

theorem v7_at (r : Fin 6144) (k : Fin 4096) : V7 m ρ c main_v7 (ix2 r k) = wi m c (ix2 k ⟨r.val, by omega⟩) := by
  have e : V7 m ρ c main_v7 = RegCast.G1 (V5 m ρ c main_v3) :=
    (W7_of m ρ c main_v7 (by decide)).trans ((W6_arr m ρ c 1).trans (RegCast.final1 (V5 m ρ) c))
  rw [e, v3_5]
  exact v3_at m ρ c ⟨r.val, by omega⟩ k

theorem v11_at (r : Fin 10240) (k : Fin 4096) : V9 m ρ c main_v11 (ix2 r k) = wi m c (ix2 k ⟨6160 + r.val, by omega⟩) := by
  have e : V9 m ρ c main_v11 = RegCast.G3 (V8 m ρ c main_v3) := (W9_arr m ρ c 1).trans (RegCast.final3 (V8 m ρ) c)
  rw [e, v3_8]
  exact v3_at m ρ c ⟨6160 + r.val, by omega⟩ k

/-- Region 0's second and third arrays keep their contents through the projections. -/
theorem keep7 (b : Ref sig .tc) (h : b ∈ [main_v2_1, main_v2_2]) : V7 m ρ c b = W2 m ρ c (Proc.devRef .tc b) := by
  have hb : b = main_v2_1 ∨ b = main_v2_2 := by simpa using h
  rcases hb with rfl | rfl <;>
  exact (W7_of m ρ c _ (by decide)).trans ((W6_of m ρ c _ (by decide)).trans ((W5_of m ρ c _ (by decide)).trans
    ((W4_of m ρ c _ (by decide)).trans (W3_of m ρ c _ (by decide)))))
theorem keep9 (b : Ref sig .tc) (h : b ∈ [main_v2_1, main_v2_2]) : V9 m ρ c b = W2 m ρ c (Proc.devRef .tc b) := by
  have hb : b = main_v2_1 ∨ b = main_v2_2 := by simpa using h
  rcases hb with rfl | rfl <;>
  exact (W9_of m ρ c _ (by decide)).trans ((W8_of m ρ c _ (by decide)).trans (keep7 m ρ c _ (by decide)))
theorem keep10 (b : Ref sig .tc) (h : b ∈ [main_v2_1, main_v2_2]) : V10 m ρ c b = W2 m ρ c (Proc.devRef .tc b) := by
  have hb : b = main_v2_1 ∨ b = main_v2_2 := by simpa using h
  rcases hb with rfl | rfl <;>
  exact (W10_of m ρ c _ (by decide)).trans (keep9 m ρ c _ (by decide))

theorem v8_at (l : Fin 128) : V7 m ρ c main_v8 (ix2 0 l) = gq m c (ix1 l) := by
  have e : V7 m ρ c main_v8 = shapeCast S1x128 (W6 m ρ c (Proc.devRef .tc main_arg6)) shapeCasts_S128_S1x128 := by
    show StableHlo.after hostOps2 (W6 m ρ c) (Proc.devRef .tc main_v8) = _
    after_results_simp <;> rfl
  rw [e, W6_args m ρ c main_arg6 (by decide)]
  pointwise []

theorem v9_at (l : Fin 128) : V7 m ρ c main_v9 (ix2 0 l) = gk m c (ix1 l) := by
  have e : V7 m ρ c main_v9 = shapeCast S1x128 (W6 m ρ c (Proc.devRef .tc main_arg7)) shapeCasts_S128_S1x128 := by
    show StableHlo.after hostOps2 (W6 m ρ c) (Proc.devRef .tc main_v9) = _
    after_results_simp <;> rfl
  rw [e, W6_args m ρ c main_arg7 (by decide)]
  pointwise []

theorem v6_10 : V10 m ρ c main_v6 = V5 m ρ c main_v6 :=
  (W10_of m ρ c main_v6 (by decide)).trans ((W9_of m ρ c main_v6 (by decide)).trans ((W8_of m ρ c main_v6 (by decide)).trans
    ((W7_of m ρ c main_v6 (by decide)).trans (W6_of m ρ c main_v6 (by decide)))))

/-! ## The program's results -/

theorem out0 : W11 m ρ c (Proc.devRef .tc main_v2_0) = arr2 (resEl (ya m c) (yb m c) (wo m c) (x m c)) :=
  (W11_of m ρ c main_v2_0 (by decide)).trans ((W10_of m ρ c main_v2_0 (by decide)).trans ((W9_of m ρ c main_v2_0 (by decide)).trans
    ((W8_of m ρ c main_v2_0 (by decide)).trans ((W7_of m ρ c main_v2_0 (by decide)).trans ((W6_of m ρ c main_v2_0 (by decide)).trans
      ((W5_of m ρ c main_v2_0 (by decide)).trans ((W4_of m ρ c main_v2_0 (by decide)).trans ((W3_of m ρ c main_v2_0 (by decide)).trans
        (v2_0 m ρ c)))))))))

theorem out1 : W11 m ρ c (Proc.devRef .tc main_v10) = RegQkv.G2 (V7 m ρ) c :=
  (W11_of m ρ c main_v10 (by decide)).trans ((W10_of m ρ c main_v10 (by decide)).trans ((W9_of m ρ c main_v10 (by decide)).trans
    ((W8_arr m ρ c 5).trans (RegQkv.final2 (V7 m ρ) c))))

theorem out2 : W11 m ρ c (Proc.devRef .tc main_v12)
    = arr2 (projEl (n := 10240) (V9 m ρ c main_v2_1) (V9 m ρ c main_v11) (V9 m ρ c main_v2_2)) :=
  (W11_of m ρ c main_v12 (by decide)).trans ((W10_arr m ρ c 3).trans (RegProj.final4 (V9 m ρ) c))

theorem out3 : W11 m ρ c (Proc.devRef .tc main_v13)
    = arr2 (projEl (n := 128) (V10 m ρ c main_v2_1) (V10 m ρ c main_v6) (V10 m ρ c main_v2_2)) :=
  (W11_arr m ρ c 3).trans (RegProj.final5 (V10 m ρ) c)

end Cert.Val.Chain

end
-- ==== Proof.Val.Math.lean ====
module

public import proofs.«01_k».proof.Proof.Val.Base

@[expose] public section

noncomputable section

/-! The arithmetic on which the kernel's and the reference's normalizations differ, over the extended reals: a row's
    sum of squares held tile by tile in 128 equal lanes; a row's factor taken out of a sum. -/

namespace Cert.Val

open Idealize.ShloMosaic Cert.Val.Pay

/-- The row's root-mean-square factor. -/
def rmsR (X : Fin 4096 → EReal) : EReal :=
  Ideal.rsqrt (Ideal.div (∑ k, X k * X k) (Ideal.ofBits .f32 0x45800000#32) + Ideal.ofBits .f32 0x358637BD#32)

theorem sq_nonneg (a : EReal) : 0 ≤ a * a := by
  rcases le_total 0 a with h | h
  · exact mul_nonneg h h
  · have := mul_nonneg (EReal.neg_nonneg.2 h) (EReal.neg_nonneg.2 h)
    rwa [neg_mul_neg] at this

theorem lit_scale : Ideal.ofBits .f32 0x36000000#32 = (((1 / 524288 : ℝ)) : EReal) := by
  simp [Ideal.ofBits, Ideal.ieee, -EReal.coe_mul]; norm_num

theorem lit_width : Ideal.ofBits .f32 0x45800000#32 = ((4096 : ℝ) : EReal) := by
  simp [Ideal.ofBits, Ideal.ieee, -EReal.coe_mul]; norm_num

theorem lit_eps : ∃ e : ℝ, 0 < e ∧ Ideal.ofBits .f32 0x358637BD#32 = (e : EReal) := by
  refine ⟨8796093 * 2 ^ (-43 : ℤ), by positivity, ?_⟩
  simp [Ideal.ofBits, Ideal.ieee, -EReal.coe_mul]

/-- A sum over 512 lanes of a value that depends on the tile of 128 lanes alone, scaled by 2^-19, is the tiles' sum over 4096. -/
theorem lanes_sum (S : Fin 4 → EReal) :
    (∑ a : Fin 512, S ⟨a.val / 128, by omega⟩) * Ideal.ofBits .f32 0x36000000#32
      = Ideal.div (∑ j, S j) (Ideal.ofBits .f32 0x45800000#32) := by
  rw [lit_scale, lit_width, Ideal.div_coe (by norm_num), Fin.sum_univ_tiles 4 128 (by norm_num)]
  have e : ∀ j : Fin 4, (∑ t : Fin 128, S ⟨(j.val * 128 + t.val) / 128, by omega⟩) = 128 • S j := by
    intro j
    rw [Finset.sum_congr rfl fun t _ => (by congr 1; exact Fin.ext (show (j.val * 128 + t.val) / 128 = j.val by omega) :
      S ⟨(j.val * 128 + t.val) / 128, by omega⟩ = S j)]
    simp
  rw [Finset.sum_congr rfl fun j _ => e j, ← Finset.smul_sum, EReal.nsmul_eq_mul, mul_comm ((128 : ℕ) : EReal), mul_assoc]
  congr 1
  rw [show ((128 : ℕ) : EReal) = ((128 : ℝ) : EReal) from rfl, ← EReal.coe_mul]
  norm_num

/-- The factor from the 512 lanes is the row's root-mean-square factor. -/
theorem rowR_tiles (X : Fin 4096 → EReal) :
    (rowR fun a : Fin 512 => ∑ k : Fin 1024, X ⟨1024 * (a.val / 128) + k.val, by omega⟩ * X ⟨1024 * (a.val / 128) + k.val, by omega⟩)
      = rmsR X := by
  unfold rowR rmsR
  congr 2
  rw [lanes_sum (fun j => ∑ k : Fin 1024, X ⟨1024 * j.val + k.val, by omega⟩ * X ⟨1024 * j.val + k.val, by omega⟩)]
  congr 1
  rw [Fin.sum_univ_tiles 4 1024 (by norm_num) fun k : Fin 4096 => X k * X k]
  simp only [Nat.mul_comm]

/-- A row's factor is not negative and not infinite. -/
theorem rmsR_fin (X : Fin 4096 → EReal) : 0 ≤ rmsR X ∧ rmsR X ≠ ⊤ := by
  have h0 : 0 ≤ ∑ k, X k * X k := Finset.sum_nonneg fun k _ => sq_nonneg (X k)
  obtain ⟨e, he, hl⟩ := lit_eps
  unfold rmsR
  rw [lit_width, Ideal.div_coe (by norm_num), hl]
  generalize (∑ k, X k * X k) = s at h0
  induction s with
  | bot => exact absurd h0 (by simp)
  | top =>
    rw [EReal.top_mul_coe_of_pos (by norm_num), EReal.top_add_coe, Ideal.rsqrt_top]
    exact ⟨le_rfl, EReal.zero_ne_top⟩
  | coe s =>
    have hs : 0 ≤ s := by exact_mod_cast h0
    have hp : 0 < s * (1 / 4096) + e := by positivity
    rw [← EReal.coe_mul, ← EReal.coe_add, Ideal.rsqrt_coe, if_neg (not_lt.2 hp.le), if_neg hp.ne']
    exact ⟨by exact_mod_cast (inv_nonneg.2 (Real.sqrt_nonneg _)), EReal.coe_ne_top _⟩

/-- A factor that is not negative and not infinite moves into a sum. -/
theorem sum_mul_fin {ι : Type} (s : Finset ι) (f : ι → EReal) {r : EReal} (h0 : 0 ≤ r) (ht : r ≠ ⊤) :
    (∑ k ∈ s, f k) * r = ∑ k ∈ s, f k * r := by
  classical
  induction s using Finset.induction_on with
  | empty => simp
  | insert a s ha ih => rw [Finset.sum_insert ha, Finset.sum_insert ha, EReal.right_distrib_of_nonneg_of_ne_top h0 ht, ih]

/-- The product of a row's entries with a weight's, normalized after the sum or before it. -/
theorem normed_product (X g w : Fin 4096 → EReal) :
    (∑ k, X k * g k * w k) * rmsR X = ∑ k, X k * rmsR X * g k * w k := by
  rw [sum_mul_fin _ _ (rmsR_fin X).1 (rmsR_fin X).2]
  refine Finset.sum_congr rfl fun k _ => ?_
  rw [mul_right_comm (X k) (rmsR X) (g k), mul_right_comm (X k * g k) (rmsR X) (w k)]

end Cert.Val

end
-- ==== Proof.Val.Ref.lean ====
module

public import proofs.«01_k».proof.Proof.Gen.ReferenceIdeal.Read
public import proofs.«01_k».proof.Proof.Val.Math
public import Idealize.ShloMosaic.Lib.Pointwise

@[expose] public section

noncomputable section

/-! The reference's values, entry by entry, over the extended reals. -/

namespace Cert.Val.Ref

open Idealize.ShloMosaic Cert.ReferenceIdeal Cert.ReferenceIdeal.Read Cert.Val Cert.Val.Pay

variable (ya yb : (⟨S16384x2048, .bf16⟩ : BufTy).Contents (Elt Ideal)) (wo : (⟨S4096x4096, .f32⟩ : BufTy).Contents (Elt Ideal))
  (x : (⟨S16384x4096, .f32⟩ : BufTy).Contents (Elt Ideal)) (g : (⟨S4096, .f32⟩ : BufTy).Contents (Elt Ideal))
  (R : Fin 16384) (C : Fin 4096)

/-- The residual stream: one product of the two mixers' outputs side by side is the sum of the two halves' products. -/
theorem x_apply : val_main_v4 ya yb wo x (ix2 R C) = resEl ya yb wo x R C := by
  have e : val_main_v4 ya yb wo x (ix2 R C) = x (ix2 R C) + ∑ k : Fin 4096, val_main_v2 ya yb (ix2 R k) * wo (ix2 k C) := by
    pointwise [val_main_v4, val_main_v3]
  rw [e, Fin.sum_univ_two_halves 2048 2048 rfl]
  unfold resEl
  refine congrArg₂ (fun a b : EReal => a + b) rfl (congrArg₂ (fun a b : EReal => a + b) ?_ ?_)
  · refine Finset.sum_congr rfl fun k _ => ?_
    pointwise [val_main_v2, val_main_v0, val_main_v1]
  · refine Finset.sum_congr rfl fun k _ => ?_
    pointwise [val_main_v2, val_main_v0, val_main_v1]

theorem h_apply : val_main_v17 ya yb wo x g (ix2 R C)
    = resEl ya yb wo x R C * rmsR (fun k => resEl ya yb wo x R k) * g (ix1 C) := by
  unfold rmsR
  simp only [← x_apply]
  pointwise [val_main_v17, val_main_v16, val_main_v15, val_main_v14, val_main_v13, val_main_v12, val_main_v11, val_main_v10, val_main_v9,
    val_main_v8, val_main_v7, val_main_v6, val_main_v5, val_main_cst, val_main_cst_0, val_main_cst_1]

variable (wi : (⟨S4096x16400, .f32⟩ : BufTy).Contents (Elt Ideal)) (gq gk : (⟨S128, .f32⟩ : BufTy).Contents (Elt Ideal))

/-- Entry (R, C) of the reference's projection of the normalized rows. -/
def refP (R : Fin 16384) (C : Fin 16400) : EReal :=
  ∑ k : Fin 4096, resEl ya yb wo x R k * rmsR (fun k => resEl ya yb wo x R k) * g (ix1 k) * wi (ix2 k C)

theorem p_apply (D : Fin 16400) : val_main_v18 ya yb wo x g wi (ix2 R D) = refP ya yb wo x g wi R D := by
  have e : val_main_v18 ya yb wo x g wi (ix2 R D) = ∑ k : Fin 4096, val_main_v17 ya yb wo x g (ix2 R k) * wi (ix2 k D) := by
    pointwise [val_main_v18]
  rw [e]
  exact Finset.sum_congr rfl fun k _ => by rw [h_apply]

/-- A head's row, normalized: lane l over the head's root mean square, times the gain. -/
def headRef (p : Fin 128 → EReal) (g : EReal) (l : Fin 128) : EReal :=
  p l * Ideal.rsqrt (Ideal.div (∑ q, p q * p q) (Ideal.ofBits .f32 0x43000000#32) + Ideal.ofBits .f32 0x358637BD#32) * g

theorem q_apply (D : Fin 2048) : val_main_v54 ya yb wo x g wi gq (ix2 R D)
    = headRef (fun q => refP ya yb wo x g wi R ⟨128 * (D.val / 128) + q.val, by omega⟩) (gq (ix1 ⟨D.val % 128, by omega⟩)) ⟨D.val % 128, by omega⟩
      * Ideal.ofBits .f32 0x3E0293EE#32 := by
  unfold headRef
  simp only [← p_apply]
  pointwise [val_main_v54, val_main_v39, val_main_v38, val_main_v37, val_main_v36, val_main_v35, val_main_v34, val_main_v33, val_main_v32,
    val_main_v31, val_main_v30, val_main_v29, val_main_v28, val_main_v27, val_main_v26, val_main_v25, val_main_v24, val_main_v19,
    val_main_cst_2, val_main_cst_3, val_main_cst_4, val_main_cst_5]
  simp only [Nat.mul_comm 128, Nat.div_add_mod']

theorem k_apply (D : Fin 2048) : val_main_v55 ya yb wo x g wi gk (ix2 R D)
    = headRef (fun q => refP ya yb wo x g wi R ⟨2048 + (128 * (D.val / 128) + q.val), by omega⟩) (gk (ix1 ⟨D.val % 128, by omega⟩))
      ⟨D.val % 128, by omega⟩ := by
  unfold headRef
  simp only [← p_apply]
  pointwise [val_main_v55, val_main_v53, val_main_v52, val_main_v51, val_main_v50, val_main_v49, val_main_v48,
    val_main_v47, val_main_v46, val_main_v45, val_main_v44, val_main_v43, val_main_v42, val_main_v41, val_main_v40, val_main_v20,
    val_main_cst_6, val_main_cst_7, val_main_cst_8]
  simp only [Nat.mul_comm 128, Nat.div_add_mod']

/-- Entry (R, D) of the reference's q, k, v side by side, from its row of the projection. -/
def refQkv (p : Fin 16400 → EReal) (gq gk : Fin 128 → EReal) (D : Fin 6144) : EReal :=
  if D.val < 2048 then
    headRef (fun q => p ⟨128 * (D.val / 128) + q.val, by omega⟩) (gq ⟨D.val % 128, by omega⟩) ⟨D.val % 128, by omega⟩
      * Ideal.ofBits .f32 0x3E0293EE#32
  else if D.val < 4096 then
    headRef (fun q => p ⟨128 * (D.val / 128) + q.val, by omega⟩) (gk ⟨D.val % 128, by omega⟩) ⟨D.val % 128, by omega⟩
  else p ⟨D.val, by omega⟩

theorem qkv_apply (D : Fin 6144) : val_main_v57 ya yb wo x g wi gq gk (ix2 R D)
    = refQkv (refP ya yb wo x g wi R) (fun l => gq (ix1 l)) (fun l => gk (ix1 l)) D := by
  unfold refQkv
  have e : val_main_v57 ya yb wo x g wi gq gk (ix2 R D)
      = if h : D.val < 2048 then val_main_v54 ya yb wo x g wi gq (ix2 R ⟨D.val, h⟩)
        else if h' : D.val - 2048 < 2048 then val_main_v55 ya yb wo x g wi gk (ix2 R ⟨D.val - 2048, h'⟩)
        else val_main_v18 ya yb wo x g wi (ix2 R ⟨4096 + (D.val - 2048 - 2048), by omega⟩) := by
    pointwise [val_main_v57, val_main_v56, val_main_v21]
  rw [e]
  split_ifs with h1 h2 h3 h4
  · exact q_apply ya yb wo x g R wi gq ⟨D.val, h1⟩
  · refine (k_apply ya yb wo x g R wi gk ⟨D.val - 2048, h2⟩).trans ?_
    have a : (D.val - 2048) % 128 = D.val % 128 := by omega
    have b : ∀ q : Nat, 2048 + (128 * ((D.val - 2048) / 128) + q) = 128 * (D.val / 128) + q := fun q => by omega
    simp only [a, b]
  · omega
  · omega
  · rw [p_apply]
    refine congrArg (refP ya yb wo x g wi R) ?_
    exact Fin.ext (show 4096 + (D.val - 2048 - 2048) = D.val by omega)

theorem rest_apply (D : Fin 10240) : val_main_v58 ya yb wo x g wi (ix2 R D) = refP ya yb wo x g wi R ⟨6160 + D.val, by omega⟩ := by
  rw [← p_apply]
  pointwise [val_main_v58, val_main_v23]

theorem f_apply (D : Fin 128) : val_main_v59 ya yb wo x g wi (ix2 R D)
    = if h : D.val < 16 then refP ya yb wo x g wi R ⟨6144 + D.val, by omega⟩ else 0 := by
  simp only [← p_apply]
  pointwise [val_main_v59, val_main_v22, val_main_call0_v0, val_main_c]
  rw [show (FloatOps.sitofp (F := Ideal) .f32 0#32 : EReal) = 0 from by show (((0#32 : BitVec 32).toInt : ℝ) : EReal) = 0; simp]

end Cert.Val.Ref

end
-- ==== Proof.Val.Results.lean ====
module

public import proofs.«01_k».proof.Proof.Val.Chain
public import proofs.«01_k».proof.Proof.Val.Ref

@[expose] public section

noncomputable section

/-! The program's four results are the reference's, entry by entry. -/

namespace Cert.Val.Results

open Idealize.ShloMosaic Idealize.ShloMosaic.TcCoe Cert.KernelIdeal Cert.KernelIdeal.Gen Cert.Val Cert.Val.Pay Cert.Val.Chain

variable (m : (ℓ : Loc nD τ sig) → Buf (Elt Ideal) ℓ) (ρ : Dev nD → PrngReg) (c : Dev nD)

/-- Row R of the residual stream. -/
abbrev row (R : Fin 16384) (k : Fin 4096) : EReal := resEl (ya m c) (yb m c) (wo m c) (x m c) R k
/-- Row R of the reference's projection. -/
abbrev proj (R : Fin 16384) (C : Fin 16400) : EReal := Ref.refP (ya m c) (yb m c) (wo m c) (x m c) (g m c) (wi m c) R C

/-- Normalizing after the product, with the factor from the tiles' sums of squares, gives the reference's product of normalized rows. -/
theorem projEl_eq {n : Nat} (h : (⟨2, ![16384, 4096]⟩ : Shape).Idx → EReal) (w : (⟨2, ![n, 4096]⟩ : Shape).Idx → EReal)
    (ss : (⟨2, ![16384, 512]⟩ : Shape).Idx → EReal) (R : Fin 16384) (C : Fin n) (D : Fin 16400)
    (hh : h = arr2 fun R C => row m c R C * g m c (ix1 C)) (hs : ss = arr2 (resSqEl (ya m c) (yb m c) (wo m c) (x m c)))
    (hw : ∀ k, w (ix2 C k) = wi m c (ix2 k D)) : projEl h w ss R C = proj m c R D := by
  subst hh hs
  unfold projEl proj Ref.refP
  simp only [arr2_ix, hw]
  rw [show (rowR fun a => resSqEl (ya m c) (yb m c) (wo m c) (x m c) R a) = rmsR (row m c R) from rowR_tiles (row m c R)]
  exact normed_product (row m c R) (fun k => g m c (ix1 k)) fun k => wi m c (ix2 k D)

/-- A head's entry with the flag set is the reference's. -/
theorem headEl_one (p g : Fin 128 → EReal) (l : Fin 128) : headEl p 1#1 g l = Ref.headRef p (g l) l := rfl

theorem headEl_zero (p g : Fin 128 → EReal) (l : Fin 128) : headEl p 0#1 g l = p l * 1 * g l := rfl

theorem tile_cases : ∀ n : Fin 6, (Scalar.cmpi .slt (BitVec.ofNat 32 n.val) 4#32 = if n.val < 4 then 1#1 else 0#1)
    ∧ (Scalar.cmpi .slt (BitVec.ofNat 32 n.val) 2#32 = if n.val < 2 then 1#1 else 0#1) := by decide

/-- Entry (R, C) of the kernel's q, k, v is the reference's. -/
theorem qkv_eq (R : Fin 16384) (C : Fin 6144) :
    qkvEl (V7 m ρ c main_v2_1) (V7 m ρ c main_v7) (V7 m ρ c main_v8) (V7 m ρ c main_v9) (V7 m ρ c main_v2_2) R C
      = Ref.refQkv (proj m c R) (fun l => gq m c (ix1 l)) (fun l => gk m c (ix1 l)) C := by
  have hp : ∀ D : Fin 6144, projEl (V7 m ρ c main_v2_1) (V7 m ρ c main_v7) (V7 m ρ c main_v2_2) R D = proj m c R ⟨D.val, by omega⟩ := fun D =>
    projEl_eq m c _ _ _ R D _ ((keep7 m ρ c main_v2_1 (by decide)).trans (v2_1 m ρ c)) ((keep7 m ρ c main_v2_2 (by decide)).trans (v2_2 m ρ c))
      fun k => v7_at m ρ c D k
  obtain ⟨t4, t2⟩ := tile_cases ⟨C.val / 1024, by omega⟩
  unfold qkvEl Ref.refQkv
  simp only [hp]
  have hg : gainEl (V7 m ρ c main_v8) (V7 m ρ c main_v9) (C.val / 1024) = fun l =>
      if C.val < 2048 then gq m c (ix1 l) * Ideal.ofBits .f32 0x3E0293EE#32 else if C.val < 4096 then gk m c (ix1 l) else 1 := by
    funext l
    unfold gainEl
    rw [v8_at, v9_at, t4, t2]
    by_cases h1 : C.val < 2048
    · rw [if_pos (show C.val / 1024 < 4 by omega), if_pos (show C.val / 1024 < 2 by omega), if_pos h1]; rfl
    · by_cases h2 : C.val < 4096
      · rw [if_pos (show C.val / 1024 < 4 by omega), if_neg (show ¬ C.val / 1024 < 2 by omega), if_neg h1, if_pos h2]; rfl
      · rw [if_neg (show ¬ C.val / 1024 < 4 by omega), if_neg h1, if_neg h2]; rfl
  rw [hg, t4]
  by_cases h1 : C.val < 2048
  · rw [if_pos (show C.val / 1024 < 4 by omega), if_pos h1, headEl_one]
    simp only [if_pos h1]
    unfold Ref.headRef
    rw [← mul_assoc]
  · by_cases h2 : C.val < 4096
    · rw [if_pos (show C.val / 1024 < 4 by omega), if_neg h1, if_pos h2, headEl_one]
      simp only [if_neg h1, if_pos h2]
    · rw [if_neg (show ¬ C.val / 1024 < 4 by omega), if_neg h1, if_neg h2, headEl_zero]
      simp only [if_neg h1, if_neg h2, mul_one]
      exact congrArg (proj m c R) (Fin.ext (by show 128 * (C.val / 128) + C.val % 128 = C.val; omega))

theorem r0_eq : W11 m ρ c (Proc.devRef .tc main_v2_0) = Cert.ReferenceIdeal.Read.val_main_v4 (F := Ideal) (ya m c) (yb m c) (wo m c) (x m c) := by
  rw [out0]
  funext j
  obtain ⟨R, C, rfl⟩ := ix2_eta (n := 16384) (k := 4096) j
  exact (Ref.x_apply (ya m c) (yb m c) (wo m c) (x m c) R C).symm

theorem r1_eq : W11 m ρ c (Proc.devRef .tc main_v10)
    = Cert.ReferenceIdeal.Read.val_main_v57 (F := Ideal) (ya m c) (yb m c) (wo m c) (x m c) (g m c) (wi m c) (gq m c) (gk m c) := by
  rw [out1]
  funext j
  obtain ⟨R, C, rfl⟩ := ix2_eta (n := 16384) (k := 6144) j
  exact (qkv_eq m ρ c R C).trans (Ref.qkv_apply (ya m c) (yb m c) (wo m c) (x m c) (g m c) R (wi m c) (gq m c) (gk m c) C).symm

theorem r2_eq : W11 m ρ c (Proc.devRef .tc main_v12)
    = Cert.ReferenceIdeal.Read.val_main_v58 (F := Ideal) (ya m c) (yb m c) (wo m c) (x m c) (g m c) (wi m c) := by
  rw [out2]
  funext j
  obtain ⟨R, C, rfl⟩ := ix2_eta (n := 16384) (k := 10240) j
  exact (projEl_eq m c _ _ _ R C ⟨6160 + C.val, by omega⟩ ((keep9 m ρ c main_v2_1 (by decide)).trans (v2_1 m ρ c))
    ((keep9 m ρ c main_v2_2 (by decide)).trans (v2_2 m ρ c)) fun k => v11_at m ρ c C k).trans
      (Ref.rest_apply (ya m c) (yb m c) (wo m c) (x m c) (g m c) R (wi m c) C).symm

theorem r3_eq : W11 m ρ c (Proc.devRef .tc main_v13)
    = Cert.ReferenceIdeal.Read.val_main_v59 (F := Ideal) (ya m c) (yb m c) (wo m c) (x m c) (g m c) (wi m c) := by
  rw [out3]
  funext j
  obtain ⟨R, C, rfl⟩ := ix2_eta (n := 16384) (k := 128) j
  refine Eq.trans ?_ (Ref.f_apply (ya m c) (yb m c) (wo m c) (x m c) (g m c) R (wi m c) C).symm
  have hw : ∀ k, V10 m ρ c main_v6 (ix2 C k) = if h : C.val < 16 then wi m c (ix2 k ⟨6144 + C.val, by omega⟩) else 0 := fun k => by
    rw [v6_10]; exact v6_at m ρ c C k
  rw [arr2_ix]
  by_cases h : C.val < 16
  · rw [dif_pos h]
    exact projEl_eq m c _ _ _ R C ⟨6144 + C.val, by omega⟩ ((keep10 m ρ c main_v2_1 (by decide)).trans (v2_1 m ρ c))
      ((keep10 m ρ c main_v2_2 (by decide)).trans (v2_2 m ρ c)) fun k => (hw k).trans (dif_pos h)
  · rw [dif_neg h]
    unfold projEl
    rw [Finset.sum_eq_zero fun k _ => by rw [(hw k).trans (dif_neg h), mul_zero], zero_mul]

end Cert.Val.Results

end
-- ==== Proof.Val.Run2.lean ====
module

public import proofs.«01_k».proof.Proof.Gen.Kernel2Ideal.Frame

@[expose] public section

noncomputable section

/-! The whole run, with every array of the final state at its contents after the last region. -/

namespace Cert.Val.Run2

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Cert.Kernel2Ideal Cert.Kernel2Ideal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every execution ends with each array at its contents at the last boundary, and with no counter raised. -/
theorem run : θ_run defs (onTc (τ := τ) (main (F := F))) ⟨m, fun _ => 0, ρ⟩ (fun r =>
    (∀ c : Dev nD, ∀ b ∈ Pipeline.ucRefs τ sig, r.2.mem (((c : Thread nD τ)).1, b) = W4 m ρ c b) ∧ r.2.sem = fun _ => 0) :=
  Pipeline.θ_run_regions_kit_sems (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    (hQ := fun s h hz => ⟨h, funext fun g => hz g (.inr (no_unscoped g.2))⟩)

end Cert.Val.Run2

end
-- ==== Proof.Val.Layer0.lean ====
module

public import proofs.«01_k».proof.Proof.Gen.Kernel2Ideal.Frame
public import proofs.«01_k».proof.Proof.Gen.Reference2Ideal.Read
public import Idealize.ShloMosaic.Lib.Pipeline.Value
public import Idealize.ShloMosaic.Lib.Pipeline.ValueKit
public import Idealize.ShloMosaic.Lib.Pointwise
public import proofs.«01_k».proof.Proof.Val.Base
public import proofs.«01_k».proof.Proof.Val.Math

@[expose] public section

noncomputable section

/-! The second program: layer 0's norm and input projection, whose q columns carry the logits' scale. -/

namespace Cert.Val.Layer0

open Idealize.ShloMosaic Idealize.ShloMosaic.TcCoe Cert.Kernel2Ideal Cert.Kernel2Ideal.Gen Cert.Val
open Idealize.ShloMosaic.Pipeline (Dat Cfg Window)

/-! ## The bodies' values -/

theorem k0_apply (v : FVec Ideal S512x4096 .f32) (g : FVec Ideal S1x4096 .f32) (r : Fin 512) (l : Fin 4096) :
    k0_pay1 (F := Ideal) v g (ix2 r l) = v (ix2 r l) * rmsR (fun k => v (ix2 r k)) * g (ix2 0 l) := by
  unfold rmsR
  pointwise [k0_pay1]

theorem k1_apply (v0 : FVec Ideal S1024x4096 .bf16) (v2 : FVec Ideal S4096x1024 .bf16) (v5 : FVec Ideal S1x1024 .f32) (r l : Fin 1024) :
    k1_pay1 (F := Ideal) v0 v2 v5 (ix2 r l) = (∑ k : Fin 4096, v0 (ix2 r k) * v2 (ix2 k l)) * v5 (ix2 0 l) := by
  pointwise [k1_pay1]

/-! ## What each region leaves -/

section Regions
variable (V : (c : Dev nD) → (b : Ref sig .tc) → Buf (Elt Ideal) ((c : Thread nD τ).loc b)) (c : Dev nD)

/-- Entry (R, C) of the normalized rows. -/
def normEl (x : (⟨2, ![16384, 4096]⟩ : Shape).Idx → EReal) (g : (⟨2, ![1, 4096]⟩ : Shape).Idx → EReal) (R : Fin 16384) (C : Fin 4096) : EReal :=
  x (ix2 R C) * rmsR (fun k => x (ix2 R k)) * g (ix2 0 C)

/-- Entry (R, C) of a projection with a factor for each column. -/
def scaledEl (h : (⟨2, ![16384, 4096]⟩ : Shape).Idx → EReal) (w : (⟨2, ![4096, 12288]⟩ : Shape).Idx → EReal)
    (s : (⟨2, ![1, 12288]⟩ : Shape).Idx → EReal) (R : Fin 16384) (C : Fin 12288) : EReal :=
  (∑ k : Fin 4096, h (ix2 R k) * w (ix2 k C)) * s (ix2 0 C)

theorem in0_0 : ∀ t : Fin cfg0.N, win0_0.index t (0 : Fin 2) = t.val ∧ win0_0.index t (1 : Fin 2) = 0 :=
  (by decide +kernel : ∀ t : Fin grid0.N, _)
theorem in0_1 : ∀ t : Fin cfg0.N, win0_1.index t (0 : Fin 2) = 0 ∧ win0_1.index t (1 : Fin 2) = 0 :=
  (by decide +kernel : ∀ t : Fin grid0.N, _)
theorem ou0 : ∀ t : Fin cfg0.N, win0_2.index t (0 : Fin 2) = t.val ∧ win0_2.index t (1 : Fin 2) = 0 :=
  (by decide +kernel : ∀ t : Fin grid0.N, _)

theorem flushed0 (t : Fin cfg0.N) :
    (dat0 V c).flushed 2 t = ((cfg0.win 2).blk t).view.read (Elt Ideal) (arr2 (normEl (V c main_arg0) (V c main_v0))) := by
  obtain ⟨a0, a1⟩ := in0_0 t
  obtain ⟨b0, b1⟩ := in0_1 t
  obtain ⟨e0, e1⟩ := ou0 t
  have ht : t.val < 32 := lt_of_lt_of_eq t.isLt (by decide)
  show (cfg0.win 2).cut (grid0.coords t) ((dat0 V c).after 2 t) = _
  rw [after0_2]
  unfold out0_2
  rw [View.canon_unit_zero hz, View.ld_unit_zero hz, View.ld_unit_zero hz]
  funext j
  show k0_pay1 (F := Ideal) (iblk0 V c 0 t) (iblk0 V c 1 t) j
    = arr2 (normEl (V c main_arg0) (V c main_v0)) (((cfg0.win 2).blk t).view.emb j)
  obtain ⟨r, l, rfl⟩ := ix2_eta (n := 512) (k := 4096) j
  rw [k0_apply]
  refine Eq.trans ?_ (arr2_at _ _ ⟨512 * t.val + r.val, by omega⟩ l ?_ ?_).symm
  · have hx : ∀ k : Fin 4096, iblk0 V c 0 t (ix2 r k) = V c main_arg0 (ix2 ⟨512 * t.val + r.val, by omega⟩ k) := fun k => by
      refine at_ix2 (V c main_arg0) (((cfg0.win 0).blk t).view.emb (ix2 r k)) _ _ ?_ ?_
      · show win0_0.index t (0 : Fin 2) * 512 + 1 * r.val = 512 * t.val + r.val; omega
      · show win0_0.index t (1 : Fin 2) * 4096 + 1 * k.val = k.val; omega
    have hg : iblk0 V c 1 t (ix2 0 l) = V c main_v0 (ix2 0 l) := by
      refine at_ix2 (V c main_v0) (((cfg0.win 1).blk t).view.emb (ix2 0 l)) _ _ ?_ ?_
      · show win0_1.index t (0 : Fin 2) * 1 + 1 * 0 = 0; omega
      · show win0_1.index t (1 : Fin 2) * 4096 + 1 * l.val = l.val; omega
    unfold normEl
    exact congrArg₂ (fun a b : EReal => a * b) (congrArg₂ (fun a b : EReal => a * b) (hx l) (congrArg rmsR (funext hx))) hg
  · show win0_2.index t (0 : Fin 2) * 512 + 1 * r.val = 512 * t.val + r.val; omega
  · show win0_2.index t (1 : Fin 2) * 4096 + 1 * l.val = l.val; omega

/-- The norm's region leaves the normalized rows. -/
theorem final0 : (dat0 V c).arrAt 2 cfg0.N = arr2 (normEl (V c main_arg0) (V c main_v0)) :=
  (dat0 V c).arrAt_eq_of_cover 2 (arr2 (normEl (V c main_arg0) (V c main_v0))) (fun t _ => flushed0 V c t)
    (Window.Covers.cover (w := cfg0.win 2) (by decide +kernel) (Memref.isWhole_whole _))

theorem in1_0 : ∀ t : Fin cfg1.N, win1_0.index t (0 : Fin 2) = t.val % 16 ∧ win1_0.index t (1 : Fin 2) = 0 :=
  (by decide +kernel : ∀ t : Fin grid1.N, _)
theorem in1_1 : ∀ t : Fin cfg1.N, win1_1.index t (0 : Fin 2) = 0 ∧ win1_1.index t (1 : Fin 2) = t.val / 16 :=
  (by decide +kernel : ∀ t : Fin grid1.N, _)
theorem in1_2 : ∀ t : Fin cfg1.N, win1_2.index t (0 : Fin 2) = 0 ∧ win1_2.index t (1 : Fin 2) = t.val / 16 :=
  (by decide +kernel : ∀ t : Fin grid1.N, _)
theorem ou1 : ∀ t : Fin cfg1.N, win1_3.index t (0 : Fin 2) = t.val % 16 ∧ win1_3.index t (1 : Fin 2) = t.val / 16 :=
  (by decide +kernel : ∀ t : Fin grid1.N, _)

theorem flushed1 (t : Fin cfg1.N) :
    (dat1 V c).flushed 3 t = ((cfg1.win 3).blk t).view.read (Elt Ideal) (arr2 (scaledEl (V c main_v1) (V c main_v5) (V c main_v6))) := by
  obtain ⟨a0, a1⟩ := in1_0 t
  obtain ⟨b0, b1⟩ := in1_1 t
  obtain ⟨d0, d1⟩ := in1_2 t
  obtain ⟨e0, e1⟩ := ou1 t
  have ht : t.val < 192 := lt_of_lt_of_eq t.isLt (by decide)
  show (cfg1.win 3).cut (grid1.coords t) ((dat1 V c).after 3 t) = _
  rw [after1_3]
  unfold out1_3
  rw [View.canon_unit_zero hz, View.ld_unit_zero hz, View.ld_unit_zero hz, View.ld_unit_zero hz]
  funext j
  show k1_pay1 (F := Ideal) (iblk1 V c 0 t) (iblk1 V c 1 t) (iblk1 V c 2 t) j
    = arr2 (scaledEl (V c main_v1) (V c main_v5) (V c main_v6)) (((cfg1.win 3).blk t).view.emb j)
  obtain ⟨r, l, rfl⟩ := ix2_eta (n := 1024) (k := 1024) j
  rw [k1_apply]
  refine Eq.trans ?_ (arr2_at _ _ ⟨1024 * (t.val % 16) + r.val, by omega⟩ ⟨1024 * (t.val / 16) + l.val, by omega⟩ ?_ ?_).symm
  · unfold scaledEl
    refine congrArg₂ (fun a b : EReal => a * b) (Finset.sum_congr rfl fun k _ => congrArg₂ (fun a b : EReal => a * b) ?_ ?_) ?_
    · refine at_ix2 (V c main_v1) (((cfg1.win 0).blk t).view.emb (ix2 r k)) _ _ ?_ ?_
      · show win1_0.index t (0 : Fin 2) * 1024 + 1 * r.val = 1024 * (t.val % 16) + r.val; omega
      · show win1_0.index t (1 : Fin 2) * 4096 + 1 * k.val = k.val; omega
    · refine at_ix2 (V c main_v5) (((cfg1.win 1).blk t).view.emb (ix2 k l)) _ _ ?_ ?_
      · show win1_1.index t (0 : Fin 2) * 4096 + 1 * k.val = k.val; omega
      · show win1_1.index t (1 : Fin 2) * 1024 + 1 * l.val = 1024 * (t.val / 16) + l.val; omega
    · refine at_ix2 (V c main_v6) (((cfg1.win 2).blk t).view.emb (ix2 0 l)) _ _ ?_ ?_
      · show win1_2.index t (0 : Fin 2) * 1 + 1 * 0 = 0; omega
      · show win1_2.index t (1 : Fin 2) * 1024 + 1 * l.val = 1024 * (t.val / 16) + l.val; omega
  · show win1_3.index t (0 : Fin 2) * 1024 + 1 * r.val = 1024 * (t.val % 16) + r.val; omega
  · show win1_3.index t (1 : Fin 2) * 1024 + 1 * l.val = 1024 * (t.val / 16) + l.val; omega

/-- The projection's region leaves the scaled product. -/
theorem final1 : (dat1 V c).arrAt 3 cfg1.N = arr2 (scaledEl (V c main_v1) (V c main_v5) (V c main_v6)) :=
  (dat1 V c).arrAt_eq_of_cover 3 (arr2 (scaledEl (V c main_v1) (V c main_v5) (V c main_v6))) (fun t _ => flushed1 V c t)
    (Window.Covers.cover (w := cfg1.win 3) (by decide +kernel) (Memref.isWhole_whole _))

end Regions

/-! ## The arrays from the launch memory to the end -/

variable (m : (ℓ : Loc nD τ sig) → Buf (Elt Ideal) ℓ) (ρ : Dev nD → PrngReg) (c : Dev nD)

abbrev x : S16384x4096.Idx → EReal := m ((c : Thread nD τ).loc main_arg0)
abbrev g : S4096.Idx → EReal := m ((c : Thread nD τ).loc main_arg1)
abbrev wi : S4096x12288.Idx → EReal := m ((c : Thread nD τ).loc main_arg2)

theorem v0_at (C : Fin 4096) : V1 m ρ c main_v0 (ix2 0 C) = g m c (ix1 C) := by
  have e : V1 m ρ c main_v0 = shapeCast S1x4096 (g m c) shapeCasts_S4096_S1x4096 := by
    show StableHlo.after hostOps0 (W0 m ρ c) (Proc.devRef .tc main_v0) = _
    after_results_simp <;> rfl
  rw [e]
  pointwise []

/-- The normalized rows as the projection finds them. -/
theorem v1_at (R : Fin 16384) (k : Fin 4096) :
    V3 m ρ c main_v1 (ix2 R k) = x m c (ix2 R k) * rmsR (fun k => x m c (ix2 R k)) * g m c (ix1 k) := by
  have e : V3 m ρ c main_v1 = arr2 (normEl (V1 m ρ c main_arg0) (V1 m ρ c main_v0)) :=
    (W3_of m ρ c main_v1 (by decide)).trans ((W2_arr m ρ c 2).trans (final0 (V1 m ρ) c))
  rw [e, show V1 m ρ c main_arg0 = x m c from W1_args m ρ c main_arg0 (by decide), arr2_ix, normEl, v0_at]

theorem v5_eq : V3 m ρ c main_v5 = wi m c := by
  have e : V3 m ρ c main_v5 = truncf (F := Ideal) .bf16 (W2 m ρ c (Proc.devRef .tc main_arg2)) bitsLt_bf16_f32 := by
    show StableHlo.after hostOps1 (W2 m ρ c) (Proc.devRef .tc main_v5) = _
    after_results_simp <;> rfl
  rw [e, W2_args m ρ c main_arg2 (by decide)]
  rfl

/-- The factors: the logits' scale on q's 2048 columns, one on the others. -/
theorem v6_at (C : Fin 12288) : V3 m ρ c main_v6 (ix2 0 C) = if C.val < 2048 then Ideal.ofBits .f32 0x3E0293EE#32 else 1 := by
  have e : V3 m ρ c main_v6 = shapeCast S1x12288 (concatenate S12288 0
      [⟨S2048, broadcastInDim S2048 ![] bcast_S_S2048 (constant (F := Ideal) S_ .f32 0x3E0293EE#32)⟩,
       ⟨S10240, broadcastInDim S10240 ![] bcast_S_S10240 (constant (F := Ideal) S_ .f32 0x3F800000#32)⟩]
      concatenates_S2048_S10240_S12288_d0) shapeCasts_S12288_S1x12288 := by
    show StableHlo.after hostOps1 (W2 m ρ c) (Proc.devRef .tc main_v6) = _
    after_results_simp <;> rfl
  rw [e]
  pointwise []
  exact dite_eq_ite

/-- The program's result. -/
theorem out : W4 m ρ c (Proc.devRef .tc main_v7) = arr2 (scaledEl (V3 m ρ c main_v1) (V3 m ρ c main_v5) (V3 m ρ c main_v6)) :=
  (W4_arr m ρ c 3).trans (final1 (V3 m ρ) c)

/-! ## The reference -/

section Reference
open Cert.Reference2Ideal.Read

theorem ref_h (x0 : S16384x4096.Idx → EReal) (x1 : S4096.Idx → EReal) (R : Fin 16384) (C : Fin 4096) :
    val_main_v12 (F := Ideal) x0 x1 (ix2 R C) = x0 (ix2 R C) * rmsR (fun k => x0 (ix2 R k)) * x1 (ix1 C) := by
  unfold rmsR
  pointwise [val_main_v12, val_main_v11, val_main_v10, val_main_v9, val_main_v8, val_main_v7, val_main_v6, val_main_v5, val_main_v4,
    val_main_v3, val_main_v2, val_main_v1, val_main_v0, val_main_cst, val_main_cst_0, val_main_cst_1]

theorem ref_apply (x0 : S16384x4096.Idx → EReal) (x1 : S4096.Idx → EReal) (x2 : S4096x12288.Idx → EReal) (R : Fin 16384) (C : Fin 12288) :
    val_main_v19 (F := Ideal) x0 x1 x2 (ix2 R C)
      = (∑ k : Fin 4096, x0 (ix2 R k) * rmsR (fun k => x0 (ix2 R k)) * x1 (ix1 k) * x2 (ix2 k C))
        * (if C.val < 2048 then Ideal.ofBits .f32 0x3E0293EE#32 else 1) := by
  simp only [← ref_h]
  have e : val_main_v19 (F := Ideal) x0 x1 x2 (ix2 R C) = if C.val < 2048 then
      (∑ k : Fin 4096, val_main_v12 (F := Ideal) x0 x1 (ix2 R k) * x2 (ix2 k C)) * Ideal.ofBits .f32 0x3E0293EE#32
      else ∑ k : Fin 4096, val_main_v12 (F := Ideal) x0 x1 (ix2 R k) * x2 (ix2 k ⟨2048 + (C.val - 2048), by omega⟩) := by
    pointwise [val_main_v19, val_main_v18, val_main_v17, val_main_v16, val_main_v15, val_main_v14, val_main_v13, val_main_cst_2]
    by_cases h : C.val < 2048
    · exact (dif_pos h).trans (if_pos h).symm
    · exact (dif_neg h).trans (if_neg h).symm
  rw [e]
  by_cases h : C.val < 2048
  · rw [if_pos h, if_pos h]
  · rw [if_neg h, if_neg h, mul_one]
    have hC : (⟨2048 + (C.val - 2048), by omega⟩ : Fin 12288) = C := Fin.ext (by show 2048 + (C.val - 2048) = C.val; omega)
    rw [hC]

end Reference

/-- The program's result is the reference's. -/
theorem result_eq : W4 m ρ c (Proc.devRef .tc main_v7) = Cert.Reference2Ideal.Read.val_main_v19 (F := Ideal) (x m c) (g m c) (wi m c) := by
  rw [out]
  funext j
  obtain ⟨R, C, rfl⟩ := ix2_eta (n := 16384) (k := 12288) j
  refine Eq.trans ?_ (ref_apply (x m c) (g m c) (wi m c) R C).symm
  rw [arr2_ix, scaledEl, v5_eq]
  exact congrArg₂ (fun a b : EReal => a * b)
    (Finset.sum_congr rfl fun k _ => congrArg (fun a : EReal => a * wi m c (ix2 k C)) (v1_at m ρ c R k)) (v6_at m ρ c C)

end Cert.Val.Layer0

end
-- ==== Proof.Val.Out1.lean ====
module

public import proofs.«01_k».proof.Proof.Gen.Kernel3Ideal.Frame
public import proofs.«01_k».proof.Proof.Gen.Reference3Ideal.Read
public import Idealize.ShloMosaic.Lib.Pipeline.Value
public import Idealize.ShloMosaic.Lib.Pipeline.ValueKit
public import Idealize.ShloMosaic.Lib.Pointwise
public import proofs.«01_k».proof.Proof.Val.Base
public import proofs.«01_k».proof.Proof.Val.Math

@[expose] public section

noncomputable section

/-! The third program: layer 1's output projection and residual, the layer's result. -/

namespace Cert.Val.Out1

open Idealize.ShloMosaic Idealize.ShloMosaic.TcCoe Cert.Kernel3Ideal Cert.Kernel3Ideal.Gen Cert.Val
open Idealize.ShloMosaic.Pipeline (Dat Cfg Window)

/-- The body's value: the two half products and the residual's entry. -/
theorem k0_apply (v0 : FVec Ideal S512x2048 .bf16) (v3 : FVec Ideal S2048x1024 .bf16) (v2 : FVec Ideal S512x2048 .bf16)
    (v5 : FVec Ideal S2048x1024 .bf16) (v9 : FVec Ideal S512x1024 .f32) (r : Fin 512) (l : Fin 1024) :
    k0_pay1 (F := Ideal) v0 v3 v2 v5 v9 (ix2 r l)
      = v9 (ix2 r l) + ((∑ k : Fin 2048, v0 (ix2 r k) * v3 (ix2 k l)) + ∑ k : Fin 2048, v2 (ix2 r k) * v5 (ix2 k l)) := by
  pointwise [k0_pay1]

variable (m : (ℓ : Loc nD τ sig) → Buf (Elt Ideal) ℓ) (ρ : Dev nD → PrngReg) (c : Dev nD)

theorem in0 : ∀ t : Fin cfg0.N, win0_0.index t (0 : Fin 2) = t.val % 32 ∧ win0_0.index t (1 : Fin 2) = 0 :=
  (by decide +kernel : ∀ t : Fin grid0.N, _)
theorem in1 : ∀ t : Fin cfg0.N, win0_1.index t (0 : Fin 2) = t.val % 32 ∧ win0_1.index t (1 : Fin 2) = 0 :=
  (by decide +kernel : ∀ t : Fin grid0.N, _)
theorem in2 : ∀ t : Fin cfg0.N, win0_2.index t (0 : Fin 2) = 0 ∧ win0_2.index t (1 : Fin 2) = t.val / 32 :=
  (by decide +kernel : ∀ t : Fin grid0.N, _)
theorem in3 : ∀ t : Fin cfg0.N, win0_3.index t (0 : Fin 2) = 1 ∧ win0_3.index t (1 : Fin 2) = t.val / 32 :=
  (by decide +kernel : ∀ t : Fin grid0.N, _)
theorem in4 : ∀ t : Fin cfg0.N, win0_4.index t (0 : Fin 2) = t.val % 32 ∧ win0_4.index t (1 : Fin 2) = t.val / 32 :=
  (by decide +kernel : ∀ t : Fin grid0.N, _)
theorem ou5 : ∀ t : Fin cfg0.N, win0_5.index t (0 : Fin 2) = t.val % 32 ∧ win0_5.index t (1 : Fin 2) = t.val / 32 :=
  (by decide +kernel : ∀ t : Fin grid0.N, _)

/-- The region's output as one array of what the region finds. -/
def res : S16384x4096.Idx → EReal := arr2 (resEl (V m c main_arg0) (V m c main_arg1) (V m c main_v0) (V m c main_arg3))

theorem flushed5 (t : Fin cfg0.N) : (dats m 0 c).flushed 5 t = ((cfg0.win 5).blk t).view.read (Elt Ideal) (res m c) := by
  obtain ⟨a0, a1⟩ := in0 t
  obtain ⟨b0, b1⟩ := in1 t
  obtain ⟨p0, p1⟩ := in2 t
  obtain ⟨q0, q1⟩ := in3 t
  obtain ⟨d0, d1⟩ := in4 t
  obtain ⟨e0, e1⟩ := ou5 t
  have ht : t.val < 128 := lt_of_lt_of_eq t.isLt (by decide)
  show (cfg0.win 5).cut (grid0.coords t) ((dats m 0 c).after 5 t) = _
  rw [after0_5]
  unfold out0_5
  rw [View.canon_unit_zero hz, View.ld_unit_zero hz, View.ld_unit_zero hz, View.ld_unit_zero hz, View.ld_unit_zero hz, View.ld_unit_zero hz]
  funext j
  show k0_pay1 (F := Ideal) (iblk m c 0 t) (iblk m c 2 t) (iblk m c 1 t) (iblk m c 3 t) (iblk m c 4 t) j
    = res m c (((cfg0.win 5).blk t).view.emb j)
  obtain ⟨r, l, rfl⟩ := ix2_eta (n := 512) (k := 1024) j
  rw [k0_apply]
  unfold res
  refine Eq.trans ?_ (arr2_at _ _ ⟨512 * (t.val % 32) + r.val, by omega⟩ ⟨1024 * (t.val / 32) + l.val, by omega⟩ ?_ ?_).symm
  · unfold resEl
    refine congrArg₂ (fun a b : EReal => a + b) ?_ (congrArg₂ (fun a b : EReal => a + b)
      (Finset.sum_congr rfl fun k _ => congrArg₂ (fun a b : EReal => a * b) ?_ ?_)
      (Finset.sum_congr rfl fun k _ => congrArg₂ (fun a b : EReal => a * b) ?_ ?_))
    · refine at_ix2 (V m c main_arg3) (((cfg0.win 4).blk t).view.emb (ix2 r l)) _ _ ?_ ?_
      · show win0_4.index t (0 : Fin 2) * 512 + 1 * r.val = 512 * (t.val % 32) + r.val; omega
      · show win0_4.index t (1 : Fin 2) * 1024 + 1 * l.val = 1024 * (t.val / 32) + l.val; omega
    · refine at_ix2 (V m c main_arg0) (((cfg0.win 0).blk t).view.emb (ix2 r k)) _ _ ?_ ?_
      · show win0_0.index t (0 : Fin 2) * 512 + 1 * r.val = 512 * (t.val % 32) + r.val; omega
      · show win0_0.index t (1 : Fin 2) * 2048 + 1 * k.val = k.val; omega
    · refine at_ix2 (V m c main_v0) (((cfg0.win 2).blk t).view.emb (ix2 k l)) _ _ ?_ ?_
      · show win0_2.index t (0 : Fin 2) * 2048 + 1 * k.val = k.val; omega
      · show win0_2.index t (1 : Fin 2) * 1024 + 1 * l.val = 1024 * (t.val / 32) + l.val; omega
    · refine at_ix2 (V m c main_arg1) (((cfg0.win 1).blk t).view.emb (ix2 r k)) _ _ ?_ ?_
      · show win0_1.index t (0 : Fin 2) * 512 + 1 * r.val = 512 * (t.val % 32) + r.val; omega
      · show win0_1.index t (1 : Fin 2) * 2048 + 1 * k.val = k.val; omega
    · refine at_ix2 (V m c main_v0) (((cfg0.win 3).blk t).view.emb (ix2 k l)) _ _ ?_ ?_
      · show win0_3.index t (0 : Fin 2) * 2048 + 1 * k.val = 2048 + k.val; omega
      · show win0_3.index t (1 : Fin 2) * 1024 + 1 * l.val = 1024 * (t.val / 32) + l.val; omega
  · show win0_5.index t (0 : Fin 2) * 512 + 1 * r.val = 512 * (t.val % 32) + r.val; omega
  · show win0_5.index t (1 : Fin 2) * 1024 + 1 * l.val = 1024 * (t.val / 32) + l.val; omega

theorem final5 : (dats m 0 c).arrAt 5 cfg0.N = res m c :=
  (dats m 0 c).arrAt_eq_of_cover 5 (res m c) (fun t _ => flushed5 m c t)
    (Window.Covers.cover (w := cfg0.win 5) (by decide +kernel) (Memref.isWhole_whole _))

abbrev yc : S16384x2048.Idx → EReal := m ((c : Thread nD τ).loc main_arg0)
abbrev yd : S16384x2048.Idx → EReal := m ((c : Thread nD τ).loc main_arg1)
abbrev wo : S4096x4096.Idx → EReal := m ((c : Thread nD τ).loc main_arg2)
abbrev x : S16384x4096.Idx → EReal := m ((c : Thread nD τ).loc main_arg3)

/-- The weights the host rounds are the weights. -/
theorem v0_eq : V m c main_v0 = wo m c := by
  have e : V m c main_v0 = truncf (F := Ideal) .bf16 (wo m c) bitsLt_bf16_f32 := by
    show StableHlo.after hostOps0 (fun b => m (c, b)) (Proc.devRef .tc main_v0) = _
    after_results_simp <;> rfl
  rw [e]
  rfl

section Reference
open Cert.Reference3Ideal.Read

/-- The reference: the product of the two halves side by side is the sum of the halves' products. -/
theorem ref_apply (x0 x1 : S16384x2048.Idx → EReal) (x2 : S4096x4096.Idx → EReal) (x3 : S16384x4096.Idx → EReal)
    (R : Fin 16384) (C : Fin 4096) :
    val_main_v4 (F := Ideal) x0 x1 x2 x3 (ix2 R C) = resEl x0 x1 x2 x3 R C := by
  unfold resEl
  pointwise [val_main_v4, val_main_v3]
  congr 1
  refine (Fin.sum_univ_two_halves 2048 2048 rfl _).trans (congrArg₂ (fun a b : EReal => a + b)
    (Finset.sum_congr rfl fun k _ => ?_) (Finset.sum_congr rfl fun k _ => ?_))
  · pointwise [val_main_v2, val_main_v0]
  · pointwise [val_main_v2, val_main_v1]

end Reference

/-- The program's result is the reference's. -/
theorem result_eq : res m c = Cert.Reference3Ideal.Read.val_main_v4 (F := Ideal) (yc m c) (yd m c) (wo m c) (x m c) := by
  funext j
  obtain ⟨R, C, rfl⟩ := ix2_eta (n := 16384) (k := 4096) j
  rw [res, arr2_ix, V_main_arg0, V_main_arg1, V_main_arg3, v0_eq]
  exact (ref_apply (yc m c) (yd m c) (wo m c) (x m c) R C).symm

end Cert.Val.Out1

end
-- ==== Proof.Val.PoolMath.lean ====
module

public import proofs.«01_k».proof.Proof.Val.Base
public import Idealize.ShloMosaic.Lib.IdealHost

@[expose] public section

noncomputable section

/-! What the pooling computes, as plain functions of row and column, and the sums it rests on: doubling a shifted array adds up a
window of rows, a running sum is the sum of the rows before, and the difference of two running sums of finite rows is the sum of the
rows between. -/

namespace Cert.Val.Pool

open Idealize.ShloMosaic Finset

/-- The entry of row `n` and column `k`, zero outside the array. -/
def rd {a b : Nat} (x : (⟨2, ![a, b]⟩ : Shape).Idx → EReal) (n k : Nat) : EReal :=
  if h : n < a ∧ k < b then x (ix2 ⟨n, h.1⟩ ⟨k, h.2⟩) else 0

theorem rd_eq {a b : Nat} (x : (⟨2, ![a, b]⟩ : Shape).Idx → EReal) {n k : Nat} (hn : n < a) (hk : k < b) :
    x (ix2 ⟨n, hn⟩ ⟨k, hk⟩) = rd x n k := by
  unfold rd
  rw [dif_pos ⟨hn, hk⟩]

/-- An array at an index whose coordinates are `n` and `k`. -/
theorem rd_at {a b : Nat} (x : (⟨2, ![a, b]⟩ : Shape).Idx → EReal) (i : (⟨2, ![a, b]⟩ : Shape).Idx) (n k : Nat)
    (h0 : (i 0).val = n) (h1 : (i 1).val = k) : x i = rd x n k := by
  subst h0 h1
  exact (at_ix2 x i ⟨(i 0).val, (i 0).isLt⟩ ⟨(i 1).val, (i 1).isLt⟩ rfl rfl).trans (rd_eq x _ _)

/-- The sum of the `w` rows of a sequence of 4096 that end at row `R`. -/
def winSum (P : (⟨2, ![16384, 12288]⟩ : Shape).Idx → EReal) (w R C : Nat) : EReal :=
  ∑ j ∈ range w, if j ≤ R % 4096 then rd P (R - j) C else 0

/-- The mean of those rows that exist, less the row itself. -/
def cellEl (P : (⟨2, ![16384, 12288]⟩ : Shape).Idx → EReal) (w R C : Nat) : EReal :=
  Ideal.div (winSum P w R C) (((min (R % 4096 + 1) w : ℕ) : ℝ) : EReal) - rd P R C

def gateEl (x : EReal) : EReal := Ideal.div x (1 + Ideal.exp (0 - x))

/-- Entry (R, 512 g + l) of the pooled, projected, scaled and gated rows. -/
def poolEl (P : (⟨2, ![16384, 12288]⟩ : Shape).Idx → EReal) (W : (⟨3, ![4, 512, 512]⟩ : Shape).Idx → EReal) (s : Nat → EReal)
    (g : Fin 4) (w R : Nat) (l : Fin 512) : EReal :=
  (∑ k : Fin 512, cellEl P w R (6144 + 512 * g.val + k.val) * W (ix3 g k l)) * s (512 * g.val + l.val)
    * gateEl (rd P R (10240 + 512 * g.val + l.val))

/-- The number of rows that a window of `w` has at row `n`, as the words count it. -/
theorem count_eq (n w : Nat) (hn : n < 4096) (hw : w ≤ 16) :
    (FloatOps.sitofp (F := Ideal) .f32 (IntOp.minsi (IntOp.addi (BitVec.ofNat 32 n) 1#32) (BitVec.ofNat 32 w)) : EReal)
      = (((min (n + 1) w : ℕ) : ℝ) : EReal) := by
  have e : (IntOp.minsi (IntOp.addi (BitVec.ofNat 32 n) 1#32) (BitVec.ofNat 32 w)).toInt = ((min (n + 1) w : ℕ) : ℤ) := by
    have a : (IntOp.addi (BitVec.ofNat 32 n) 1#32 : BitVec 32) = BitVec.ofNat 32 (n + 1) := by
      apply BitVec.eq_of_toNat_eq
      simp [IntOp.addi, BitVec.toNat_add]
    have t : ∀ k : Nat, k ≤ 5000 → (BitVec.ofNat 32 k).toInt = (k : ℤ) := fun k hk => by
      rw [BitVec.toInt_eq_toNat_of_lt (by rw [BitVec.toNat_ofNat]; omega), BitVec.toNat_ofNat]
      omega
    rw [a]
    unfold IntOp.minsi
    rw [BitVec.slt, t _ (by omega), t _ (by omega)]
    by_cases h : ((n + 1 : ℕ) : ℤ) < (w : ℤ)
    · rw [if_pos (by simpa using h), t _ (by omega)]; omega
    · rw [if_neg (by simpa using h), t _ (by omega)]; omega
  show (((IntOp.minsi (IntOp.addi (BitVec.ofNat 32 n) 1#32) (BitVec.ofNat 32 w)).toInt : ℝ) : EReal) = _
  rw [e]
  simp

/-- A sum of finite terms is finite. -/
theorem sum_finite (u : Nat → EReal) (hu : ∀ s, ∃ x : ℝ, u s = x) (n : Nat) : ∃ x : ℝ, ∑ s ∈ range n, u s = x := by
  induction n with
  | zero => exact ⟨0, by simp⟩
  | succ n ih =>
    obtain ⟨x, hx⟩ := ih
    obtain ⟨y, hy⟩ := hu n
    exact ⟨x + y, by rw [sum_range_succ, hx, hy, EReal.coe_add]⟩

/-- The difference of the running sums of finite terms at `t` and `w` before is the sum of the `w` terms that end at `t`. -/
theorem window_of_running (u : Nat → EReal) (hu : ∀ s, ∃ x : ℝ, u s = x) (t w : Nat) :
    (∑ s ∈ range (t + 1), u s) - (if t < w then 0 else ∑ s ∈ range (t + 1 - w), u s)
      = ∑ j ∈ range w, if j ≤ t then u (t - j) else 0 := by
  by_cases h : t < w
  · rw [if_pos h, sub_zero]
    obtain ⟨d, rfl⟩ : ∃ d, w = (t + 1) + d := ⟨w - (t + 1), by omega⟩
    rw [sum_range_add (fun j => if j ≤ t then u (t - j) else 0) (t + 1) d, ← sum_range_reflect]
    rw [sum_eq_zero (s := range d) fun j _ => if_neg (by omega), add_zero]
    refine sum_congr rfl fun j hj => ?_
    have := mem_range.1 hj
    rw [if_pos (by omega)]
    congr 1
  · rw [if_neg h]
    obtain ⟨d, hd⟩ : ∃ d, t + 1 = d + w := ⟨t + 1 - w, by omega⟩
    obtain ⟨x, hx⟩ := sum_finite u hu d
    rw [show t + 1 - w = d by omega, hd, sum_range_add u d w, hx, add_comm, EReal.add_sub_cancel_right, ← sum_range_reflect]
    refine sum_congr rfl fun j hj => ?_
    have := mem_range.1 hj
    rw [if_pos (by omega)]
    congr 1
    omega

theorem foldl_add {α : Type} (L : List α) (F : α → EReal) (v : EReal) : L.foldl (fun r n => r + F n) v = v + (L.map F).sum := by
  induction L generalizing v with
  | nil => simp
  | cons a L ih => rw [List.foldl_cons, ih, List.map_cons, List.sum_cons, add_assoc]

/-- A sum over positions of which only the last `t + 1` count. -/
theorem tail_sum (f : Nat → EReal) (N t : Nat) (ht : t < N) :
    (∑ n ∈ range N, if N - 1 ≤ t + n then f (t + n - (N - 1)) else 0) = ∑ s ∈ range (t + 1), f s := by
  obtain ⟨d, rfl⟩ : ∃ d, N = d + (t + 1) := ⟨N - (t + 1), by omega⟩
  rw [sum_range_add, sum_eq_zero (s := range d) fun n hn => if_neg (by have := mem_range.1 hn; omega), zero_add]
  refine sum_congr rfl fun n _ => ?_
  rw [if_pos (by omega)]
  congr 1
  omega

/-- The host's running sum down the middle axis. -/
theorem running_eq {w : Nat} (x : (⟨3, ![4, 4096, w]⟩ : Shape).Idx → EReal)
    (h : (⟨3, ![4, 4096, w]⟩ : Shape).ReduceWindows ![1, 4096, 1] ![1, 1, 1] ![0, 4095, 0] ![0, 0, 0] ⟨3, ![4, 4096, w]⟩)
    (b : Fin 4) (t : Fin 4096) (c : Fin w) (f : Nat → EReal) (hf : ∀ s : Fin 4096, x (ix3 b s c) = f s.val) :
    Ideal.hostReduceWindowAdd ![1, 4096, 1] ![1, 1, 1] ![0, 4095, 0] ![0, 0, 0] h x 0 (ix3 b t c) = ∑ s ∈ range (t.val + 1), f s := by
  unfold Ideal.hostReduceWindowAdd Host.reduceWindow
  simp only []
  rw [foldl_add, zero_add, ← Fin.sum_univ_def]
  refine (Equiv.sum_comp (Shape.rowMajor ⟨3, ![1, 4096, 1]⟩).symm (fun v : (⟨3, ![1, 4096, 1]⟩ : Shape).Idx =>
    if hin : ∀ a : Fin 3, (![0, 4095, 0] : Fin 3 → Nat) a ≤ (ix3 b t c a).val * (![1, 1, 1] : Fin 3 → Nat) a + (v a).val
        ∧ (ix3 b t c a).val * (![1, 1, 1] : Fin 3 → Nat) a + (v a).val - (![0, 4095, 0] : Fin 3 → Nat) a < (![4, 4096, w] : Fin 3 → Nat) a
      then x (fun a => ⟨(ix3 b t c a).val * (![1, 1, 1] : Fin 3 → Nat) a + (v a).val - (![0, 4095, 0] : Fin 3 → Nat) a, (hin a).2⟩) else 0)).trans ?_
  rw [sum_idx3, Fin.sum_univ_one]
  have step : ∀ n : Fin 4096, ∀ z : Fin 1, (fun v : (⟨3, ![1, 4096, 1]⟩ : Shape).Idx =>
      if hin : ∀ a : Fin 3, (![0, 4095, 0] : Fin 3 → Nat) a ≤ (ix3 b t c a).val * (![1, 1, 1] : Fin 3 → Nat) a + (v a).val
          ∧ (ix3 b t c a).val * (![1, 1, 1] : Fin 3 → Nat) a + (v a).val - (![0, 4095, 0] : Fin 3 → Nat) a < (![4, 4096, w] : Fin 3 → Nat) a
        then x (fun a => ⟨(ix3 b t c a).val * (![1, 1, 1] : Fin 3 → Nat) a + (v a).val - (![0, 4095, 0] : Fin 3 → Nat) a, (hin a).2⟩) else 0)
        (ix3 0 n z) = if 4095 ≤ t.val + n.val then f (t.val + n.val - 4095) else 0 := by
    intro n z
    have hb := b.isLt
    have ht := t.isLt
    have hc := c.isLt
    have hn := n.isLt
    have hz := z.isLt
    by_cases h1 : 4095 ≤ t.val + n.val
    · rw [if_pos h1]
      refine (dif_pos fun a => ?_).trans ?_
      · match a with
        | ⟨0, _⟩ => exact ⟨Nat.zero_le _, (by omega : b.val * 1 + 0 - 0 < 4)⟩
        | ⟨1, _⟩ => exact ⟨(by omega : 4095 ≤ t.val * 1 + n.val), (by omega : t.val * 1 + n.val - 4095 < 4096)⟩
        | ⟨2, _⟩ => exact ⟨Nat.zero_le _, (by omega : c.val * 1 + z.val - 0 < w)⟩
      · rw [← hf ⟨t.val + n.val - 4095, by omega⟩]
        congr 1
        funext a
        match a with
        | ⟨0, _⟩ => exact Fin.ext (by show b.val * 1 + 0 - 0 = b.val; omega)
        | ⟨1, _⟩ => exact Fin.ext (by show t.val * 1 + n.val - 4095 = t.val + n.val - 4095; omega)
        | ⟨2, _⟩ => exact Fin.ext (by show c.val * 1 + z.val - 0 = c.val; omega)
    · rw [if_neg h1]
      refine dif_neg fun hin => h1 ?_
      have := (hin 1).1
      change 4095 ≤ t.val * 1 + n.val at this
      omega
  refine (sum_congr rfl fun n _ => (Fin.sum_univ_one _).trans (step n 0)).trans ?_
  rw [Fin.sum_univ_eq_sum_range (fun n => if 4095 ≤ t.val + n then f (t.val + n - 4095) else 0) 4096]
  exact tail_sum f 4096 t.val t.isLt

/-! A shifted array added to an array, and that shifted by two, four, eight rows: the sum of a window of rows. -/

theorem back (r a s : Nat) (hr : r < 512) (hs : s ≤ a) (ha : a ≤ 16) : (a + r + 528 - s) % 528 = (a - s) + r := by omega

theorem back' (r s : Nat) (hs : s ≤ 16) : 16 + r - s = (16 - s) + r := by omega

theorem double2 (e : Nat → EReal) (r : Nat) (hr : r < 512) :
    (e (16 + r) + e (((16 + r) + 528 - 1) % 528))
      = ∑ j ∈ range 2, e (16 + r - j) := by
  simp (disch := omega) only [back, back', Nat.reduceSub, sum_range_succ, sum_range_zero, zero_add]

theorem double4 (e : Nat → EReal) (r : Nat) (hr : r < 512) :
    ((e (16 + r) + e (((16 + r) + 528 - 1) % 528)) + (e (((16 + r) + 528 - 2) % 528) + e (((((16 + r) + 528 - 2) % 528) + 528 - 1) % 528)))
      = ∑ j ∈ range 4, e (16 + r - j) := by
  simp (disch := omega) only [back, back', Nat.reduceSub, sum_range_succ, sum_range_zero, zero_add]
  abel

theorem double8 (e : Nat → EReal) (r : Nat) (hr : r < 512) :
    (((e (16 + r) + e (((16 + r) + 528 - 1) % 528)) + (e (((16 + r) + 528 - 2) % 528) + e (((((16 + r) + 528 - 2) % 528) + 528 - 1) % 528))) + ((e (((16 + r) + 528 - 4) % 528) + e (((((16 + r) + 528 - 4) % 528) + 528 - 1) % 528)) + (e (((((16 + r) + 528 - 4) % 528) + 528 - 2) % 528) + e (((((((16 + r) + 528 - 4) % 528) + 528 - 2) % 528) + 528 - 1) % 528))))
      = ∑ j ∈ range 8, e (16 + r - j) := by
  simp (disch := omega) only [back, back', Nat.reduceSub, sum_range_succ, sum_range_zero, zero_add]
  abel

theorem double16 (e : Nat → EReal) (r : Nat) (hr : r < 512) :
    ((((e (16 + r) + e (((16 + r) + 528 - 1) % 528)) + (e (((16 + r) + 528 - 2) % 528) + e (((((16 + r) + 528 - 2) % 528) + 528 - 1) % 528))) + ((e (((16 + r) + 528 - 4) % 528) + e (((((16 + r) + 528 - 4) % 528) + 528 - 1) % 528)) + (e (((((16 + r) + 528 - 4) % 528) + 528 - 2) % 528) + e (((((((16 + r) + 528 - 4) % 528) + 528 - 2) % 528) + 528 - 1) % 528)))) + (((e (((16 + r) + 528 - 8) % 528) + e (((((16 + r) + 528 - 8) % 528) + 528 - 1) % 528)) + (e (((((16 + r) + 528 - 8) % 528) + 528 - 2) % 528) + e (((((((16 + r) + 528 - 8) % 528) + 528 - 2) % 528) + 528 - 1) % 528))) + ((e (((((16 + r) + 528 - 8) % 528) + 528 - 4) % 528) + e (((((((16 + r) + 528 - 8) % 528) + 528 - 4) % 528) + 528 - 1) % 528)) + (e (((((((16 + r) + 528 - 8) % 528) + 528 - 4) % 528) + 528 - 2) % 528) + e (((((((((16 + r) + 528 - 8) % 528) + 528 - 4) % 528) + 528 - 2) % 528) + 528 - 1) % 528)))))
      = ∑ j ∈ range 16, e (16 + r - j) := by
  simp (disch := omega) only [back, back', Nat.reduceSub, sum_range_succ, sum_range_zero, zero_add]
  abel

end Cert.Val.Pool

end
-- ==== Proof.Val.PoolPay.lean ====
module

public import proofs.«01_k».proof.Proof.Gen.Kernel4Ideal.Frame
public import Idealize.ShloMosaic.Lib.Pipeline.Value
public import Idealize.ShloMosaic.Lib.Pipeline.ValueKit
public import Idealize.ShloMosaic.Lib.Pointwise
public import proofs.«01_k».proof.Proof.Val.PoolMath

@[expose] public section

noncomputable section

/-! The pooling body's values, entry by entry. -/

namespace Cert.Val.Pool

open Idealize.ShloMosaic Idealize.ShloMosaic.TcCoe Cert.Kernel4Ideal Cert.Kernel4Ideal.Gen Cert.Val Finset

theorem rd_row {a b : Nat} (x : (⟨2, ![a, b]⟩ : Shape).Idx → EReal) {n : Nat} (hn : n < a) (k : Fin b) :
    x (ix2 ⟨n, hn⟩ k) = rd x n k.val := rd_eq x hn k.isLt

theorem add2 {a b c d : EReal} (h : a = b) (h' : c = d) : a + c = b + d := congrArg₂ (fun x y : EReal => x + y) h h'

/-- The projected means of one window, from the rows with their sixteen before (`e`), the rows and the weights. -/
def meanEl (e : S528x512.Idx → EReal) (cur : S512x512.Idx → EReal) (w : S1x512x512.Idx → EReal) (win n : Nat) (r l : Fin 512) : EReal :=
  ∑ k : Fin 512, (Ideal.div (∑ j ∈ range win, rd e (16 + r.val - j) k.val) (((min (n + 1) win : ℕ) : ℝ) : EReal) - cur (ix2 r k))
    * w (ix3 0 k l)

/-- The row's position in its sequence. -/
theorem pay4_at (i : grid0.Coords) (r : Fin 512) : k0_pay4 i (ix2 r 0) = BitVec.ofNat 32 (512 * (i 1).val + r.val) := by
  have hi : (i 1).val < 8 := (i 1).isLt
  pointwise [k0_pay4]
  apply BitVec.eq_of_toNat_eq
  simp only [IntOp.addi, Scalar.muli, IntOp.muli, BitVec.toNat_add, BitVec.toNat_mul, BitVec.toNat_ofNat]
  omega

theorem pay5_at (i : grid0.Coords) (e : FVec Ideal S528x512 .f32) (cur : FVec Ideal S512x512 .f32) (w : FVec Ideal S1x512x512 .bf16)
    (r l : Fin 512) : k0_pay5 (F := Ideal) i e cur w (ix2 r l) = meanEl e cur w 2 (512 * (i 1).val + r.val) r l := by
  have hi : (i 1).val < 8 := (i 1).isLt
  unfold meanEl
  pointwise [k0_pay5]
  refine sum_congr rfl fun k _ => congrArg (fun a : EReal => (a - cur (ix2 r k)) * w (ix3 0 k l)) (congrArg₂ Ideal.div ?_ ?_)
  · refine Eq.trans (add2 (rd_row e _ k) (rd_row e _ k)) (double2 (fun n => rd e n k.val) r.val r.isLt)
  · rw [pay4_at]
    exact count_eq _ 2 (by omega) (by omega)

theorem pay7_at (v : IVec S512x1 32) (n : Nat) (hn : n < 4096) (e : FVec Ideal S528x512 .f32) (cur : FVec Ideal S512x512 .f32)
    (w : FVec Ideal S1x512x512 .bf16) (r l : Fin 512) (hv : v (ix2 r 0) = BitVec.ofNat 32 n) :
    k0_pay7 (F := Ideal) v e cur w (ix2 r l) = meanEl e cur w 4 n r l := by
  unfold meanEl
  pointwise [k0_pay7]
  refine sum_congr rfl fun k _ => congrArg (fun a : EReal => (a - cur (ix2 r k)) * w (ix3 0 k l)) (congrArg₂ Ideal.div ?_ ?_)
  · refine Eq.trans (add2 (add2 (rd_row e _ k) (rd_row e _ k)) (add2 (rd_row e _ k) (rd_row e _ k))) (double4 (fun n => rd e n k.val) r.val r.isLt)
  · rw [hv]
    exact count_eq _ 4 hn (by omega)

theorem pay10_at (v : IVec S512x1 32) (n : Nat) (hn : n < 4096) (e : FVec Ideal S528x512 .f32) (cur : FVec Ideal S512x512 .f32)
    (w : FVec Ideal S1x512x512 .bf16) (s : FVec Ideal S1x512 .f32) (r l : Fin 512) (hv : v (ix2 r 0) = BitVec.ofNat 32 n) :
    k0_pay10 (F := Ideal) v e cur w s (ix2 r l) = meanEl e cur w 8 n r l * s (ix2 0 l) := by
  unfold meanEl
  pointwise [k0_pay10]
  refine congrArg (fun a : EReal => a * s (ix2 0 l)) (sum_congr rfl fun k _ =>
    congrArg (fun a : EReal => (a - cur (ix2 r k)) * w (ix3 0 k l)) (congrArg₂ Ideal.div ?_ ?_))
  · refine Eq.trans (add2 (add2 (add2 (rd_row e _ k) (rd_row e _ k)) (add2 (rd_row e _ k) (rd_row e _ k))) (add2 (add2 (rd_row e _ k) (rd_row e _ k)) (add2 (rd_row e _ k) (rd_row e _ k)))) (double8 (fun n => rd e n k.val) r.val r.isLt)
  · rw [hv]
    exact count_eq _ 8 hn (by omega)

set_option maxHeartbeats 2000000 in
theorem pay12_at (v : IVec S512x1 32) (n : Nat) (hn : n < 4096) (e : FVec Ideal S528x512 .f32) (cur : FVec Ideal S512x512 .f32)
    (w : FVec Ideal S1x512x512 .bf16) (s : FVec Ideal S1x512 .f32) (r l : Fin 512) (hv : v (ix2 r 0) = BitVec.ofNat 32 n) :
    k0_pay12 (F := Ideal) v e cur w s (ix2 r l) = meanEl e cur w 16 n r l * s (ix2 0 l) := by
  unfold meanEl
  pointwise [k0_pay12]
  refine congrArg (fun a : EReal => a * s (ix2 0 l)) (sum_congr rfl fun k _ =>
    congrArg (fun a : EReal => (a - cur (ix2 r k)) * w (ix3 0 k l)) (congrArg₂ Ideal.div ?_ ?_))
  · refine Eq.trans (add2 (add2 (add2 (add2 (rd_row e _ k) (rd_row e _ k)) (add2 (rd_row e _ k) (rd_row e _ k))) (add2 (add2 (rd_row e _ k) (rd_row e _ k)) (add2 (rd_row e _ k) (rd_row e _ k)))) (add2 (add2 (add2 (rd_row e _ k) (rd_row e _ k)) (add2 (rd_row e _ k) (rd_row e _ k))) (add2 (add2 (rd_row e _ k) (rd_row e _ k)) (add2 (rd_row e _ k) (rd_row e _ k))))) (double16 (fun n => rd e n k.val) r.val r.isLt)
  · rw [hv]
    exact count_eq _ 16 hn (by omega)

theorem pay6_at (y : FVec Ideal S512x512 .f32) (s : FVec Ideal S1x512 .f32) (g : FVec Ideal S512x512 .bf16) (r l : Fin 512) :
    k0_pay6 (F := Ideal) y s g (ix2 r l) = y (ix2 r l) * s (ix2 0 l) * gateEl (g (ix2 r l)) := by
  unfold gateEl
  pointwise [k0_pay6]

theorem pay9_at (y : FVec Ideal S512x512 .f32) (s : FVec Ideal S1x512 .f32) (g : FVec Ideal S512x512 .bf16) (r l : Fin 512) :
    k0_pay9 (F := Ideal) y (k0_pay8 s) g (ix2 r l) = y (ix2 r l) * s (ix2 0 l) * gateEl (g (ix2 r l)) := by
  unfold gateEl
  pointwise [k0_pay9, k0_pay8]

theorem pay11_at (y : FVec Ideal S512x512 .f32) (g : FVec Ideal S512x512 .bf16) (r l : Fin 512) :
    k0_pay11 (F := Ideal) y g (ix2 r l) = y (ix2 r l) * gateEl (g (ix2 r l)) := by
  unfold gateEl
  pointwise [k0_pay11]

theorem pay1_at (y : FVec Ideal S512x512 .f32) (g : FVec Ideal S512x512 .bf16) (r l : Fin 512) :
    k0_pay1 (F := Ideal) y g (ix2 r l) = y (ix2 r l) * gateEl (g (ix2 r l)) := by
  unfold gateEl
  pointwise [k0_pay1]

theorem pay3_at (x : FVec Ideal S512x2048 .bf16) (r : Fin 512) (c : Fin 2048) : k0_pay3 (F := Ideal) x (ix2 r c) = x (ix2 r c) := by
  pointwise [k0_pay3]

theorem pay2_at (i : grid0.Coords) (x : FVec Ideal S16x2048 .bf16) (r : Fin 16) (c : Fin 2048) :
    k0_pay2 (F := Ideal) i x (ix2 r c) = if 0 < (i 1).val then x (ix2 r c) else 0 := by
  pointwise [k0_pay2]
  have hi : (i 1).val < 8 := (i 1).isLt
  generalize (i 1).val = n at hi
  interval_cases n <;> rfl

end Cert.Val.Pool

end
-- ==== Proof.Val.Pool.lean ====
module

public import proofs.«01_k».proof.Proof.Gen.Kernel4Ideal.Frame
public import Idealize.ShloMosaic.Lib.Pipeline.Value
public import Idealize.ShloMosaic.Lib.Pipeline.ValueKit
public import Idealize.ShloMosaic.Lib.Pipeline.ReadBack
public import Idealize.ShloMosaic.Lib.Pointwise
public import proofs.«01_k».proof.Proof.Val.PoolPay

@[expose] public section

noncomputable section

/-! The fourth program: layer 0's pooling. The scratch buffer holds a block of rows below the sixteen rows before it, and the body
writes its output block in four column groups. -/

namespace Cert.Val.Pool

open Idealize.ShloMosaic Idealize.ShloMosaic.TcCoe Cert.Kernel4Ideal Cert.Kernel4Ideal.Gen Cert.Val Finset
open Idealize.ShloMosaic.Pipeline (Dat Cfg Window)

variable (m : (ℓ : Loc nD τ sig) → Buf (Elt Ideal) ℓ) (ρ : Dev nD → PrngReg) (c : Dev nD)

theorem in0 : ∀ t : Fin cfg0.N, win0_0.index t (0 : Fin 2) = t.val ∧ win0_0.index t (1 : Fin 2) = 3 :=
  (by decide +kernel : ∀ t : Fin grid0.N, _)
theorem in1 : ∀ t : Fin cfg0.N, win0_1.index t (0 : Fin 2) = 32 * t.val - 1 ∧ win0_1.index t (1 : Fin 2) = 3 :=
  (by decide +kernel : ∀ t : Fin grid0.N, _)
theorem in2 : ∀ t : Fin cfg0.N, win0_2.index t (0 : Fin 2) = t.val ∧ win0_2.index t (1 : Fin 2) = 5 :=
  (by decide +kernel : ∀ t : Fin grid0.N, _)
theorem in3 : ∀ t : Fin cfg0.N, win0_3.index t (0 : Fin 3) = 0 ∧ win0_3.index t (1 : Fin 3) = 0 ∧ win0_3.index t (2 : Fin 3) = 0 :=
  (by decide +kernel : ∀ t : Fin grid0.N, _)
theorem in4 : ∀ t : Fin cfg0.N, win0_4.index t (0 : Fin 2) = 0 ∧ win0_4.index t (1 : Fin 2) = 0 :=
  (by decide +kernel : ∀ t : Fin grid0.N, _)
theorem ou5 : ∀ t : Fin cfg0.N, win0_5.index t (0 : Fin 2) = t.val ∧ win0_5.index t (1 : Fin 2) = 0 :=
  (by decide +kernel : ∀ t : Fin grid0.N, _)
theorem co1 : ∀ t : Fin cfg0.N, (grid0.coords t (1 : Fin 2)).val = t.val % 8 :=
  (by decide +kernel : ∀ t : Fin grid0.N, _)

/-- The rows that the scratch buffer holds at point `t`. -/
def extA (t : Fin cfg0.N) : S528x2048.Idx → EReal := arr2 fun n k =>
  if n.val < 16 then (if 0 < t.val % 8 then rd (V m c main_arg0) (512 * t.val - 16 + n.val) (6144 + k.val) else 0)
    else rd (V m c main_arg0) (512 * t.val + (n.val - 16)) (6144 + k.val)

theorem scratch_read (t : Fin cfg0.N) (i1 : ∀ a, (![16, 0] : Fin 2 → Nat) a + S512x2048.size a ≤ S528x2048.size a)
    (i2 : ∀ a, (![0, 0] : Fin 2 → Nat) a + S16x2048.size a ≤ S528x2048.size a) (B : LoadRect S528x2048) :
    View.readCov (Val := Elt Ideal) (View.whole cc0_scratch0) [⟨Rect.unit (s := S528x2048) ![16, 0] S512x2048.size i1, k0_pay3 (F := Ideal) (iblk m c 0 t)⟩,
      ⟨Rect.unit (s := S528x2048) ![0, 0] S16x2048.size i2, k0_pay2 (F := Ideal) (grid0.coords t) (iblk m c 1 t)⟩] B
      = fun j => extA m c t (B.idx j) := by
  have ht : t.val < 32 := lt_of_lt_of_eq t.isLt (by decide)
  rw [View.readCov_eq_canon']
  funext j
  refine View.canon_append_of_piecesOf (Val := Elt Ideal) (e := .f32) (extA m c t) [] [_, _] ⟨?_, ?_, trivial⟩ (B.idx j) ?_
  · intro x
    obtain ⟨r, k, rfl⟩ := ix2_eta (n := 512) (k := 2048) x
    obtain ⟨a0, a1⟩ := in0 t
    refine (pay3_at _ r k).trans ((rd_at (V m c main_arg0) (((cfg0.win 0).blk t).view.emb (ix2 r k)) (512 * t.val + r.val)
      (6144 + k.val) ?_ ?_).trans (Eq.trans ?_ (arr2_at _ _ (⟨16 + r.val, by omega⟩ : Fin 528) k ?_ ?_).symm))
    · show win0_0.index t (0 : Fin 2) * 512 + 1 * r.val = 512 * t.val + r.val; omega
    · show win0_0.index t (1 : Fin 2) * 2048 + 1 * k.val = 6144 + k.val; omega
    · rw [if_neg (by show ¬(16 + r.val < 16); omega)]
      congr 1
      show 512 * t.val + r.val = 512 * t.val + (16 + r.val - 16); omega
    · show 16 + 1 * r.val = 16 + r.val; omega
    · show 0 + 1 * k.val = k.val; omega
  · intro x
    obtain ⟨r, k, rfl⟩ := ix2_eta (n := 16) (k := 2048) x
    obtain ⟨a0, a1⟩ := in1 t
    refine (pay2_at _ _ r k).trans (Eq.trans ?_ (arr2_at _ _ (⟨r.val, by omega⟩ : Fin 528) k ?_ ?_).symm)
    · rw [co1 t, if_pos r.isLt]
      by_cases h : 0 < t.val % 8
      · rw [if_pos h, if_pos h]
        refine rd_at (V m c main_arg0) (((cfg0.win 1).blk t).view.emb (ix2 r k)) _ _ ?_ ?_
        · show win0_1.index t (0 : Fin 2) * 16 + 1 * r.val = 512 * t.val - 16 + r.val; omega
        · show win0_1.index t (1 : Fin 2) * 2048 + 1 * k.val = 6144 + k.val; omega
      · rw [if_neg h, if_neg h]
    · show 0 + 1 * r.val = r.val; omega
    · show 0 + 1 * k.val = k.val; omega
  · generalize B.idx j = y
    obtain ⟨r, k, rfl⟩ := ix2_eta (n := 528) (k := 2048) y
    have hr := r.isLt
    have hk := k.isLt
    by_cases h : r.val < 16
    · refine ⟨_, List.mem_cons_of_mem _ (List.mem_cons_self ..), (Rect.mem_set_unit (inb := i2)).2 fun a => ?_⟩
      match a with
      | ⟨0, _⟩ => exact ⟨Nat.zero_le _, (by omega : r.val < 0 + 16)⟩
      | ⟨1, _⟩ => exact ⟨Nat.zero_le _, (by omega : k.val < 0 + 2048)⟩
    · refine ⟨_, List.mem_cons_self .., (Rect.mem_set_unit (inb := i1)).2 fun a => ?_⟩
      match a with
      | ⟨0, _⟩ => exact ⟨(by omega : 16 ≤ r.val), (by omega : r.val < 16 + 512)⟩
      | ⟨1, _⟩ => exact ⟨Nat.zero_le _, (by omega : k.val < 0 + 2048)⟩

/-- The scaling vector's entry. -/
abbrev sc (n : Nat) : EReal := rd (V m c main_v1) 0 n

/-- A row of the scratch buffer that a window reaches, as a row of the array, or zero before the sequence begins. -/
theorem ext_row (t : Fin cfg0.N) (j r k : Nat) (hj : j < 16) (hr : r < 512) (hk : k < 2048) :
    rd (extA m c t) (16 + r - j) k = if j ≤ (512 * t.val + r) % 4096 then rd (V m c main_arg0) (512 * t.val + r - j) (6144 + k) else 0 := by
  have ht : t.val < 32 := lt_of_lt_of_eq t.isLt (by decide)
  rw [← rd_eq (extA m c t) (show 16 + r - j < 528 by omega) hk, extA, arr2_ix]
  show (if 16 + r - j < 16 then (if 0 < t.val % 8 then rd (V m c main_arg0) (512 * t.val - 16 + (16 + r - j)) (6144 + k) else 0)
    else rd (V m c main_arg0) (512 * t.val + (16 + r - j - 16)) (6144 + k)) = _
  by_cases h : r < j
  · rw [if_pos (by omega)]
    by_cases h0 : 0 < t.val % 8
    · rw [if_pos h0, if_pos (by omega)]
      congr 1
      omega
    · rw [if_neg h0, if_neg (by omega)]
  · rw [if_neg (by omega), if_pos (by omega)]
    congr 1
    omega

/-- The projected means of one window at point `t`. -/
theorem mean_eq (t : Fin cfg0.N) (g : Fin 4) (win : Nat) (hw : win ≤ 16) (e : S528x512.Idx → EReal) (cur : S512x512.Idx → EReal)
    (w : S1x512x512.Idx → EReal) (r l : Fin 512)
    (he : ∀ n k : Nat, n < 528 → k < 512 → rd e n k = rd (extA m c t) n (512 * g.val + k))
    (hcur : ∀ k : Fin 512, cur (ix2 r k) = rd (extA m c t) (16 + r.val) (512 * g.val + k.val))
    (hwt : ∀ k : Fin 512, w (ix3 0 k l) = V m c main_v0 (ix3 g k l)) :
    meanEl e cur w win (512 * (t.val % 8) + r.val) r l
      = ∑ k : Fin 512, cellEl (V m c main_arg0) win (512 * t.val + r.val) (6144 + 512 * g.val + k.val) * V m c main_v0 (ix3 g k l) := by
  have ht : t.val < 32 := lt_of_lt_of_eq t.isLt (by decide)
  have hg := g.isLt
  have hr := r.isLt
  have hmod : (512 * t.val + r.val) % 4096 = 512 * (t.val % 8) + r.val := by omega
  unfold meanEl
  refine sum_congr rfl fun k _ => congrArg₂ (fun a b : EReal => a * b) ?_ (hwt k)
  have hk := k.isLt
  unfold cellEl winSum
  refine congrArg₂ (fun a b : EReal => a - b) (congrArg₂ Ideal.div (sum_congr rfl fun j hj => ?_) ?_) ?_
  · have := mem_range.1 hj
    rw [he _ _ (by omega) hk, ext_row m c t j r.val _ (by omega) hr (by omega), show 6144 + (512 * g.val + k.val) = 6144 + 512 * g.val + k.val by omega]
  · rw [hmod]
  · have := ext_row m c t 0 r.val (512 * g.val + k.val) (by omega) hr (by omega)
    rw [if_pos (Nat.zero_le _)] at this
    rw [hcur k]
    refine this.trans ?_
    congr 1
    omega

/-- The region's output as one array of what the region finds. -/
def res : S16384x2048.Idx → EReal := arr2 fun R C =>
  poolEl (V m c main_arg0) (V m c main_v0) (sc m c) ⟨C.val / 512, by omega⟩ (2 ^ (C.val / 512 + 1)) R.val ⟨C.val % 512, by omega⟩

theorem res_at (t : Fin cfg0.N) (r l : Fin 512) (g : Fin 4) (i : S16384x2048.Idx) (h0 : (i 0).val = 512 * t.val + r.val)
    (h1 : (i 1).val = 512 * g.val + l.val) :
    res m c i = poolEl (V m c main_arg0) (V m c main_v0) (sc m c) g (2 ^ (g.val + 1)) (512 * t.val + r.val) l := by
  have ht : t.val < 32 := lt_of_lt_of_eq t.isLt (by decide)
  have hg := g.isLt
  refine (arr2_at _ i ⟨512 * t.val + r.val, by omega⟩ ⟨512 * g.val + l.val, by omega⟩ h0 h1).trans ?_
  have d : (512 * g.val + l.val) / 512 = g.val := by omega
  have e : (512 * g.val + l.val) % 512 = l.val := by omega
  show poolEl _ _ _ ⟨(512 * g.val + l.val) / 512, _⟩ (2 ^ ((512 * g.val + l.val) / 512 + 1)) (512 * t.val + r.val) ⟨(512 * g.val + l.val) % 512, _⟩ = _
  congr 1
  · exact Fin.ext d
  · rw [d]
  · exact Fin.ext e

/-- A read of the scratch buffer, entry by entry. -/
theorem scr_at (t : Fin cfg0.N) (i1 : ∀ a, (![16, 0] : Fin 2 → Nat) a + S512x2048.size a ≤ S528x2048.size a)
    (i2 : ∀ a, (![0, 0] : Fin 2 → Nat) a + S16x2048.size a ≤ S528x2048.size a) (o q h : Nat)
    (i3 : ∀ a, (![o, q] : Fin 2 → Nat) a + (![h, 512] : Fin 2 → Nat) a ≤ S528x2048.size a) (x : (⟨2, ![h, 512]⟩ : Shape).Idx) (n k : Nat)
    (h0 : o + (x 0).val = n) (h1 : q + (x 1).val = k) :
    View.readCov (Val := Elt Ideal) (View.whole cc0_scratch0) [⟨Rect.unit (s := S528x2048) ![16, 0] S512x2048.size i1, k0_pay3 (F := Ideal) (iblk m c 0 t)⟩,
      ⟨Rect.unit (s := S528x2048) ![0, 0] S16x2048.size i2, k0_pay2 (F := Ideal) (grid0.coords t) (iblk m c 1 t)⟩]
      (Rect.unit (s := S528x2048) ![o, q] ![h, 512] i3).toLoadRect x = rd (extA m c t) n k := by
  have e := scratch_read m c t i1 i2 (Rect.unit (s := S528x2048) ![o, q] ![h, 512] i3).toLoadRect
  rw [e]
  refine rd_at (extA m c t) ((Rect.unit (s := S528x2048) ![o, q] ![h, 512] i3).toLoadRect.idx x) n k ?_ ?_
  · show o + 1 * (x 0).val = n; omega
  · show q + 1 * (x 1).val = k; omega

theorem weight_at (t : Fin cfg0.N) (g : Fin 4) (q : Nat) (hq : q = g.val)
    (i3 : ∀ a, (![q, 0, 0] : Fin 3 → Nat) a + (![1, 512, 512] : Fin 3 → Nat) a ≤ S4x512x512.size a) (k l : Fin 512) :
    View.ld (iblk m c 3 t) (Rect.unit (s := S4x512x512) ![q, 0, 0] ![1, 512, 512] i3) (ix3 0 k l) = V m c main_v0 (ix3 g k l) := by
  obtain ⟨a0, a1, a2⟩ := in3 t
  refine congrArg (V m c main_v0) (a₁ := ((cfg0.win 3).blk t).view.emb ((Rect.unit (s := S4x512x512) ![q, 0, 0] ![1, 512, 512] i3).emb (ix3 0 k l)))
    (funext fun a => ?_)
  match a with
  | ⟨0, _⟩ => exact Fin.ext (by show win0_3.index t (0 : Fin 3) * 4 + 1 * (q + 1 * 0) = g.val; omega)
  | ⟨1, _⟩ => exact Fin.ext (by show win0_3.index t (1 : Fin 3) * 512 + 1 * (0 + 1 * k.val) = k.val; omega)
  | ⟨2, _⟩ => exact Fin.ext (by show win0_3.index t (2 : Fin 3) * 512 + 1 * (0 + 1 * l.val) = l.val; omega)

theorem scale_at (t : Fin cfg0.N) (q : Nat) (i3 : ∀ a, (![0, q] : Fin 2 → Nat) a + (![1, 512] : Fin 2 → Nat) a ≤ S1x2048.size a)
    (l : Fin 512) : View.ld (iblk m c 4 t) (Rect.unit (s := S1x2048) ![0, q] ![1, 512] i3) (ix2 0 l) = sc m c (q + l.val) := by
  obtain ⟨a0, a1⟩ := in4 t
  refine rd_at (V m c main_v1) (((cfg0.win 4).blk t).view.emb ((Rect.unit (s := S1x2048) ![0, q] ![1, 512] i3).emb (ix2 0 l))) 0 _ ?_ ?_
  · show win0_4.index t (0 : Fin 2) * 1 + 1 * (0 + 1 * 0) = 0; omega
  · show win0_4.index t (1 : Fin 2) * 2048 + 1 * (q + 1 * l.val) = q + l.val; omega

theorem gate_at (t : Fin cfg0.N) (q : Nat) (i3 : ∀ a, (![0, q] : Fin 2 → Nat) a + (![512, 512] : Fin 2 → Nat) a ≤ S512x2048.size a)
    (r l : Fin 512) : View.ld (iblk m c 2 t) (Rect.unit (s := S512x2048) ![0, q] ![512, 512] i3) (ix2 r l)
      = rd (V m c main_arg0) (512 * t.val + r.val) (10240 + q + l.val) := by
  obtain ⟨a0, a1⟩ := in2 t
  refine rd_at (V m c main_arg0) (((cfg0.win 2).blk t).view.emb ((Rect.unit (s := S512x2048) ![0, q] ![512, 512] i3).emb (ix2 r l))) _ _ ?_ ?_
  · show win0_2.index t (0 : Fin 2) * 512 + 1 * (0 + 1 * r.val) = 512 * t.val + r.val; omega
  · show win0_2.index t (1 : Fin 2) * 2048 + 1 * (q + 1 * l.val) = 10240 + q + l.val; omega

/-- The output block's index under a column group's index. -/
theorem out_at (t : Fin cfg0.N) (g : Fin 4) (q : Nat) (hq : q = 512 * g.val)
    (i3 : ∀ a, (![0, q] : Fin 2 → Nat) a + (![512, 512] : Fin 2 → Nat) a ≤ S512x2048.size a) (r l : Fin 512) :
    res m c (((cfg0.win 5).blk t).view.emb ((Rect.unit (s := S512x2048) ![0, q] ![512, 512] i3).emb (ix2 r l)))
      = poolEl (V m c main_arg0) (V m c main_v0) (sc m c) g (2 ^ (g.val + 1)) (512 * t.val + r.val) l := by
  obtain ⟨a0, a1⟩ := ou5 t
  refine res_at m c t r l g _ ?_ ?_
  · show win0_5.index t (0 : Fin 2) * 512 + 1 * (0 + 1 * r.val) = 512 * t.val + r.val; omega
  · show win0_5.index t (1 : Fin 2) * 2048 + 1 * (q + 1 * l.val) = 512 * g.val + l.val; omega

theorem pos_at (t : Fin cfg0.N) (r : Fin 512) : k0_pay4 (grid0.coords t) (ix2 r 0) = BitVec.ofNat 32 (512 * (t.val % 8) + r.val) := by
  rw [pay4_at, co1]

/-- One column group's product, over the reads that the body makes of the scratch buffer and of the weights. -/
theorem mean_of (t : Fin cfg0.N) (g : Fin 4) (q u win : Nat) (hq : q = 512 * g.val) (hu : u = g.val) (hw : win ≤ 16)
    (i1 : ∀ a, (![16, 0] : Fin 2 → Nat) a + S512x2048.size a ≤ S528x2048.size a)
    (i2 : ∀ a, (![0, 0] : Fin 2 → Nat) a + S16x2048.size a ≤ S528x2048.size a)
    (i3 : ∀ a, (![0, q] : Fin 2 → Nat) a + (![528, 512] : Fin 2 → Nat) a ≤ S528x2048.size a)
    (i4 : ∀ a, (![16, q] : Fin 2 → Nat) a + (![512, 512] : Fin 2 → Nat) a ≤ S528x2048.size a)
    (i5 : ∀ a, (![u, 0, 0] : Fin 3 → Nat) a + (![1, 512, 512] : Fin 3 → Nat) a ≤ S4x512x512.size a) (r l : Fin 512) :
    meanEl (View.readCov (Val := Elt Ideal) (View.whole cc0_scratch0) [⟨Rect.unit (s := S528x2048) ![16, 0] S512x2048.size i1, k0_pay3 (F := Ideal) (iblk m c 0 t)⟩,
        ⟨Rect.unit (s := S528x2048) ![0, 0] S16x2048.size i2, k0_pay2 (F := Ideal) (grid0.coords t) (iblk m c 1 t)⟩]
        (Rect.unit (s := S528x2048) ![0, q] ![528, 512] i3).toLoadRect)
      (View.readCov (Val := Elt Ideal) (View.whole cc0_scratch0) [⟨Rect.unit (s := S528x2048) ![16, 0] S512x2048.size i1, k0_pay3 (F := Ideal) (iblk m c 0 t)⟩,
        ⟨Rect.unit (s := S528x2048) ![0, 0] S16x2048.size i2, k0_pay2 (F := Ideal) (grid0.coords t) (iblk m c 1 t)⟩]
        (Rect.unit (s := S528x2048) ![16, q] ![512, 512] i4).toLoadRect)
      (View.ld (iblk m c 3 t) (Rect.unit (s := S4x512x512) ![u, 0, 0] ![1, 512, 512] i5)) win (512 * (t.val % 8) + r.val) r l
      = ∑ k : Fin 512, cellEl (V m c main_arg0) win (512 * t.val + r.val) (6144 + 512 * g.val + k.val) * V m c main_v0 (ix3 g k l) := by
  subst hq
  refine mean_eq m c t g win hw _ _ _ r l ?_ ?_ ?_
  · intro n k hn hk
    rw [← rd_eq _ hn hk]
    exact scr_at m c t i1 i2 0 (512 * g.val) 528 i3 (ix2 ⟨n, hn⟩ ⟨k, hk⟩) _ _ (Nat.zero_add n) rfl
  · intro k
    exact scr_at m c t i1 i2 16 (512 * g.val) 512 i4 (ix2 r k) _ _ rfl rfl
  · intro k
    exact weight_at m c t g u hu i5 k l

theorem flushed5 (t : Fin cfg0.N) : (dats m 0 c).flushed 5 t = ((cfg0.win 5).blk t).view.read (Elt Ideal) (res m c) := by
  have ht : t.val < 32 := lt_of_lt_of_eq t.isLt (by decide)
  show (cfg0.win 5).cut (grid0.coords t) ((dats m 0 c).after 5 t) = _
  rw [after0_5]
  unfold outsAt0 out0_A_5
  frame_open
  simp (disch := decide) only [↓ View.readCov_skip, ↓ View.readCov_cons_toLoadRect, ↓ View.readCov_fill]
  frame_out
  funext j
  refine View.canon_append_of_piecesOf (Val := Elt Ideal) (e := .bf16) (fun y => res m c (((cfg0.win 5).blk t).view.emb y)) [] [_, _, _, _] ⟨?_, ?_, ?_, ?_, trivial⟩ j ?_
  · intro x
    obtain ⟨r, l, rfl⟩ := ix2_eta (n := 512) (k := 512) x
    refine Eq.trans ?_ (out_at m c t 3 1536 rfl inb_S512x2048_S512x512_0_1536 r l).symm
    exact (pay1_at _ _ r l).trans (congrArg₂ (fun a b : EReal => a * b) ((pay12_at _ _ (by omega) _ _ _ _ r l (pos_at t r)).trans
      (congrArg₂ (fun a b : EReal => a * b) (mean_of m c t 3 1536 3 16 rfl rfl (by omega) _ _ _ _ _ r l) (scale_at m c t 1536 _ l))) (congrArg gateEl (gate_at m c t 1536 _ r l)))
  · intro x
    obtain ⟨r, l, rfl⟩ := ix2_eta (n := 512) (k := 512) x
    refine Eq.trans ?_ (out_at m c t 2 1024 rfl inb_S512x2048_S512x512_0_1024 r l).symm
    exact (pay11_at _ _ r l).trans (congrArg₂ (fun a b : EReal => a * b) ((pay10_at _ _ (by omega) _ _ _ _ r l (pos_at t r)).trans
      (congrArg₂ (fun a b : EReal => a * b) (mean_of m c t 2 1024 2 8 rfl rfl (by omega) _ _ _ _ _ r l) (scale_at m c t 1024 _ l))) (congrArg gateEl (gate_at m c t 1024 _ r l)))
  · intro x
    obtain ⟨r, l, rfl⟩ := ix2_eta (n := 512) (k := 512) x
    refine Eq.trans ?_ (out_at m c t 1 512 rfl inb_S512x2048_S512x512_0_512 r l).symm
    exact (pay9_at _ _ _ r l).trans (congrArg₂ (fun a b : EReal => a * b) (congrArg₂ (fun a b : EReal => a * b) ((pay7_at _ _ (by omega) _ _ _ r l (pos_at t r)).trans
      (mean_of m c t 1 512 1 4 rfl rfl (by omega) _ _ _ _ _ r l)) (scale_at m c t 512 _ l)) (congrArg gateEl (gate_at m c t 512 _ r l)))
  · intro x
    obtain ⟨r, l, rfl⟩ := ix2_eta (n := 512) (k := 512) x
    refine Eq.trans ?_ (out_at m c t 0 0 rfl inb_S512x2048_S512x512_0_0 r l).symm
    exact (pay6_at _ _ _ r l).trans (congrArg₂ (fun a b : EReal => a * b) (congrArg₂ (fun a b : EReal => a * b) (((pay5_at _ _ _ _ r l).trans (by rw [co1])).trans
      (mean_of m c t 0 0 0 2 rfl rfl (by omega) _ _ _ _ _ r l)) (scale_at m c t 0 _ l)) (congrArg gateEl (gate_at m c t 0 _ r l)))
  · exact View.cover_of_tiledL (s := S512x2048) _ S512x512.size (by sl_kernel_rfl) j

theorem final5 : (dats m 0 c).arrAt 5 cfg0.N = res m c :=
  (dats m 0 c).arrAt_eq_of_cover 5 (res m c) (fun t _ => flushed5 m c t)
    (Window.Covers.cover (w := cfg0.win 5) (by decide +kernel) (Memref.isWhole_whole _))

abbrev pr : S16384x12288.Idx → EReal := m ((c : Thread nD τ).loc main_arg0)
abbrev pw : S4x512x512.Idx → EReal := m ((c : Thread nD τ).loc main_arg1)
abbrev ps : S2048.Idx → EReal := m ((c : Thread nD τ).loc main_arg2)

/-- The weights the host rounds are the weights. -/
theorem v0_eq : V m c main_v0 = pw m c := by
  have e : V m c main_v0 = truncf (F := Ideal) .bf16 (pw m c) bitsLt_bf16_f32 := by
    show StableHlo.after hostOps0 (fun b => m (c, b)) (Proc.devRef .tc main_v0) = _
    after_results_simp <;> rfl
  rw [e]
  rfl

/-- The scaling vector as a row. -/
theorem sc_eq (n : Nat) (hn : n < 2048) : sc m c n = ps m c (ix1 ⟨n, hn⟩) := by
  have e : V m c main_v1 = shapeCast S1x2048 (ps m c) shapeCasts_S2048_S1x2048 := by
    show StableHlo.after hostOps0 (fun b => m (c, b)) (Proc.devRef .tc main_v1) = _
    after_results_simp <;> rfl
  have h : V m c main_v1 (ix2 0 ⟨n, hn⟩) = ps m c (ix1 ⟨n, hn⟩) := by
    rw [e]
    pointwise
  exact (rd_eq (V m c main_v1) (by omega : (0 : Nat) < 1) hn).symm.trans h

end Cert.Val.Pool

end
-- ==== Proof.Val.PoolRef.lean ====
module

public import proofs.«01_k».proof.Proof.Gen.Reference4Ideal.Read
public import proofs.«01_k».proof.Pre_pool_input_finite
public import Idealize.ShloMosaic.Lib.Pointwise
public import Idealize.ShloMosaic.Lib.IdealHost
public import proofs.«01_k».proof.Proof.Val.Base
public import proofs.«01_k».proof.Proof.Val.PoolMath

@[expose] public section

noncomputable section

/-! The fourth program's reference, entry by entry: differences of running sums are the sums over the windows. -/

namespace Cert.Val.PoolRef

open Idealize.ShloMosaic Idealize.ShloMosaic.TcCoe Cert.Reference4Ideal Cert.Reference4Ideal.Read Cert.Val Cert.Val.Pool Finset

/-- The running sum of the first `n` rows of sequence `b` in column `C`. -/
def run (P : S16384x12288.Idx → EReal) (b n C : Nat) : EReal := ∑ s ∈ range n, rd P (4096 * b + s) C

/-- One entry of a group: the difference of running sums over the count, less the row's own entry. -/
theorem cell_of_run (P : S16384x12288.Idx → EReal) (b t w C : Nat) (ht : t < 4096)
    (hu : ∀ s, ∃ x : ℝ, rd P (4096 * b + s) C = x) :
    Ideal.div (run P b (t + 1) C - (if t < w then 0 else run P b (t + 1 - w) C)) (((min (t + 1) w : ℕ) : ℝ) : EReal)
      - rd P (4096 * b + t) C = cellEl P w (4096 * b + t) C := by
  have e : (4096 * b + t) % 4096 = t := by omega
  unfold run cellEl winSum
  rw [window_of_running _ hu, e]
  congr 2
  refine sum_congr rfl fun j _ => ?_
  by_cases h : j ≤ t
  · rw [if_pos h, if_pos h]
    congr 1
    omega
  · rw [if_neg h, if_neg h]

theorem v2_at (x0 : S16384x12288.Idx → EReal) (b : Fin 4) (s : Fin 4096) (k : Fin 2048) :
    val_main_v2 (F := Ideal) x0 (ix3 b s k) = rd x0 (4096 * b.val + s.val) (6144 + k.val) := by
  have hb := b.isLt
  have hs := s.isLt
  have hk := k.isLt
  refine Eq.trans ?_ (rd_eq x0 (show 4096 * b.val + s.val < 16384 by omega) (show 6144 + k.val < 12288 by omega))
  pointwise [val_main_v2, val_main_v1, val_main_v0]
  exact congrArg (fun i => x0 (ix2 i ⟨6144 + k.val, by omega⟩)) (Fin.ext (by show b.val * 4096 + s.val = 4096 * b.val + s.val; omega))

theorem v3_at (x0 : S16384x12288.Idx → EReal) (b : Fin 4) (s : Fin 4096) (k : Fin 2048) :
    val_main_v3 (F := Ideal) x0 (ix3 b s k) = rd x0 (4096 * b.val + s.val) (10240 + k.val) := by
  have hb := b.isLt
  have hs := s.isLt
  have hk := k.isLt
  refine Eq.trans ?_ (rd_eq x0 (show 4096 * b.val + s.val < 16384 by omega) (show 10240 + k.val < 12288 by omega))
  pointwise [val_main_v3, val_main_v1, val_main_v0]
  exact congrArg (fun i => x0 (ix2 i ⟨10240 + k.val, by omega⟩)) (Fin.ext (by show b.val * 4096 + s.val = 4096 * b.val + s.val; omega))

theorem v5_at (x0 : S16384x12288.Idx → EReal) (b : Fin 4) (t : Fin 4096) (k : Fin 2048) :
    val_main_v5 (F := Ideal) x0 (ix3 b t k) = run x0 b.val (t.val + 1) (6144 + k.val) := by
  unfold val_main_v5 Host.reduceWindowAdd
  rw [Ideal.hostReduceWindowAdd_def]
  have z : val_main_call0_call0_v0 (F := Ideal) (Shape.Idx.first Gen.h_S_) = 0 := by
    pointwise [val_main_call0_call0_v0, val_main_call0_call0_cst]
  rw [z]
  exact running_eq (val_main_v2 (F := Ideal) x0) _ b t k (fun s => rd x0 (4096 * b.val + s) (6144 + k.val)) fun s => v2_at x0 b s k

theorem v6_at (x0 : S16384x12288.Idx → EReal) (b : Fin 4) (n : Fin 4097) (k : Fin 2048) :
    val_main_v6 (F := Ideal) x0 (ix3 b n k) = run x0 b.val n.val (6144 + k.val) := by
  have e : val_main_v6 (F := Ideal) x0 (ix3 b n k) = if h : n.val < 1 then 0 else val_main_v5 (F := Ideal) x0 (ix3 b ⟨n.val - 1, by omega⟩ k) := by
    pointwise [val_main_v6, val_main_v4, val_main_cst]
  rw [e]
  by_cases h : n.val < 1
  · rw [dif_pos h, show n.val = 0 by omega]
    exact (sum_range_zero _).symm
  · rw [dif_neg h, v5_at]
    exact congrArg (fun q => run x0 b.val q (6144 + k.val)) (by show n.val - 1 + 1 = n.val; omega)

/-- One entry of a group as the operations leave it. -/
theorem cell_at (x0 : S16384x12288.Idx → EReal) (hfin : ∀ R k, 6144 ≤ k → k < 8192 → ∃ y : ℝ, rd x0 R k = y) (b : Fin 4) (t : Fin 4096)
    (w q : Nat) (hw : w ≤ 16) (i1 : 1 + t.val < 4097) (i2 : 1 + (t.val - w) < 4097) (i3 : q < 2048) :
    Ideal.div (val_main_v6 (F := Ideal) x0 (ix3 b ⟨1 + t.val, i1⟩ ⟨q, i3⟩)
        - (if _h : t.val < w then (0 : EReal) else val_main_v6 (F := Ideal) x0 (ix3 b ⟨1 + (t.val - w), i2⟩ ⟨q, i3⟩)))
      (FloatOps.sitofp (F := Ideal) .f32 (IntOp.minsi (IntOp.addi (BitVec.ofNat 32 t.val) 1#32) (BitVec.ofNat 32 w)))
      - val_main_v2 (F := Ideal) x0 (ix3 b t ⟨q, i3⟩) = cellEl x0 w (4096 * b.val + t.val) (6144 + q) := by
  rw [v6_at, v6_at, v2_at, count_eq t.val w t.isLt hw, ← cell_of_run x0 b.val t.val w (6144 + q) t.isLt fun s => hfin _ _ (by omega) (by omega)]
  congr 2
  refine congrArg₂ (fun a b : EReal => a - b) (congrArg (fun n => run x0 b.val n (6144 + q)) (Nat.add_comm 1 t.val)) ?_
  by_cases h : t.val < w
  · exact (dif_pos h).trans (if_pos h).symm
  · refine (dif_neg h).trans (Eq.trans ?_ (if_neg h).symm)
    congr 1
    show 1 + (t.val - w) = t.val + 1 - w
    omega

theorem silu (x : EReal) : x * Ideal.div 1 (1 + Ideal.exp (-x)) = gateEl x := by
  unfold gateEl
  rw [zero_sub]
  refine Idealize.ShloMosaic.Ideal.mul_one_div ?_
  have h : 0 ≤ Ideal.exp (-x) := by
    induction -x using EReal.rec with
    | bot => exact le_refl _
    | top => exact le_top
    | coe r => exact EReal.coe_nonneg.2 (Real.exp_pos r).le
  exact (lt_of_lt_of_le zero_lt_one (le_add_of_nonneg_right h)).ne'

theorem v88_at (x0 : S16384x12288.Idx → EReal) (b : Fin 4) (s : Fin 4096) (k : Fin 2048) :
    val_main_v88 (F := Ideal) x0 (ix3 b s k) = gateEl (rd x0 (4096 * b.val + s.val) (10240 + k.val)) := by
  rw [← v3_at, ← silu]
  pointwise [val_main_v88, val_main_call1_v5, val_main_call1_v4, val_main_call1_cst_0, val_main_call1_v3, val_main_call1_v2, val_main_call1_cst,
    val_main_call1_v1, val_main_call1_v0]

variable (x0 : S16384x12288.Idx → EReal) (hfin : ∀ R k, 6144 ≤ k → k < 8192 → ∃ y : ℝ, rd x0 R k = y)
include hfin

theorem group0 (b : Fin 4) (t : Fin 4096) (k : Fin 512) :
    val_main_v23 (F := Ideal) x0 (ix3 b t k) = cellEl x0 2 (4096 * b.val + t.val) (6144 + (k.val)) := by
  refine Eq.trans ?_ (cell_at x0 hfin b t 2 (k.val) (by omega) (by omega) (by omega) (by omega))
  pointwise [val_main_v23, val_main_v22, val_main_v9, val_main_v20, val_main_v21, val_main_v19, val_main_v18, val_main_v15, val_main_v8, val_main_v16, val_main_v17, val_main_v14, val_main_cst_1, val_main_v13, val_main_v11, val_main_v12, val_main_v7, val_main_v10, val_main_c_0, val_main_c]

theorem group1 (b : Fin 4) (t : Fin 4096) (k : Fin 512) :
    val_main_v42 (F := Ideal) x0 (ix3 b t k) = cellEl x0 4 (4096 * b.val + t.val) (6144 + (512 + k.val)) := by
  refine Eq.trans ?_ (cell_at x0 hfin b t 4 (512 + k.val) (by omega) (by omega) (by omega) (by omega))
  pointwise [val_main_v42, val_main_v41, val_main_v28, val_main_v39, val_main_v40, val_main_v38, val_main_v37, val_main_v34, val_main_v27, val_main_v35, val_main_v36, val_main_v33, val_main_cst_4, val_main_v32, val_main_v30, val_main_v31, val_main_v7, val_main_v29, val_main_c_3, val_main_c_2]

theorem group2 (b : Fin 4) (t : Fin 4096) (k : Fin 512) :
    val_main_v61 (F := Ideal) x0 (ix3 b t k) = cellEl x0 8 (4096 * b.val + t.val) (6144 + (1024 + k.val)) := by
  refine Eq.trans ?_ (cell_at x0 hfin b t 8 (1024 + k.val) (by omega) (by omega) (by omega) (by omega))
  pointwise [val_main_v61, val_main_v60, val_main_v47, val_main_v58, val_main_v59, val_main_v57, val_main_v56, val_main_v53, val_main_v46, val_main_v54, val_main_v55, val_main_v52, val_main_cst_7, val_main_v51, val_main_v49, val_main_v50, val_main_v7, val_main_v48, val_main_c_6, val_main_c_5]

theorem group3 (b : Fin 4) (t : Fin 4096) (k : Fin 512) :
    val_main_v80 (F := Ideal) x0 (ix3 b t k) = cellEl x0 16 (4096 * b.val + t.val) (6144 + (1536 + k.val)) := by
  refine Eq.trans ?_ (cell_at x0 hfin b t 16 (1536 + k.val) (by omega) (by omega) (by omega) (by omega))
  pointwise [val_main_v80, val_main_v79, val_main_v66, val_main_v77, val_main_v78, val_main_v76, val_main_v75, val_main_v72, val_main_v65, val_main_v73, val_main_v74, val_main_v71, val_main_cst_10, val_main_v70, val_main_v68, val_main_v69, val_main_v7, val_main_v67, val_main_c_9, val_main_c_8]

omit hfin in
/-- A group's product, once its entries are known. -/
theorem product (x1 : S4x512x512.Idx → EReal) (b : Fin 4) (t : Fin 4096) (g g' : Fin 4) (l : Fin 512) (n q w : Nat) (hn : n < 512) (h : n = l.val)
    (hg : g' = g) (hq : q = 512 * g.val) (hw : w = 2 ^ (g.val + 1)) (v : S4x4096x512.Idx → EReal)
    (hv : ∀ k : Fin 512, v (ix3 b t k) = cellEl x0 w (4096 * b.val + t.val) (6144 + (q + k.val))) :
    (∑ k : Fin 512, v (ix3 b t k) * x1 (ix3 g' k ⟨n, hn⟩))
      = ∑ k : Fin 512, cellEl x0 (2 ^ (g.val + 1)) (4096 * b.val + t.val) (6144 + 512 * g.val + k.val) * x1 (ix3 g k l) := by
  subst h hg hq hw
  exact sum_congr rfl fun k _ => by rw [hv, Nat.add_assoc]

set_option maxHeartbeats 4000000 in
theorem v84_at (x1 : S4x512x512.Idx → EReal) (b : Fin 4) (t : Fin 4096) (g : Fin 4) (l : Fin 512) (C : Fin 2048)
    (hC : C.val = 512 * g.val + l.val) : val_main_v84 (F := Ideal) x0 x1 (ix3 b t C)
      = ∑ k : Fin 512, cellEl x0 (2 ^ (g.val + 1)) (4096 * b.val + t.val) (6144 + 512 * g.val + k.val) * x1 (ix3 g k l) := by
  have hl := l.isLt
  pointwise [val_main_v84, val_main_v26, val_main_v45, val_main_v64, val_main_v83, val_main_v24, val_main_v25, val_main_v43, val_main_v44,
    val_main_v62, val_main_v63, val_main_v81, val_main_v82]
  have hg := g.isLt
  rcases (show g.val = 0 ∨ g.val = 1 ∨ g.val = 2 ∨ g.val = 3 by omega) with h | h | h | h
  · rw [dif_pos (by omega)]
    exact product x0 x1 b t g 0 l _ 0 2 _ (by omega) (Fin.ext h.symm) (by omega) (by rw [h]; rfl) _ (fun k => (group0 x0 hfin b t k).trans (by rw [Nat.zero_add]))
  · rw [dif_neg (by omega), dif_pos (by omega)]
    exact product x0 x1 b t g 1 l _ 512 4 _ (by omega) (Fin.ext h.symm) (by omega) (by rw [h]; rfl) _ (group1 x0 hfin b t)
  · rw [dif_neg (by omega), dif_neg (by omega), dif_pos (by omega)]
    exact product x0 x1 b t g 2 l _ 1024 8 _ (by omega) (Fin.ext h.symm) (by omega) (by rw [h]; rfl) _ (group2 x0 hfin b t)
  · rw [dif_neg (by omega), dif_neg (by omega), dif_neg (by omega)]
    exact product x0 x1 b t g 3 l (C.val - 512 - 512 - 512) 1536 16 (by omega) (by omega) (Fin.ext h.symm) (by omega) (by rw [h]; rfl)
      (val_main_v80 (F := Ideal) x0) (group3 x0 hfin b t)

/-- The reference's result, entry by entry. -/
theorem v91_at (x1 : S4x512x512.Idx → EReal) (x2 : S2048.Idx → EReal) (s : Nat → EReal) (hs : ∀ n (h : n < 2048), s n = x2 (ix1 ⟨n, h⟩))
    (g : Fin 4) (l : Fin 512) (R : Fin 16384) (C : Fin 2048) (hC : C.val = 512 * g.val + l.val) :
    val_main_v91 (F := Ideal) x0 x1 x2 (ix2 R C) = poolEl x0 x1 s g (2 ^ (g.val + 1)) R.val l := by
  have hR := R.isLt
  have hl := l.isLt
  have hg := g.isLt
  have e : val_main_v91 (F := Ideal) x0 x1 x2 (ix2 R C)
      = val_main_v84 (F := Ideal) x0 x1 (ix3 ⟨R.val / 4096, by omega⟩ ⟨R.val % 4096, by omega⟩ C) * x2 (ix1 C)
        * val_main_v88 (F := Ideal) x0 (ix3 ⟨R.val / 4096, by omega⟩ ⟨R.val % 4096, by omega⟩ C) := by
    pointwise [val_main_v91, val_main_v90, val_main_v89, val_main_v87, val_main_v86, val_main_v85]
  rw [e, v88_at, v84_at x0 hfin x1 _ _ g l C hC, ← hs C.val C.isLt]
  unfold poolEl
  have d : 4096 * (R.val / 4096) + R.val % 4096 = R.val := Nat.div_add_mod ..
  have d' : 10240 + C.val = 10240 + 512 * g.val + l.val := by omega
  rw [d, d', hC]

omit hfin in
theorem fin_of_pre [Cert.Pre_pool_input_finite.Facts] (x1 : S4x512x512.Idx → EReal) (x2 : S2048.Idx → EReal)
    (h : Cert.Pre_pool_input_finite.fn (F := Ideal) x0 x1 x2 = fun _ => 1#1) (R k : Nat) (h0 : 6144 ≤ k) (h1 : k < 8192) :
    ∃ y : ℝ, rd x0 R k = y := by
  by_cases hR : R < 16384
  · rw [← rd_eq x0 hR (by omega : k < 12288)]
    have a := congrFun h (ix2 ⟨R, hR⟩ ⟨k - 6144, by omega⟩)
    have e : Cert.Pre_pool_input_finite.fn (F := Ideal) x0 x1 x2 (ix2 ⟨R, hR⟩ ⟨k - 6144, by omega⟩)
        = BitVec.ofBool (decide (x0 (ix2 ⟨R, hR⟩ ⟨6144 + (k - 6144), by omega⟩) - x0 (ix2 ⟨R, hR⟩ ⟨6144 + (k - 6144), by omega⟩) = 0)) := by
      pointwise [Cert.Pre_pool_input_finite.fn]
    rw [e] at a
    have z : x0 (ix2 ⟨R, hR⟩ ⟨6144 + (k - 6144), by omega⟩) - x0 (ix2 ⟨R, hR⟩ ⟨6144 + (k - 6144), by omega⟩) = 0 := by
      by_contra n
      rw [decide_eq_false n] at a
      exact absurd a (by decide)
    have q : (⟨6144 + (k - 6144), by omega⟩ : Fin 12288) = ⟨k, by omega⟩ := Fin.ext (by show 6144 + (k - 6144) = k; omega)
    rw [q] at z
    generalize x0 (ix2 ⟨R, hR⟩ ⟨k, by omega⟩) = y at z
    induction y using EReal.rec with
    | bot => exact absurd z (by decide)
    | top => exact absurd z (by decide)
    | coe y => exact ⟨y, rfl⟩
  · exact ⟨0, by unfold rd; rw [dif_neg (by omega)]; rfl⟩

end Cert.Val.PoolRef

end
-- ==== Proof.Val.PoolEq.lean ====
module

public import proofs.«01_k».proof.Proof.Val.Pool
public import proofs.«01_k».proof.Proof.Val.PoolRef

@[expose] public section

noncomputable section

/-! The fourth program's two sides joined, and what its precondition's own operations ask. -/

namespace Cert.Val.Pool

open Idealize.ShloMosaic Idealize.ShloMosaic.TcCoe Cert.Kernel4Ideal Cert.Kernel4Ideal.Gen Cert.Val

theorem preFacts : Cert.Pre_pool_input_finite.Facts where
  slices_S16384x12288_S16384x2048_0_6144 := by decide
  bitsLt_bf16_f32 := by decide
  bcast_S_S16384x2048 := by decide

variable (m : (ℓ : Loc nD τ sig) → Buf (Elt Ideal) ℓ) (c : Dev nD)

/-- The program's result is the reference's, on rows that are finite. -/
theorem result_eq (h : @Cert.Pre_pool_input_finite.fn preFacts Ideal _ (pr m c) (pw m c) (ps m c) = fun _ => 1#1) :
    res m c = Cert.Reference4Ideal.Read.val_main_v91 (F := Ideal) (pr m c) (pw m c) (ps m c) := by
  funext j
  obtain ⟨R, C, rfl⟩ := ix2_eta (n := 16384) (k := 2048) j
  have hC := C.isLt
  rw [res, arr2_ix, V_main_arg0, v0_eq]
  refine Eq.symm (@PoolRef.v91_at (pr m c) (fun R k h0 h1 => @PoolRef.fin_of_pre (pr m c) preFacts (pw m c) (ps m c) h R k h0 h1)
    (pw m c) (ps m c) (sc m c) (fun n hn => sc_eq m c n hn) ⟨C.val / 512, by omega⟩ ⟨C.val % 512, by omega⟩ R C ?_)
  exact (Nat.div_add_mod ..).symm

end Cert.Val.Pool

end
-- ==== Proof.Val.RetMath.lean ====
module

public import proofs.«01_k».proof.Proof.Val.PoolMath

@[expose] public section

noncomputable section

/-! What the retention computes: over finite entries, the blocks' sums with a carried state are the sum over every frame read, each
with its decay. -/

namespace Cert.Val.Ret

open Idealize.ShloMosaic Finset

theorem coe_sum (f : Nat → ℝ) (n : Nat) : ((∑ s ∈ range n, f s : ℝ) : EReal) = ∑ s ∈ range n, (f s : EReal) := by
  induction n with
  | zero => simp
  | succ n ih => rw [sum_range_succ, sum_range_succ, EReal.coe_add, ih]

/-- The decay between two frames: frames of a later chunk of 64 are not read. -/
def decay (g : EReal) (n m : Nat) : EReal := if m / 64 ≤ n / 64 then Ideal.exp (g * ((|(n : ℝ) - (m : ℝ)| : ℝ) : EReal)) else 0

/-- The retention's sum at frame `n` and column `e`, over every frame. -/
def dense (q k v : Nat → Nat → EReal) (g : EReal) (n e : Nat) : EReal :=
  ∑ m ∈ range 4096, ((∑ d ∈ range 256, q n d * k m d) * decay g n m) * v m e

/-- The state that block `t` starts from. -/
def state (k v : Nat → Nat → EReal) (g : EReal) : Nat → Nat → Nat → EReal
  | 0, _, _ => 0
  | t + 1, d, e => state k v g t d e * Ideal.exp (g * ((256 : ℝ) : EReal))
      + ∑ j ∈ range 256, (k (256 * t + j) d * Ideal.exp (g * (((255 : ℝ) - (j : ℝ) : ℝ) : EReal))) * v (256 * t + j) e

/-- The blocks' sum at row `i` of block `t`. -/
def block (q k v : Nat → Nat → EReal) (g : EReal) (t i e : Nat) : EReal :=
  (∑ j ∈ range 256, ((∑ d ∈ range 256, q (256 * t + i) d * k (256 * t + j) d) * decay g i j) * v (256 * t + j) e)
    + ∑ d ∈ range 256, (q (256 * t + i) d * Ideal.exp (g * (((i : ℝ) + 1 : ℝ) : EReal))) * state k v g t d e

variable (q k v : Nat → Nat → ℝ) (g : ℝ)

/-- The decay over the reals. -/
def decayR (n m : Nat) : ℝ := if m / 64 ≤ n / 64 then Real.exp (g * |(n : ℝ) - (m : ℝ)|) else 0

theorem decay_coe (n m : Nat) : decay (g : EReal) n m = (decayR g n m : EReal) := by
  unfold decay decayR
  by_cases h : m / 64 ≤ n / 64
  · rw [if_pos h, if_pos h, ← EReal.coe_mul]; rfl
  · rw [if_neg h, if_neg h]; rfl

theorem dense_coe (n e : Nat) : dense (fun n d => (q n d : EReal)) (fun n d => (k n d : EReal)) (fun n d => (v n d : EReal)) (g : EReal) n e
    = ((∑ m ∈ range 4096, ((∑ d ∈ range 256, q n d * k m d) * decayR g n m) * v m e : ℝ) : EReal) := by
  unfold dense
  rw [coe_sum]
  refine sum_congr rfl fun m _ => ?_
  rw [EReal.coe_mul, EReal.coe_mul, coe_sum, decay_coe]
  simp only [EReal.coe_mul]

/-- The state is the decayed sum over all the frames before. -/
theorem state_coe (t d e : Nat) : state (fun n d => (k n d : EReal)) (fun n d => (v n d : EReal)) (g : EReal) t d e
    = ((∑ m ∈ range (256 * t), k m d * Real.exp (g * (256 * (t : ℝ) - 1 - (m : ℝ))) * v m e : ℝ) : EReal) := by
  induction t with
  | zero => unfold state; simp
  | succ t ih =>
    unfold state
    rw [ih, show 256 * (t + 1) = 256 * t + 256 by ring, sum_range_add (n := 256 * t) (m := 256), EReal.coe_add]
    refine congrArg₂ (fun a b : EReal => a + b) ?_ ?_
    · rw [← EReal.coe_mul, Ideal.exp_coe, ← EReal.coe_mul]
      refine congrArg _ ?_
      rw [sum_mul]
      refine sum_congr rfl fun m _ => ?_
      have : Real.exp (g * (256 * ((t + 1 : ℕ) : ℝ) - 1 - (m : ℝ))) = Real.exp (g * (256 * (t : ℝ) - 1 - (m : ℝ))) * Real.exp (g * 256) := by
        rw [← Real.exp_add]; congr 1; push_cast; ring
      rw [this]; ring
    · rw [coe_sum]
      refine sum_congr rfl fun j _ => ?_
      rw [← EReal.coe_mul, Ideal.exp_coe, ← EReal.coe_mul, ← EReal.coe_mul]
      refine congrArg _ ?_
      refine congrArg (fun a : ℝ => k (256 * t + j) d * Real.exp (g * a) * v (256 * t + j) e) ?_
      push_cast; ring

theorem block_coe (t i e : Nat) : block (fun n d => (q n d : EReal)) (fun n d => (k n d : EReal)) (fun n d => (v n d : EReal)) (g : EReal) t i e
    = (((∑ j ∈ range 256, ((∑ d ∈ range 256, q (256 * t + i) d * k (256 * t + j) d) * decayR g i j) * v (256 * t + j) e)
      + ∑ d ∈ range 256, (q (256 * t + i) d * Real.exp (g * ((i : ℝ) + 1)))
          * ∑ m ∈ range (256 * t), k m d * Real.exp (g * (256 * (t : ℝ) - 1 - (m : ℝ))) * v m e : ℝ) : EReal) := by
  unfold block
  refine (congrArg₂ (fun a b : EReal => a + b) ((sum_congr rfl fun j _ => ?_).trans (coe_sum _ _).symm)
    ((sum_congr rfl fun d _ => ?_).trans (coe_sum _ _).symm)).trans (EReal.coe_add _ _).symm
  · rw [EReal.coe_mul, EReal.coe_mul, coe_sum, decay_coe]
    simp only [EReal.coe_mul]
  · rw [state_coe, ← EReal.coe_mul, Ideal.exp_coe, ← EReal.coe_mul, ← EReal.coe_mul]

/-- Row `i` of block `t` of the blocks' sums is the whole sum at its frame. -/
theorem block_eq_dense (t i e : Nat) (ht : t < 16) (hi : i < 256) :
    block (fun n d => (q n d : EReal)) (fun n d => (k n d : EReal)) (fun n d => (v n d : EReal)) (g : EReal) t i e
      = dense (fun n d => (q n d : EReal)) (fun n d => (k n d : EReal)) (fun n d => (v n d : EReal)) (g : EReal) (256 * t + i) e := by
  rw [block_coe, dense_coe]
  refine congrArg _ ?_
  obtain ⟨r, hr⟩ : ∃ r, 4096 = 256 * t + 256 + r := ⟨4096 - (256 * t + 256), by omega⟩
  rw [hr, sum_range_add (n := 256 * t + 256) (m := r), sum_range_add (n := 256 * t) (m := 256)]
  have z : ∑ s ∈ range r, ((∑ d ∈ range 256, q (256 * t + i) d * k (256 * t + 256 + s) d) * decayR g (256 * t + i) (256 * t + 256 + s))
      * v (256 * t + 256 + s) e = 0 := by
    refine sum_eq_zero fun s _ => ?_
    unfold decayR
    rw [if_neg (by omega), mul_zero, zero_mul]
  rw [z, add_zero, add_comm]
  refine congrArg₂ (fun a b : ℝ => a + b) ?_ (sum_congr rfl fun j hj => ?_)
  · simp only [mul_sum]
    rw [sum_comm]
    refine sum_congr rfl fun m hm => ?_
    have hm' := mem_range.1 hm
    unfold decayR
    rw [if_pos (by omega), sum_mul, sum_mul]
    refine sum_congr rfl fun d _ => ?_
    have hle : (m : ℝ) ≤ ((256 * t + i : ℕ) : ℝ) := by exact_mod_cast (by omega : m ≤ 256 * t + i)
    have : Real.exp (g * |((256 * t + i : ℕ) : ℝ) - (m : ℝ)|) = Real.exp (g * ((i : ℝ) + 1)) * Real.exp (g * (256 * (t : ℝ) - 1 - (m : ℝ))) := by
      rw [← Real.exp_add, abs_of_nonneg (by linarith)]; congr 1; push_cast; ring
    rw [this]; ring
  · refine congrArg (fun a : ℝ => (∑ d ∈ range 256, q (256 * t + i) d * k (256 * t + j) d) * a * v (256 * t + j) e) ?_
    unfold decayR
    have e1 : ((256 * t + i : ℕ) : ℝ) - ((256 * t + j : ℕ) : ℝ) = (i : ℝ) - (j : ℝ) := by push_cast; ring
    rw [e1]
    by_cases h : j / 64 ≤ i / 64
    · rw [if_pos h, if_pos (by omega)]
    · rw [if_neg h, if_neg (by omega)]

/-- The logarithm of a head's decay, from its number. -/
def logDecay (h : Nat) : EReal := Ideal.log (1 - Ideal.exp2 ((-5 : ℝ) - (h : ℝ) : ℝ))

theorem logDecay_real (h : Nat) : ∃ y : ℝ, logDecay h = y := by
  refine ⟨Real.log (1 - Real.rpow 2 ((-5 : ℝ) - (h : ℝ))), ?_⟩
  unfold logDecay
  rw [Ideal.exp2_coe, ← EReal.coe_one, ← EReal.coe_sub]
  refine if_neg ?_
  have : Real.rpow 2 ((-5 : ℝ) - (h : ℝ)) < 1 := Real.rpow_lt_one_of_one_lt_of_neg (by norm_num) (by have : (0 : ℝ) ≤ h := Nat.cast_nonneg h; linarith)
  linarith

end Cert.Val.Ret

end
-- ==== Proof.Val.RetPay.lean ====
module

public import proofs.«01_k».proof.Proof.Gen.Kernel6Ideal.Skeleton
public import Idealize.ShloMosaic.Lib.Pointwise
public import proofs.«01_k».proof.Proof.Val.RetMath

@[expose] public section

noncomputable section

/-! The sixth program's vector steps, entry by entry: the rotation, the decay of a block, the block's sums, the next state and the
normalised, gated output. -/

namespace Cert.Val.Ret

open Idealize.ShloMosaic Idealize.ShloMosaic.TcCoe Cert.Kernel6Ideal Cert.Kernel6Ideal.Gen Cert.Val Cert.Val.Pool Finset

/-! ### Numbers -/

theorem bits_neg5 : Ideal.ofBits .f32 0xC0A00000#32 = ((-5 : ℝ) : EReal) := by
  simp [Ideal.ofBits, Ideal.ieee, -EReal.coe_mul, -EReal.coe_neg]; norm_num
theorem bits_255 : Ideal.ofBits .f32 0x437F0000#32 = ((255 : ℝ) : EReal) := by
  simp [Ideal.ofBits, Ideal.ieee, -EReal.coe_mul]; norm_num
theorem bits_256 : Ideal.ofBits .f32 0x43800000#32 = ((256 : ℝ) : EReal) := by
  simp [Ideal.ofBits, Ideal.ieee, -EReal.coe_mul]; norm_num
theorem bits_sixteenth : Ideal.ofBits .f32 0x3D800000#32 = (((1 : ℝ) / 16 : ℝ) : EReal) := by
  simp [Ideal.ofBits, Ideal.ieee, -EReal.coe_mul]; norm_num

theorem word_int (n : Nat) (h : n < 4096) : (BitVec.ofNat 32 n).toInt = n := by
  rw [BitVec.toInt_eq_toNat_of_lt (by rw [BitVec.toNat_ofNat]; omega), BitVec.toNat_ofNat, Nat.mod_eq_of_lt (by omega)]

theorem word_real (n : Nat) (h : n < 4096) : (FloatOps.sitofp (F := Ideal) .f32 (BitVec.ofNat 32 n) : EReal) = ((n : ℝ) : EReal) := by
  show ((((BitVec.ofNat 32 n).toInt : ℤ) : ℝ) : EReal) = _
  rw [word_int n h, Int.cast_natCast]

/-- The distance of two words is their difference's magnitude. -/
theorem dist_real (a b : Fin 256) : (FloatOps.sitofp (F := Ideal) .f32 (IntOp.absi (IntOp.subi (BitVec.ofNat 32 a.val) (BitVec.ofNat 32 b.val))) : EReal)
    = ((|(a.val : ℝ) - (b.val : ℝ)| : ℝ) : EReal) := by
  have ha := a.isLt
  have hb := b.isLt
  have p : ∀ n : Fin 256, IntOp.absi (BitVec.ofNat 32 n.val) = BitVec.ofNat 32 n.val := by decide +kernel
  have q : ∀ n : Fin 256, IntOp.absi (-BitVec.ofNat 32 n.val) = BitVec.ofNat 32 n.val := by decide +kernel
  show (FloatOps.sitofp (F := Ideal) .f32 (IntOp.absi (BitVec.ofNat 32 a.val - BitVec.ofNat 32 b.val)) : EReal) = _
  rcases Nat.le_total b.val a.val with h | h
  · have e : BitVec.ofNat 32 a.val - BitVec.ofNat 32 b.val = BitVec.ofNat 32 (a.val - b.val) := by
      rw [BitVec.ofNat_sub_ofNat_of_le _ _ (by omega) h]
    rw [e, p ⟨a.val - b.val, by omega⟩, word_real _ (by omega), Nat.cast_sub h, abs_of_nonneg (sub_nonneg.2 (by exact_mod_cast h))]
  · have e : BitVec.ofNat 32 a.val - BitVec.ofNat 32 b.val = -BitVec.ofNat 32 (b.val - a.val) := by
      rw [← BitVec.ofNat_sub_ofNat_of_le _ _ (by omega) h]
      rw [BitVec.neg_sub, BitVec.add_comm, ← BitVec.sub_eq_add_neg]
    rw [e, q ⟨b.val - a.val, by omega⟩, word_real _ (by omega), Nat.cast_sub h, abs_of_nonpos (sub_nonpos.2 (by exact_mod_cast h)), neg_sub]

/-- The chunk of a frame, as the words compute it. -/
def chunkWord (x : BitVec 32) : BitVec 32 :=
  Scalar.select
    (IntOp.andi
      (IntOp.cmpi CmpIPredicate.ne
        (IntOp.subi (BitVec.setWidth 32 (IntOp.cmpi CmpIPredicate.sgt x 0#32)) (BitVec.setWidth 32 (IntOp.cmpi CmpIPredicate.slt x 0#32)))
        (Scalar.subi 1#32 (Scalar.extui (Scalar.cmpi CmpIPredicate.slt 64#32 0#32))))
      (IntOp.cmpi CmpIPredicate.ne (IntOp.remsi ArithUnit.vector x 64#32) 0#32))
    (IntOp.subi (IntOp.divsi ArithUnit.vector x 64#32) 1#32) (IntOp.divsi ArithUnit.vector x 64#32)

theorem chunk_word : ∀ r : Fin 256, chunkWord (BitVec.ofNat 32 r.val) = BitVec.ofNat 32 (r.val / 64) := by decide +kernel

theorem chunk_le : ∀ a b : Fin 4, IntOp.cmpi CmpIPredicate.sle (BitVec.ofNat 32 a.val) (BitVec.ofNat 32 b.val) = BitVec.ofBool (decide (a.val ≤ b.val)) := by
  decide +kernel

theorem masked (r c : Fin 256) (x : EReal) :
    Scalar.select (IntOp.cmpi CmpIPredicate.sle (chunkWord (BitVec.ofNat 32 c.val)) (chunkWord (BitVec.ofNat 32 r.val))) x 0
      = if c.val / 64 ≤ r.val / 64 then x else 0 := by
  have e := chunk_le ⟨c.val / 64, by omega⟩ ⟨r.val / 64, by omega⟩
  dsimp only at e
  rw [chunk_word, chunk_word, e]
  by_cases h : c.val / 64 ≤ r.val / 64
  · rw [if_pos h, decide_eq_true h]; rfl
  · rw [if_neg h, decide_eq_false h]; rfl

/-! ### The steps -/

theorem head_word : ∀ a : Fin 4, Scalar.addi (Scalar.muli (BitVec.ofNat 32 a.val) 2#32) 0#32 = BitVec.ofNat 32 (2 * a.val)
    ∧ Scalar.addi (Scalar.muli (BitVec.ofNat 32 a.val) 2#32) 1#32 = BitVec.ofNat 32 (2 * a.val + 1) := by decide +kernel

theorem log_of (n : Nat) (h : n < 4096) : Ideal.log (1 - FloatOps.exp2 (F := Ideal) (φ := .f32)
    (Ideal.ofBits .f32 0xC0A00000#32 - FloatOps.sitofp (F := Ideal) .f32 (BitVec.ofNat 32 n))) = logDecay n := by
  rw [word_real n h, bits_neg5, ← EReal.coe_sub]
  rfl

theorem pay14_at (i : grid0.Coords) : k0_pay14 (F := Ideal) i (ix2 0 0) = logDecay (2 * (i 1).val) := by
  have h := (i 1).isLt
  rw [← log_of (2 * (i 1).val) (by have : (i 1).val < 4 := h; omega), ← (head_word ⟨(i 1).val, h⟩).1]
  pointwise [k0_pay14]

theorem pay22_at (i : grid0.Coords) : k0_pay22 (F := Ideal) (BitVec.ofNat 32 (i 1).val) (ix2 0 0) = logDecay (2 * (i 1).val + 1) := by
  have h := (i 1).isLt
  rw [← log_of (2 * (i 1).val + 1) (by have : (i 1).val < 4 := h; omega), ← (head_word ⟨(i 1).val, h⟩).2]
  pointwise [k0_pay22]

theorem pay13_at (r : Fin 256) : k0_pay13 (F := Ideal) (ix2 r 0) = ((r.val : ℝ) : EReal) := by
  rw [← word_real r.val (by omega)]
  pointwise [k0_pay13]

/-- A row rotated: the first half against the cosine and sine, then the second. -/
def rotEl (x c s : Nat → EReal) (d : Nat) : EReal :=
  if d < 128 then x d * c d - x (128 + d) * s d else x d * c (d - 128) + x (d - 128) * s (d - 128)

theorem pay16_at (c s : Vec Ideal S256x128 .f32) (q : Vec Ideal S256x256 .bf16) (r d : Fin 256) (C S Q : Nat → EReal)
    (hc : ∀ x : Fin 128, c (ix2 r x) = C x.val) (hs : ∀ x : Fin 128, s (ix2 r x) = S x.val) (hq : ∀ x : Fin 256, q (ix2 r x) = Q x.val) :
    k0_pay16 c s q (ix2 r d) = rotEl Q C S d.val := by
  unfold rotEl
  pointwise [k0_pay16]
  by_cases h : d.val < 128
  · rw [dif_pos h, if_pos h, hq, hq, hc, hs]
  · rw [dif_neg h, if_neg h, hq, hq, hc, hs]
    congr 3
    show 128 + (d.val - 128) = d.val; omega

theorem pay17_at (c s : Vec Ideal S256x128 .f32) (q : Vec Ideal S256x256 .bf16) (r d : Fin 256) (C S Q : Nat → EReal)
    (hc : ∀ x : Fin 128, c (ix2 r x) = C x.val) (hs : ∀ x : Fin 128, s (ix2 r x) = S x.val) (hq : ∀ x : Fin 256, q (ix2 r x) = Q x.val) :
    k0_pay17 c s q (ix2 r d) = rotEl Q C S d.val * Ideal.ofBits .f32 0x3D800000#32 := by
  rw [← pay16_at c s q r d C S Q hc hs hq]
  pointwise [k0_pay17, k0_pay16]

theorem pay18_at (lg : FVec Ideal S1x1 .f32) (q k : FVec Ideal S256x256 .f32) (v : Vec Ideal S256x256 .bf16) (de st : Vec Ideal S256x256 .f32)
    (r e : Fin 256) (Q K W : Nat → Nat → EReal) (g : EReal) (t : Nat) (hg : lg (ix2 0 0) = g) (hq : ∀ d : Fin 256, q (ix2 r d) = Q (256 * t + r.val) d.val)
    (hk : ∀ j d : Fin 256, k (ix2 j d) = K (256 * t + j.val) d.val) (hv : ∀ j : Fin 256, v (ix2 j e) = W (256 * t + j.val) e.val)
    (hd : ∀ j : Fin 256, de (ix2 r j) = decay g r.val j.val) (hs : ∀ d : Fin 256, st (ix2 d e) = state K W g t d.val e.val) :
    k0_pay18 k0_pay13 lg q k v de st (ix2 r e) = block Q K W g t r.val e.val := by
  have u : k0_pay18 k0_pay13 lg q k v de st (ix2 r e) = ∑ x : Fin 256, (∑ y : Fin 256, q (ix2 r y) * k (ix2 x y)) * de (ix2 r x) * v (ix2 x e)
      + ∑ x : Fin 256, q (ix2 r x) * Ideal.exp (lg (ix2 0 0) * (k0_pay13 (F := Ideal) (ix2 r 0) + 1)) * st (ix2 x e) := by
    pointwise [k0_pay18]
  rw [u, hg, pay13_at]
  unfold block
  rw [← Fin.sum_univ_eq_sum_range (fun j => ((∑ d ∈ range 256, Q (256 * t + r.val) d * K (256 * t + j) d) * decay g r.val j) * W (256 * t + j) e.val) 256,
    ← Fin.sum_univ_eq_sum_range (fun d => (Q (256 * t + r.val) d * Ideal.exp (g * (((r.val : ℝ) + 1 : ℝ) : EReal))) * state K W g t d e.val) 256]
  refine congrArg₂ (fun a b : EReal => a + b) (sum_congr rfl fun j _ => ?_) (sum_congr rfl fun d _ => ?_)
  · rw [hd, hv, ← Fin.sum_univ_eq_sum_range (fun d => Q (256 * t + r.val) d * K (256 * t + j.val) d) 256]
    simp only [hq, hk]
  · rw [hq, hs, EReal.coe_add, EReal.coe_one]

theorem pay19_at (lg : FVec Ideal S1x1 .f32) (k : FVec Ideal S256x256 .f32) (v : Vec Ideal S256x256 .bf16) (st : Vec Ideal S256x256 .f32)
    (d e : Fin 256) (K W : Nat → Nat → EReal) (g : EReal) (t : Nat) (hg : lg (ix2 0 0) = g)
    (hk : ∀ j : Fin 256, k (ix2 j d) = K (256 * t + j.val) d.val) (hv : ∀ j : Fin 256, v (ix2 j e) = W (256 * t + j.val) e.val)
    (hs : st (ix2 d e) = state K W g t d.val e.val) :
    k0_pay19 k0_pay13 lg k v st (ix2 d e) = state K W g (t + 1) d.val e.val := by
  have u : k0_pay19 k0_pay13 lg k v st (ix2 d e) = st (ix2 d e) * Ideal.exp (lg (ix2 0 0) * Ideal.ofBits .f32 0x43800000#32)
      + ∑ x : Fin 256, k (ix2 x d) * Ideal.exp (lg (ix2 0 0) * (Ideal.ofBits .f32 0x437F0000#32 - k0_pay13 (F := Ideal) (ix2 x 0))) * v (ix2 x e) := by
    pointwise [k0_pay19]
  rw [u, hg, bits_256, bits_255, hs]
  show _ = state K W g t d.val e.val * Ideal.exp (g * ((256 : ℝ) : EReal))
      + ∑ j ∈ range 256, (K (256 * t + j) d.val * Ideal.exp (g * (((255 : ℝ) - (j : ℝ) : ℝ) : EReal))) * W (256 * t + j) e.val
  rw [← Fin.sum_univ_eq_sum_range (fun j => (K (256 * t + j) d.val * Ideal.exp (g * (((255 : ℝ) - (j : ℝ) : ℝ) : EReal))) * W (256 * t + j) e.val) 256]
  refine congrArg (fun a : EReal => state K W g t d.val e.val * Ideal.exp (g * ((256 : ℝ) : EReal)) + a) (sum_congr rfl fun j _ => ?_)
  rw [hk, hv, pay13_at, ← EReal.coe_sub]

/-- A row's entry, normalised by the row's mean square, scaled and gated. -/
def finEl (o : Nat → EReal) (n g : EReal) (e : Nat) : EReal :=
  o e * Ideal.rsqrt (Ideal.div (∑ x ∈ range 256, o x * o x) (Ideal.ofBits .f32 0x43800000#32) + Ideal.ofBits .f32 0x358637BD#32) * n * gateEl g

theorem pay2_at (o : FVec Ideal S256x256 .f32) (n : Vec Ideal S1x256 .f32) (g : Vec Ideal S256x256 .bf16) (r e : Fin 256) (O : Nat → EReal)
    (ho : ∀ x : Fin 256, o (ix2 r x) = O x.val) : k0_pay2 o n g (ix2 r e) = finEl O (n (ix2 0 e)) (g (ix2 r e)) e.val := by
  have u : k0_pay2 o n g (ix2 r e) = o (ix2 r e) * Ideal.rsqrt (Ideal.div (∑ x : Fin 256, o (ix2 r x) * o (ix2 r x)) (Ideal.ofBits .f32 0x43800000#32)
      + Ideal.ofBits .f32 0x358637BD#32) * n (ix2 0 e) * Ideal.div (g (ix2 r e)) (1 + Ideal.exp (0 - g (ix2 r e))) := by
    pointwise [k0_pay2]
  rw [u]
  unfold finEl
  rw [← Fin.sum_univ_eq_sum_range (fun x => O x * O x) 256]
  simp only [ho]
  rfl

theorem pay15_at (i : grid0.Coords) (r c : Fin 256) :
    k0_pay15 (F := Ideal) i (iota .tc S256x256 32 [0] iota_S256x256_d0_w32) (k0_pay4 (F := Ideal)) k0_pay5 64#32 k0_pay6 k0_pay7 1#32 0#32 (ix2 r c)
      = decay (logDecay (2 * (i 1).val)) r.val c.val := by
  unfold decay
  rw [← pay14_at, ← dist_real, ← masked]
  pointwise [k0_pay15, k0_pay4, k0_pay5, k0_pay6, k0_pay7]
  rfl

theorem pay23_at (i : grid0.Coords) (r c : Fin 256) :
    k0_pay23 (F := Ideal) (BitVec.ofNat 32 (i 1).val) (iota .tc S256x256 32 [0] iota_S256x256_d0_w32) (k0_pay9 (F := Ideal)) k0_pay10 64#32 k0_pay11 k0_pay12 1#32 0#32 (ix2 r c)
      = decay (logDecay (2 * (i 1).val + 1)) r.val c.val := by
  unfold decay
  rw [← pay22_at, ← dist_real, ← masked]
  pointwise [k0_pay23, k0_pay9, k0_pay10, k0_pay11, k0_pay12]
  rfl

theorem pay3_at (x : S256x256.Idx) : k0_pay3 (F := Ideal) x = 0 ∧ k0_pay8 (F := Ideal) x = 0 := by
  constructor
  · pointwise [k0_pay3]
  · pointwise [k0_pay8]

end Cert.Val.Ret

end
-- ==== Proof.Val.RetOut.lean ====
module

public import proofs.«01_k».proof.Proof.Gen.Kernel6Ideal.Frame
public import Idealize.ShloMosaic.Lib.Pipeline.Value
public import Idealize.ShloMosaic.Lib.Pipeline.ValueKit
public import Idealize.ShloMosaic.Lib.Pipeline.ReadBack
public import Idealize.ShloMosaic.Lib.Pointwise
public import proofs.«01_k».proof.Proof.Val.RetPay

@[expose] public section

noncomputable section

/-! What the sixth program leaves in its output array: the carried states and decays, point by point, and the output blocks. -/

namespace Cert.Val.Ret

open Idealize.ShloMosaic Idealize.ShloMosaic.TcCoe Cert.Kernel6Ideal Cert.Kernel6Ideal.Gen Cert.Val Cert.Val.Pool Finset
open Idealize.ShloMosaic.Pipeline (Dat Cfg Window)

variable (m : (ℓ : Loc nD τ sig) → Buf (Elt Ideal) ℓ) (c : Dev nD)

theorem in0 : ∀ t : Fin cfg0.N, win0_0.index t (0 : Fin 2) = 16 * (t.val / 64) + t.val % 16 ∧ win0_0.index t (1 : Fin 2) = t.val / 16 % 4 :=
  (by decide +kernel : ∀ t : Fin grid0.N, _)
theorem in1 : ∀ t : Fin cfg0.N, win0_1.index t (0 : Fin 2) = 16 * (t.val / 64) + t.val % 16 ∧ win0_1.index t (1 : Fin 2) = 4 + t.val / 16 % 4 :=
  (by decide +kernel : ∀ t : Fin grid0.N, _)
theorem in2 : ∀ t : Fin cfg0.N, win0_2.index t (0 : Fin 2) = 16 * (t.val / 64) + t.val % 16 ∧ win0_2.index t (1 : Fin 2) = 8 + t.val / 16 % 4 :=
  (by decide +kernel : ∀ t : Fin grid0.N, _)
theorem in3 : ∀ t : Fin cfg0.N, win0_3.index t (0 : Fin 2) = t.val % 16 ∧ win0_3.index t (1 : Fin 2) = 0 :=
  (by decide +kernel : ∀ t : Fin grid0.N, _)
theorem in4 : ∀ t : Fin cfg0.N, win0_4.index t (0 : Fin 2) = t.val % 16 ∧ win0_4.index t (1 : Fin 2) = 0 :=
  (by decide +kernel : ∀ t : Fin grid0.N, _)
theorem in5 : ∀ t : Fin cfg0.N, win0_5.index t (0 : Fin 2) = 16 * (t.val / 64) + t.val % 16 ∧ win0_5.index t (1 : Fin 2) = 16 + t.val / 16 % 4 :=
  (by decide +kernel : ∀ t : Fin grid0.N, _)
theorem in6 : ∀ t : Fin cfg0.N, win0_6.index t (0 : Fin 2) = 0 ∧ win0_6.index t (1 : Fin 2) = t.val / 16 % 4 :=
  (by decide +kernel : ∀ t : Fin grid0.N, _)
theorem ou7 : ∀ t : Fin cfg0.N, win0_7.index t (0 : Fin 2) = 16 * (t.val / 64) + t.val % 16 ∧ win0_7.index t (1 : Fin 2) = t.val / 16 % 4 :=
  (by decide +kernel : ∀ t : Fin grid0.N, _)
theorem co1 : ∀ t : Fin cfg0.N, (grid0.coords t (1 : Fin 3)).val = t.val / 16 % 4 :=
  (by decide +kernel : ∀ t : Fin grid0.N, _)

/-- The left and the right head of a block of two. -/
abbrev lo (x : Vec Ideal S256x512 .bf16) : Vec Ideal S256x256 .bf16 := View.ld x (Rect.unit ![0, 0] ![256, 256] inb_S256x512_S256x256_0_0)
abbrev hi (x : Vec Ideal S256x512 .bf16) : Vec Ideal S256x256 .bf16 := View.ld x (Rect.unit ![0, 256] ![256, 256] inb_S256x512_S256x256_0_256)

/-- The decay block of either head at point `t`. -/
abbrev decA (t : Fin cfg0.N) : FVec Ideal S256x256 .f32 :=
  k0_pay15 (F := Ideal) (grid0.coords t) (iota .tc S256x256 32 [0] iota_S256x256_d0_w32) (k0_pay4 (F := Ideal)) k0_pay5 64#32 k0_pay6 k0_pay7 1#32 0#32
abbrev decB (t : Fin cfg0.N) : FVec Ideal S256x256 .f32 :=
  k0_pay23 (F := Ideal) (BitVec.ofNat 32 (grid0.coords t 1).val) (iota .tc S256x256 32 [0] iota_S256x256_d0_w32) (k0_pay9 (F := Ideal)) k0_pay10 64#32 k0_pay11 k0_pay12 1#32 0#32

/-- The next state and the block's sums of a head, over the state `st` and the decays `de` found. -/
abbrev nextV (t : Fin cfg0.N) (lg : FVec Ideal S1x1 .f32) (k v : Vec Ideal S256x256 .bf16) (st : Vec Ideal S256x256 .f32) : FVec Ideal S256x256 .f32 :=
  k0_pay19 k0_pay13 lg (k0_pay17 (iblk m c 3 t) (iblk m c 4 t) k) v st
abbrev outV (t : Fin cfg0.N) (lg : FVec Ideal S1x1 .f32) (q k v : Vec Ideal S256x256 .bf16) (de st : Vec Ideal S256x256 .f32) : FVec Ideal S256x256 .f32 :=
  k0_pay18 k0_pay13 lg (k0_pay16 (iblk m c 3 t) (iblk m c 4 t) q) (k0_pay17 (iblk m c 3 t) (iblk m c 4 t) k) v de st

abbrev lgA (t : Fin cfg0.N) : FVec Ideal S1x1 .f32 := k0_pay14 (F := Ideal) (grid0.coords t)
abbrev lgB (t : Fin cfg0.N) : FVec Ideal S1x1 .f32 := k0_pay22 (F := Ideal) (BitVec.ofNat 32 (grid0.coords t 1).val)

/-- The output block of point `t`, over what the scratch buffers hold. -/
abbrev blockV (t : Fin cfg0.N) (sa da sb db : Vec Ideal S256x256 .f32) : S256x512.Idx → EReal :=
  View.canon (Val := Elt Ideal) (e := .bf16)
    [⟨Rect.unit (s := S256x512) ![0, 256] ![256, 256] inb_S256x512_S256x256_0_256,
      k0_pay2 (outV m c t (lgB t) (hi (iblk m c 0 t)) (hi (iblk m c 1 t)) (hi (iblk m c 2 t)) db sb)
        (View.ld (iblk m c 6 t) (Rect.unit ![0, 256] ![1, 256] inb_S1x512_S1x256_0_256)) (hi (iblk m c 5 t))⟩,
     ⟨Rect.unit (s := S256x512) ![0, 0] ![256, 256] inb_S256x512_S256x256_0_0,
      k0_pay2 (outV m c t (lgA t) (lo (iblk m c 0 t)) (lo (iblk m c 1 t)) (lo (iblk m c 2 t)) da sa)
        (View.ld (iblk m c 6 t) (Rect.unit ![0, 0] ![1, 256] inb_S1x512_S1x256_0_0)) (lo (iblk m c 5 t))⟩]

section first
variable (t : Fin cfg0.N) (h : t.val % 16 = 0)
include h

theorem first0 : (outsAt0 m c t.val t.isLt).2.1 = nextV m c t (lgA t) (lo (iblk m c 1 t)) (lo (iblk m c 2 t)) (k0_pay3 (F := Ideal)) := by
  rw [outsAt0_A m c t h h]
  unfold sout0_A_0
  dsimp only
  frame_open
  simp (disch := decide) only [↓ View.readCov_skip, ↓ View.readCov_cons_toLoadRect, ↓ View.readCov_fill]
  frame_out

theorem first1 : (outsAt0 m c t.val t.isLt).2.2.1 = decA t := by
  rw [outsAt0_A m c t h h]
  unfold sout0_A_1
  dsimp only
  frame_open
  frame_out

theorem first2 : (outsAt0 m c t.val t.isLt).2.2.2.1 = nextV m c t (lgB t) (hi (iblk m c 1 t)) (hi (iblk m c 2 t)) (k0_pay8 (F := Ideal)) := by
  rw [outsAt0_A m c t h h]
  unfold sout0_A_2
  dsimp only
  frame_open
  simp (disch := decide) only [↓ View.readCov_skip, ↓ View.readCov_cons_toLoadRect, ↓ View.readCov_fill]
  frame_out
  rfl

theorem first3 : (outsAt0 m c t.val t.isLt).2.2.2.2 = decB t := by
  rw [outsAt0_A m c t h h]
  unfold sout0_A_3
  dsimp only
  frame_open
  frame_out

theorem firstOut : (outsAt0 m c t.val t.isLt).1 = blockV m c t (k0_pay3 (F := Ideal)) (decA t) (k0_pay8 (F := Ideal)) (decB t) := by
  rw [outsAt0_A m c t h h]
  unfold out0_A_7
  dsimp only
  frame_open
  simp (disch := decide) only [↓ View.readCov_skip, ↓ View.readCov_cons_toLoadRect, ↓ View.readCov_fill]
  frame_out
  rfl

end first

section later
variable (t : Fin cfg0.N) (h : ¬ t.val % 16 = 0)
include h

/-- The point before. -/
abbrev before (t : Fin cfg0.N) : Fin cfg0.N := ⟨t.val - 1, lt_of_le_of_lt (Nat.sub_le _ _) t.isLt⟩

theorem later0 : (outsAt0 m c t.val t.isLt).2.1
    = nextV m c t (lgA t) (lo (iblk m c 1 t)) (lo (iblk m c 2 t)) (outsAt0 m c (before t).val (before t).isLt).2.1 := by
  rw [outsAt0_B m c t h h]
  unfold sout0_B_0
  dsimp only
  frame_open
  simp (disch := decide) only [↓ View.readCov_skip, ↓ View.readCov_cons_toLoadRect, ↓ View.readCov_fill]
  frame_out
  rw [read_unread_whole]

theorem later1 : (outsAt0 m c t.val t.isLt).2.2.1 = (outsAt0 m c (before t).val (before t).isLt).2.2.1 := by
  rw [outsAt0_B m c t h h]
  rfl

theorem later2 : (outsAt0 m c t.val t.isLt).2.2.2.1
    = nextV m c t (lgB t) (hi (iblk m c 1 t)) (hi (iblk m c 2 t)) (outsAt0 m c (before t).val (before t).isLt).2.2.2.1 := by
  rw [outsAt0_B m c t h h]
  unfold sout0_B_2
  dsimp only
  frame_open
  simp (disch := decide) only [↓ View.readCov_skip, ↓ View.readCov_cons_toLoadRect, ↓ View.readCov_fill]
  frame_out
  rw [read_unread_whole]
  rfl

theorem later3 : (outsAt0 m c t.val t.isLt).2.2.2.2 = (outsAt0 m c (before t).val (before t).isLt).2.2.2.2 := by
  rw [outsAt0_B m c t h h]
  rfl

theorem laterOut : (outsAt0 m c t.val t.isLt).1
    = blockV m c t (outsAt0 m c (before t).val (before t).isLt).2.1 (outsAt0 m c (before t).val (before t).isLt).2.2.1
        (outsAt0 m c (before t).val (before t).isLt).2.2.2.1 (outsAt0 m c (before t).val (before t).isLt).2.2.2.2 := by
  rw [outsAt0_B m c t h h]
  unfold out0_B_7
  dsimp only
  frame_open
  simp (disch := decide) only [↓ View.readCov_skip, ↓ View.readCov_cons_toLoadRect, ↓ View.readCov_fill]
  frame_out
  rw [read_unread_whole cc0_scratch0, read_unread_whole cc0_scratch1, read_unread_whole cc0_scratch2, read_unread_whole cc0_scratch3]
  rfl

end later

/-! ### The blocks, entry by entry -/

/-- The rotated query, the rotated and scaled key and the value of sequence `b`'s head `H` at frame `n`. -/
def qEl (P : (⟨2, ![16384, 10240]⟩ : Shape).Idx → EReal) (C S : (⟨2, ![4096, 128]⟩ : Shape).Idx → EReal) (b H n d : Nat) : EReal :=
  rotEl (fun x => rd P (4096 * b + n) (256 * H + x)) (fun x => rd C n x) (fun x => rd S n x) d
def kEl (P : (⟨2, ![16384, 10240]⟩ : Shape).Idx → EReal) (C S : (⟨2, ![4096, 128]⟩ : Shape).Idx → EReal) (b H n d : Nat) : EReal :=
  rotEl (fun x => rd P (4096 * b + n) (2048 + 256 * H + x)) (fun x => rd C n x) (fun x => rd S n x) d * Ideal.ofBits .f32 0x3D800000#32
def vEl (P : (⟨2, ![16384, 10240]⟩ : Shape).Idx → EReal) (b H n e : Nat) : EReal := rd P (4096 * b + n) (4096 + 256 * H + e)

/-- The retention's output at frame `n` of sequence `b`, column `e` of head `H`. -/
def retEl (P : (⟨2, ![16384, 10240]⟩ : Shape).Idx → EReal) (C S : (⟨2, ![4096, 128]⟩ : Shape).Idx → EReal) (g : Nat → EReal) (b n H e : Nat) : EReal :=
  finEl (fun x => block (qEl P C S b H) (kEl P C S b H) (vEl P b H) (logDecay H) (n / 256) (n % 256) x) (g (256 * H + e))
    (rd P (4096 * b + n) (8192 + 256 * H + e)) e

abbrev vp : S16384x10240.Idx → EReal := V m c main_arg0
abbrev vc : S4096x128.Idx → EReal := V m c main_arg1
abbrev vs : S4096x128.Idx → EReal := V m c main_arg2
/-- The gain's entry. -/
abbrev gn (n : Nat) : EReal := rd (V m c main_v0) 0 n

section entries
variable (t : Fin cfg0.N) (u o : Nat) (ho : o = 256 * u)
  (i3 : ∀ a, (![0, o] : Fin 2 → Nat) a + (![256, 256] : Fin 2 → Nat) a ≤ S256x512.size a) (r d : Fin 256)
include ho

theorem q_at : View.ld (iblk m c 0 t) (Rect.unit (s := S256x512) ![0, o] ![256, 256] i3) (ix2 r d)
    = rd (vp m c) (4096 * (t.val / 64) + (256 * (t.val % 16) + r.val)) (256 * (2 * (t.val / 16 % 4) + u) + d.val) := by
  obtain ⟨a0, a1⟩ := in0 t
  refine rd_at (V m c main_arg0) (((cfg0.win 0).blk t).view.emb ((Rect.unit (s := S256x512) ![0, o] ![256, 256] i3).emb (ix2 r d))) _ _ ?_ ?_
  · show win0_0.index t (0 : Fin 2) * 256 + 1 * (0 + 1 * r.val) = _; omega
  · show win0_0.index t (1 : Fin 2) * 512 + 1 * (o + 1 * d.val) = _; omega

theorem k_at : View.ld (iblk m c 1 t) (Rect.unit (s := S256x512) ![0, o] ![256, 256] i3) (ix2 r d)
    = rd (vp m c) (4096 * (t.val / 64) + (256 * (t.val % 16) + r.val)) (2048 + 256 * (2 * (t.val / 16 % 4) + u) + d.val) := by
  obtain ⟨a0, a1⟩ := in1 t
  refine rd_at (V m c main_arg0) (((cfg0.win 1).blk t).view.emb ((Rect.unit (s := S256x512) ![0, o] ![256, 256] i3).emb (ix2 r d))) _ _ ?_ ?_
  · show win0_1.index t (0 : Fin 2) * 256 + 1 * (0 + 1 * r.val) = _; omega
  · show win0_1.index t (1 : Fin 2) * 512 + 1 * (o + 1 * d.val) = _; omega

theorem v_at : View.ld (iblk m c 2 t) (Rect.unit (s := S256x512) ![0, o] ![256, 256] i3) (ix2 r d)
    = vEl (vp m c) (t.val / 64) (2 * (t.val / 16 % 4) + u) (256 * (t.val % 16) + r.val) d.val := by
  obtain ⟨a0, a1⟩ := in2 t
  refine rd_at (V m c main_arg0) (((cfg0.win 2).blk t).view.emb ((Rect.unit (s := S256x512) ![0, o] ![256, 256] i3).emb (ix2 r d))) _ _ ?_ ?_
  · show win0_2.index t (0 : Fin 2) * 256 + 1 * (0 + 1 * r.val) = _; omega
  · show win0_2.index t (1 : Fin 2) * 512 + 1 * (o + 1 * d.val) = _; omega

theorem gate_at : View.ld (iblk m c 5 t) (Rect.unit (s := S256x512) ![0, o] ![256, 256] i3) (ix2 r d)
    = rd (vp m c) (4096 * (t.val / 64) + (256 * (t.val % 16) + r.val)) (8192 + 256 * (2 * (t.val / 16 % 4) + u) + d.val) := by
  obtain ⟨a0, a1⟩ := in5 t
  refine rd_at (V m c main_arg0) (((cfg0.win 5).blk t).view.emb ((Rect.unit (s := S256x512) ![0, o] ![256, 256] i3).emb (ix2 r d))) _ _ ?_ ?_
  · show win0_5.index t (0 : Fin 2) * 256 + 1 * (0 + 1 * r.val) = _; omega
  · show win0_5.index t (1 : Fin 2) * 512 + 1 * (o + 1 * d.val) = _; omega

omit ho in
theorem cos_at (x : Fin 128) : iblk m c 3 t (ix2 r x) = rd (vc m c) (256 * (t.val % 16) + r.val) x.val := by
  obtain ⟨a0, a1⟩ := in3 t
  refine rd_at (V m c main_arg1) (((cfg0.win 3).blk t).view.emb (ix2 r x)) _ _ ?_ ?_
  · show win0_3.index t (0 : Fin 2) * 256 + 1 * r.val = _; omega
  · show win0_3.index t (1 : Fin 2) * 128 + 1 * x.val = _; omega

omit ho in
theorem sin_at (x : Fin 128) : iblk m c 4 t (ix2 r x) = rd (vs m c) (256 * (t.val % 16) + r.val) x.val := by
  obtain ⟨a0, a1⟩ := in4 t
  refine rd_at (V m c main_arg2) (((cfg0.win 4).blk t).view.emb (ix2 r x)) _ _ ?_ ?_
  · show win0_4.index t (0 : Fin 2) * 256 + 1 * r.val = _; omega
  · show win0_4.index t (1 : Fin 2) * 128 + 1 * x.val = _; omega

omit r in
theorem gain_at (i4 : ∀ a, (![0, o] : Fin 2 → Nat) a + (![1, 256] : Fin 2 → Nat) a ≤ S1x512.size a) :
    View.ld (iblk m c 6 t) (Rect.unit (s := S1x512) ![0, o] ![1, 256] i4) (ix2 0 d) = gn m c (256 * (2 * (t.val / 16 % 4) + u) + d.val) := by
  obtain ⟨a0, a1⟩ := in6 t
  refine rd_at (V m c main_v0) (((cfg0.win 6).blk t).view.emb ((Rect.unit (s := S1x512) ![0, o] ![1, 256] i4).emb (ix2 0 d))) _ _ ?_ ?_
  · show win0_6.index t (0 : Fin 2) * 1 + 1 * (0 + 1 * 0) = _; omega
  · show win0_6.index t (1 : Fin 2) * 512 + 1 * (o + 1 * d.val) = _; omega

theorem rq_at : k0_pay16 (iblk m c 3 t) (iblk m c 4 t) (View.ld (iblk m c 0 t) (Rect.unit (s := S256x512) ![0, o] ![256, 256] i3)) (ix2 r d)
    = qEl (vp m c) (vc m c) (vs m c) (t.val / 64) (2 * (t.val / 16 % 4) + u) (256 * (t.val % 16) + r.val) d.val :=
  pay16_at _ _ _ r d _ _ _ (cos_at m c t r) (sin_at m c t r) (q_at m c t u o ho i3 r)

theorem rk_at : k0_pay17 (iblk m c 3 t) (iblk m c 4 t) (View.ld (iblk m c 1 t) (Rect.unit (s := S256x512) ![0, o] ![256, 256] i3)) (ix2 r d)
    = kEl (vp m c) (vc m c) (vs m c) (t.val / 64) (2 * (t.val / 16 % 4) + u) (256 * (t.val % 16) + r.val) d.val :=
  pay17_at _ _ _ r d _ _ _ (cos_at m c t r) (sin_at m c t r) (k_at m c t u o ho i3 r)

/-- The state that a head has reached before block `n`, and its log decay. -/
abbrev stEl (H n x y : Nat) : EReal :=
  state (kEl (vp m c) (vc m c) (vs m c) (t.val / 64) H) (vEl (vp m c) (t.val / 64) H) (logDecay H) n x y

theorem next_at (lg : FVec Ideal S1x1 .f32) (hg : lg (ix2 0 0) = logDecay (2 * (t.val / 16 % 4) + u)) (st : Vec Ideal S256x256 .f32)
    (hs : ∀ x y : Fin 256, st (ix2 x y) = stEl m c t (2 * (t.val / 16 % 4) + u) (t.val % 16) x.val y.val) :
    nextV m c t lg (View.ld (iblk m c 1 t) (Rect.unit (s := S256x512) ![0, o] ![256, 256] i3))
      (View.ld (iblk m c 2 t) (Rect.unit (s := S256x512) ![0, o] ![256, 256] i3)) st (ix2 r d)
      = stEl m c t (2 * (t.val / 16 % 4) + u) (t.val % 16 + 1) r.val d.val :=
  pay19_at lg _ _ st r d _ _ _ _ hg (fun j => rk_at m c t u o ho i3 j r) (fun j => v_at m c t u o ho i3 j d) (hs r d)

theorem sum_at (lg : FVec Ideal S1x1 .f32) (hg : lg (ix2 0 0) = logDecay (2 * (t.val / 16 % 4) + u)) (de st : Vec Ideal S256x256 .f32)
    (hd : ∀ x y : Fin 256, de (ix2 x y) = decay (logDecay (2 * (t.val / 16 % 4) + u)) x.val y.val)
    (hs : ∀ x y : Fin 256, st (ix2 x y) = stEl m c t (2 * (t.val / 16 % 4) + u) (t.val % 16) x.val y.val)
    (i4 : ∀ a, (![0, o] : Fin 2 → Nat) a + (![1, 256] : Fin 2 → Nat) a ≤ S1x512.size a) :
    k0_pay2 (outV m c t lg (View.ld (iblk m c 0 t) (Rect.unit (s := S256x512) ![0, o] ![256, 256] i3))
        (View.ld (iblk m c 1 t) (Rect.unit (s := S256x512) ![0, o] ![256, 256] i3))
        (View.ld (iblk m c 2 t) (Rect.unit (s := S256x512) ![0, o] ![256, 256] i3)) de st)
      (View.ld (iblk m c 6 t) (Rect.unit (s := S1x512) ![0, o] ![1, 256] i4))
      (View.ld (iblk m c 5 t) (Rect.unit (s := S256x512) ![0, o] ![256, 256] i3)) (ix2 r d)
      = retEl (vp m c) (vc m c) (vs m c) (gn m c) (t.val / 64) (256 * (t.val % 16) + r.val) (2 * (t.val / 16 % 4) + u) d.val := by
  have hr := r.isLt
  refine (pay2_at _ _ _ r d _ fun e => pay18_at lg _ _ _ de st r e _ _ _ _ _ hg (rq_at m c t u o ho i3 r) (rk_at m c t u o ho i3)
    (fun j => v_at m c t u o ho i3 j e) (hd r) (fun x => hs x e)).trans ?_
  rw [gain_at m c t u o ho d i4, gate_at m c t u o ho i3 r d]
  unfold retEl
  rw [show (256 * (t.val % 16) + r.val) / 256 = t.val % 16 by omega, show (256 * (t.val % 16) + r.val) % 256 = r.val by omega]

end entries

/-! ### Point by point -/

theorem lgA_at (t : Fin cfg0.N) : lgA t (ix2 0 0) = logDecay (2 * (t.val / 16 % 4) + 0) := by
  rw [← co1 t]; exact pay14_at _
theorem lgB_at (t : Fin cfg0.N) : lgB t (ix2 0 0) = logDecay (2 * (t.val / 16 % 4) + 1) := by
  rw [← co1 t]; exact pay22_at _
theorem decA_at (t : Fin cfg0.N) (x y : Fin 256) : decA t (ix2 x y) = decay (logDecay (2 * (t.val / 16 % 4) + 0)) x.val y.val := by
  rw [← co1 t]; exact pay15_at _ x y
theorem decB_at (t : Fin cfg0.N) (x y : Fin 256) : decB t (ix2 x y) = decay (logDecay (2 * (t.val / 16 % 4) + 1)) x.val y.val := by
  rw [← co1 t]; exact pay23_at _ x y

/-- What the scratch buffers hold where `n` blocks of point `t`'s heads are done. -/
def Held (t : Fin cfg0.N) (n : Nat) (sa da sb db : Vec Ideal S256x256 .f32) : Prop :=
  (∀ x y : Fin 256, sa (ix2 x y) = stEl m c t (2 * (t.val / 16 % 4) + 0) n x.val y.val)
    ∧ (∀ x y : Fin 256, da (ix2 x y) = decay (logDecay (2 * (t.val / 16 % 4) + 0)) x.val y.val)
    ∧ (∀ x y : Fin 256, sb (ix2 x y) = stEl m c t (2 * (t.val / 16 % 4) + 1) n x.val y.val)
    ∧ (∀ x y : Fin 256, db (ix2 x y) = decay (logDecay (2 * (t.val / 16 % 4) + 1)) x.val y.val)

theorem held_first (t : Fin cfg0.N) (h : t.val % 16 = 0) :
    Held m c t (t.val % 16) (k0_pay3 (F := Ideal)) (decA t) (k0_pay8 (F := Ideal)) (decB t) := by
  refine ⟨fun x y => ?_, decA_at t, fun x y => ?_, decB_at t⟩
  · rw [h]; exact (pay3_at _).1
  · rw [h]; exact (pay3_at _).2

theorem held_before (t : Fin cfg0.N) (h : ¬ t.val % 16 = 0) (sa da sb db : Vec Ideal S256x256 .f32)
    (H : Held m c (before t) ((before t).val % 16 + 1) sa da sb db) : Held m c t (t.val % 16) sa da sb db := by
  have e1 : (t.val - 1) / 64 = t.val / 64 := by omega
  have e2 : (t.val - 1) / 16 % 4 = t.val / 16 % 4 := by omega
  have e3 : (t.val - 1) % 16 + 1 = t.val % 16 := by omega
  unfold Held stEl at H ⊢
  rw [← e1, ← e2, ← e3]
  exact H

theorem held (n : Nat) : ∀ t : Fin cfg0.N, t.val = n → Held m c t (t.val % 16 + 1) (outsAt0 m c t.val t.isLt).2.1 (outsAt0 m c t.val t.isLt).2.2.1
    (outsAt0 m c t.val t.isLt).2.2.2.1 (outsAt0 m c t.val t.isLt).2.2.2.2 := by
  induction n using Nat.strong_induction_on with
  | _ n ih =>
    intro t ht
    by_cases h : t.val % 16 = 0
    · obtain ⟨a, b, d, e⟩ := held_first m c t h
      rw [first0 m c t h, first1 m c t h, first2 m c t h, first3 m c t h]
      exact ⟨fun x y => next_at m c t 0 0 rfl _ x y _ (lgA_at t) _ a, b, fun x y => next_at m c t 1 256 rfl _ x y _ (lgB_at t) _ d, e⟩
    · obtain ⟨a, b, d, e⟩ := held_before m c t h _ _ _ _ (ih (t.val - 1) (by omega) (before t) rfl)
      rw [later0 m c t h, later1 m c t h, later2 m c t h, later3 m c t h]
      exact ⟨fun x y => next_at m c t 0 0 rfl _ x y _ (lgA_at t) _ a, b, fun x y => next_at m c t 1 256 rfl _ x y _ (lgB_at t) _ d, e⟩

/-- The output block of a point is written over scratch contents that hold the blocks before. -/
theorem out_eq (t : Fin cfg0.N) : ∃ sa da sb db, Held m c t (t.val % 16) sa da sb db ∧ (outsAt0 m c t.val t.isLt).1 = blockV m c t sa da sb db := by
  by_cases h : t.val % 16 = 0
  · exact ⟨_, _, _, _, held_first m c t h, firstOut m c t h⟩
  · exact ⟨_, _, _, _, held_before m c t h _ _ _ _ (held m c _ (before t) rfl), laterOut m c t h⟩

/-- The region's output as one array of what the region finds. -/
def res : S16384x2048.Idx → EReal := arr2 fun R C =>
  retEl (vp m c) (vc m c) (vs m c) (gn m c) (R.val / 4096) (R.val % 4096) (C.val / 256) (C.val % 256)

theorem res_at (t : Fin cfg0.N) (u o : Nat) (hu : u < 2) (ho : o = 256 * u)
    (i3 : ∀ a, (![0, o] : Fin 2 → Nat) a + (![256, 256] : Fin 2 → Nat) a ≤ S256x512.size a) (r d : Fin 256) :
    res m c (((cfg0.win 7).blk t).view.emb ((Rect.unit (s := S256x512) ![0, o] ![256, 256] i3).emb (ix2 r d)))
      = retEl (vp m c) (vc m c) (vs m c) (gn m c) (t.val / 64) (256 * (t.val % 16) + r.val) (2 * (t.val / 16 % 4) + u) d.val := by
  have ht : t.val < 256 := lt_of_lt_of_eq t.isLt (by decide)
  have hr := r.isLt
  have hd := d.isLt
  obtain ⟨a0, a1⟩ := ou7 t
  refine (arr2_at _ _ (⟨4096 * (t.val / 64) + (256 * (t.val % 16) + r.val), by omega⟩ : Fin 16384)
    (⟨256 * (2 * (t.val / 16 % 4) + u) + d.val, by omega⟩ : Fin 2048) ?_ ?_).trans ?_
  · show win0_7.index t (0 : Fin 2) * 256 + 1 * (0 + 1 * r.val) = 4096 * (t.val / 64) + (256 * (t.val % 16) + r.val); omega
  · show win0_7.index t (1 : Fin 2) * 512 + 1 * (o + 1 * d.val) = 256 * (2 * (t.val / 16 % 4) + u) + d.val; omega
  · show retEl _ _ _ _ ((4096 * (t.val / 64) + (256 * (t.val % 16) + r.val)) / 4096) ((4096 * (t.val / 64) + (256 * (t.val % 16) + r.val)) % 4096)
      ((256 * (2 * (t.val / 16 % 4) + u) + d.val) / 256) ((256 * (2 * (t.val / 16 % 4) + u) + d.val) % 256) = _
    congr 1 <;> omega

theorem flushed7 (t : Fin cfg0.N) : (dats m 0 c).flushed 7 t = ((cfg0.win 7).blk t).view.read (Elt Ideal) (res m c) := by
  obtain ⟨sa, da, sb, db, ⟨a, b, d, e⟩, h⟩ := out_eq m c t
  show (cfg0.win 7).cut (grid0.coords t) ((dats m 0 c).after 7 t) = _
  rw [after0_7, h]
  funext j
  refine View.canon_append_of_piecesOf (Val := Elt Ideal) (e := .bf16) (fun y => res m c (((cfg0.win 7).blk t).view.emb y)) [] [_, _] ⟨?_, ?_, trivial⟩ j ?_
  · intro x
    obtain ⟨r, l, rfl⟩ := ix2_eta (n := 256) (k := 256) x
    exact (sum_at m c t 1 256 rfl _ r l _ (lgB_at t) _ _ e d _).trans (res_at m c t 1 256 (by omega) rfl inb_S256x512_S256x256_0_256 r l).symm
  · intro x
    obtain ⟨r, l, rfl⟩ := ix2_eta (n := 256) (k := 256) x
    exact (sum_at m c t 0 0 rfl _ r l _ (lgA_at t) _ _ b a _).trans (res_at m c t 0 0 (by omega) rfl inb_S256x512_S256x256_0_0 r l).symm
  · exact View.cover_of_tiledL (s := S256x512) _ S256x256.size (by sl_kernel_rfl) j

theorem final7 : (dats m 0 c).arrAt 7 cfg0.N = res m c :=
  (dats m 0 c).arrAt_eq_of_cover 7 (res m c) (fun t _ => flushed7 m c t)
    (Window.Covers.cover (w := cfg0.win 7) (by decide +kernel) (Memref.isWhole_whole _))

abbrev pp : S16384x10240.Idx → EReal := m ((c : Thread nD τ).loc main_arg0)
abbrev pc : S4096x128.Idx → EReal := m ((c : Thread nD τ).loc main_arg1)
abbrev ps : S4096x128.Idx → EReal := m ((c : Thread nD τ).loc main_arg2)
abbrev pg : S2048.Idx → EReal := m ((c : Thread nD τ).loc main_arg3)

/-- The gain as a row. -/
theorem gn_eq (n : Nat) (hn : n < 2048) : gn m c n = pg m c (ix1 ⟨n, hn⟩) := by
  have e : V m c main_v0 = shapeCast S1x2048 (pg m c) shapeCasts_S2048_S1x2048 := by
    show StableHlo.after hostOps0 (fun b => m (c, b)) (Proc.devRef .tc main_v0) = _
    after_results_simp <;> rfl
  have h : V m c main_v0 (ix2 0 ⟨n, hn⟩) = pg m c (ix1 ⟨n, hn⟩) := by
    rw [e]
    pointwise
  exact (rd_eq (V m c main_v0) (by omega : (0 : Nat) < 1) hn).symm.trans h

end Cert.Val.Ret

end
-- ==== Proof.Val.RetRef.lean ====
module

public import proofs.«01_k».proof.Proof.Gen.Reference6Ideal.Read
public import proofs.«01_k».proof.Pre_retention_input_finite
public import Idealize.ShloMosaic.Lib.Pointwise
public import Idealize.ShloMosaic.Lib.IdealHost
public import proofs.«01_k».proof.Proof.Val.RetOut
public import proofs.«01_k».proof.Proof.Val.PoolRef

@[expose] public section

noncomputable section

/-! The sixth program's reference, entry by entry. -/

namespace Cert.Val.RetRef

open Idealize.ShloMosaic Idealize.ShloMosaic.TcCoe Cert.Reference6Ideal Cert.Reference6Ideal.Read Cert.Val Cert.Val.Pool Cert.Val.Ret Finset

variable (x0 : S16384x10240.Idx → EReal) (x1 x2 : S4096x128.Idx → EReal) (x3 : S2048.Idx → EReal)

/-! ### The operations -/

theorem v4_at (b : Fin 4) (H : Fin 8) (n : Fin 4096) (d : Fin 256) :
    val_main_v4 (F := Ideal) x0 (ix4 b H n d) = rd x0 (4096 * b.val + n.val) (256 * H.val + d.val) := by
  have hb := b.isLt
  have hn := n.isLt
  have hH := H.isLt
  have hd := d.isLt
  pointwise [val_main_v4, val_main_v3, val_main_v2, val_main_v1, val_main_v0]
  exact rd_at x0 _ _ _ (by show b.val * 4096 + n.val = _; omega) (by show H.val * 256 + d.val = _; omega)

theorem v24_at (b : Fin 4) (H : Fin 8) (n : Fin 4096) (d : Fin 256) :
    val_main_v24 (F := Ideal) x0 (ix4 b H n d) = rd x0 (4096 * b.val + n.val) (2048 + 256 * H.val + d.val) := by
  have hb := b.isLt
  have hn := n.isLt
  have hH := H.isLt
  have hd := d.isLt
  pointwise [val_main_v24, val_main_v23, val_main_v22, val_main_v1, val_main_v0]
  exact rd_at x0 _ _ _ (by show b.val * 4096 + n.val = _; omega) (by show 2048 + (H.val * 256 + d.val) = _; omega)

theorem v46_at (b : Fin 4) (H : Fin 8) (n : Fin 4096) (d : Fin 256) :
    val_main_v46 (F := Ideal) x0 (ix4 b H n d) = vEl x0 b.val H.val n.val d.val := by
  have hb := b.isLt
  have hn := n.isLt
  have hH := H.isLt
  have hd := d.isLt
  pointwise [val_main_v46, val_main_v45, val_main_v44, val_main_v1, val_main_v0]
  exact rd_at x0 _ _ _ (by show b.val * 4096 + n.val = _; omega) (by show 4096 + (H.val * 256 + d.val) = _; omega)

/-- The two halves of a rotated row, as the operations join them. -/
theorem rot_of (x : Fin 256 → EReal) (X : Nat → EReal) (hx : ∀ d : Fin 256, x d = X d.val) (n : Fin 4096) (d : Fin 256) :
    (if h : d.val < 128 then x d * x1 (ix2 n ⟨d.val, h⟩) - x ⟨128 + d.val, by omega⟩ * x2 (ix2 n ⟨d.val, h⟩)
      else x ⟨128 + (d.val - 128), by omega⟩ * x1 (ix2 n ⟨d.val - 128, by omega⟩)
        + x ⟨d.val - 128, by omega⟩ * x2 (ix2 n ⟨d.val - 128, by omega⟩))
      = rotEl X (fun y => rd x1 n.val y) (fun y => rd x2 n.val y) d.val := by
  have hn := n.isLt
  unfold rotEl
  by_cases h : d.val < 128
  · rw [dif_pos h, if_pos h, hx, hx]
    exact congrArg₂ (fun a b : EReal => X d.val * a - X (128 + d.val) * b) (rd_eq x1 hn h) (rd_eq x2 hn h)
  · rw [dif_neg h, if_neg h, hx, hx]
    have e : 128 + (d.val - 128) = d.val := by omega
    dsimp only
    rw [e]
    exact congrArg₂ (fun a b : EReal => X d.val * a + X (d.val - 128) * b) (rd_eq x1 hn (by omega)) (rd_eq x2 hn (by omega))

theorem v21_at (b : Fin 4) (H : Fin 8) (n : Fin 4096) (d : Fin 256) :
    val_main_v21 (F := Ideal) x0 x1 x2 (ix4 b H n d) = qEl x0 x1 x2 b.val H.val n.val d.val := by
  refine Eq.trans ?_ (rot_of x1 x2 (fun d => val_main_v4 (F := Ideal) x0 (ix4 b H n d)) _ (v4_at x0 b H n) n d)
  pointwise [val_main_v21, val_main_v13, val_main_v20, val_main_v9, val_main_v12, val_main_v16, val_main_v19, val_main_v5, val_main_v6,
    val_main_v8, val_main_v7, val_main_v11, val_main_v10, val_main_v15, val_main_v14, val_main_v18, val_main_v17]

theorem v43_at (b : Fin 4) (H : Fin 8) (n : Fin 4096) (d : Fin 256) :
    val_main_v43 (F := Ideal) x0 x1 x2 (ix4 b H n d) = kEl x0 x1 x2 b.val H.val n.val d.val := by
  unfold kEl
  rw [← rot_of x1 x2 (fun d => val_main_v24 (F := Ideal) x0 (ix4 b H n d)) _ (v24_at x0 b H n) n d]
  pointwise [val_main_v43, val_main_v42, val_main_cst, val_main_v41, val_main_v33, val_main_v40, val_main_v29, val_main_v32, val_main_v36, val_main_v39,
    val_main_v25, val_main_v26, val_main_v28, val_main_v27, val_main_v31, val_main_v30, val_main_v35, val_main_v34, val_main_v38, val_main_v37]

theorem bits_two : Ideal.ofBits .f32 0x40000000#32 = ((2 : ℝ) : EReal) := by
  simp [Ideal.ofBits, Ideal.ieee, -EReal.coe_mul]; norm_num

theorem v55_at (H : Fin 8) : val_main_v55 (F := Ideal) (ix1 H) = logDecay H.val := by
  pointwise [val_main_v55, val_main_v54, val_main_v53, val_main_v52, val_main_v51, val_main_v50, val_main_v49, val_main_v48, val_main_cst_0,
    val_main_cst_1, val_main_cst_2]
  rw [word_real _ (by omega), bits_two, bits_neg5, ← EReal.coe_sub]
  unfold logDecay
  rw [Ideal.pow_coe_coe, Ideal.exp2_coe]

theorem chunk64_le : ∀ a b : Fin 64, IntOp.cmpi CmpIPredicate.sle (BitVec.ofNat 32 a.val) (BitVec.ofNat 32 b.val) = BitVec.ofBool (decide (a.val ≤ b.val)) := by
  decide +kernel

theorem v78_at (H : Fin 8) (n k : Fin 4096) : val_main_v78 (F := Ideal) (ix3 H n k) = decay (logDecay H.val) n.val k.val := by
  have hn := n.isLt
  have hk := k.isLt
  pointwise [val_main_v78, val_main_call0_v1, val_main_call0_v2, val_main_call0_v0, val_main_cst_3, val_main_v77, val_main_v76, val_main_v75,
    val_main_v74, val_main_v73, val_main_v72, val_main_v71, val_main_v70, val_main_v69, val_main_v68, val_main_v67, val_main_v66, val_main_v65,
    val_main_v64, val_main_v63, val_main_v62, val_main_v61, val_main_v60, val_main_v59, val_main_v58, val_main_v57, val_main_v56]
  have e := chunk64_le ⟨k.val / 64, by omega⟩ ⟨n.val / 64, by omega⟩
  dsimp only at e
  have z : (id (constant (F := Ideal) S_ FTy.f32 0#32) ix0 : EReal) = 0 := Ideal.ofBits_zero_f32
  have a : (FloatOps.absf (F := Ideal) (φ := .f32) (((n.val : ℝ) : EReal) - ((k.val : ℝ) : EReal)) : EReal) = ((|(n.val : ℝ) - (k.val : ℝ)| : ℝ) : EReal) := by
    rw [← EReal.coe_sub]
    show max (((n.val : ℝ) - (k.val : ℝ) : ℝ) : EReal) (-(((n.val : ℝ) - (k.val : ℝ) : ℝ) : EReal)) = _
    rw [← EReal.coe_neg]
    exact (EReal.coe_strictMono.monotone.map_max).symm
  rw [e, z, v55_at, word_real _ hn, word_real _ hk, a]
  unfold decay
  by_cases h : k.val / 64 ≤ n.val / 64
  · rw [if_pos h, decide_eq_true h]; rfl
  · rw [if_neg h, decide_eq_false h]; rfl

theorem v83_at (b : Fin 4) (H : Fin 8) (n : Fin 4096) (e : Fin 256) : val_main_v83 (F := Ideal) x0 x1 x2 (ix4 b H n e)
    = dense (qEl x0 x1 x2 b.val H.val) (kEl x0 x1 x2 b.val H.val) (vEl x0 b.val H.val) (logDecay H.val) n.val e.val := by
  have u : val_main_v83 (F := Ideal) x0 x1 x2 (ix4 b H n e) = ∑ m : Fin 4096, (∑ d : Fin 256, val_main_v21 (F := Ideal) x0 x1 x2 (ix4 b H n d)
      * val_main_v43 (F := Ideal) x0 x1 x2 (ix4 b H m d)) * val_main_v78 (F := Ideal) (ix3 H n m) * val_main_v46 (F := Ideal) x0 (ix4 b H m e) := by
    pointwise [val_main_v83, val_main_v82, val_main_v81, val_main_v80, val_main_v79]
  rw [u]
  unfold dense
  rw [← Fin.sum_univ_eq_sum_range (fun m => ((∑ d ∈ range 256, qEl x0 x1 x2 b.val H.val n.val d * kEl x0 x1 x2 b.val H.val m d)
    * decay (logDecay H.val) n.val m) * vEl x0 b.val H.val m e.val) 4096]
  refine sum_congr rfl fun m _ => ?_
  rw [v78_at, v46_at, ← Fin.sum_univ_eq_sum_range (fun d => qEl x0 x1 x2 b.val H.val n.val d * kEl x0 x1 x2 b.val H.val m.val d) 256]
  simp only [v21_at, v43_at]

theorem v85_at (b : Fin 4) (H : Fin 8) (n : Fin 4096) : val_main_v85 (F := Ideal) x0 x1 x2 (ix3 b H n)
    = ∑ d : Fin 256, val_main_v83 (F := Ideal) x0 x1 x2 (ix4 b H n d) * val_main_v83 (F := Ideal) x0 x1 x2 (ix4 b H n d) := by
  pointwise [val_main_v85, val_main_v84, val_main_cst_4]

/-- The reference's result, entry by entry. -/
theorem v102_at (R : Fin 16384) (C : Fin 2048) : val_main_v102 (F := Ideal) x0 x1 x2 x3 (ix2 R C)
    = finEl (fun e => dense (qEl x0 x1 x2 (R.val / 4096) (C.val / 256)) (kEl x0 x1 x2 (R.val / 4096) (C.val / 256)) (vEl x0 (R.val / 4096) (C.val / 256))
        (logDecay (C.val / 256)) (R.val % 4096) e) (x3 (ix1 C)) (rd x0 R.val (8192 + C.val)) (C.val % 256) := by
  have hR := R.isLt
  have hC := C.isLt
  have u : val_main_v102 (F := Ideal) x0 x1 x2 x3 (ix2 R C)
      = val_main_v83 (F := Ideal) x0 x1 x2 (ix4 ⟨R.val / 4096, by omega⟩ ⟨C.val / 256, by omega⟩ ⟨R.val % 4096, by omega⟩ ⟨C.val % 256, by omega⟩)
        * Ideal.rsqrt (Ideal.div (val_main_v85 (F := Ideal) x0 x1 x2 (ix3 ⟨R.val / 4096, by omega⟩ ⟨C.val / 256, by omega⟩ ⟨R.val % 4096, by omega⟩))
          (Ideal.ofBits .f32 0x43800000#32) + Ideal.ofBits .f32 0x358637BD#32) * x3 (ix1 C)
        * (x0 (ix2 R ⟨8192 + C.val, by omega⟩) * Ideal.div 1 (1 + Ideal.exp (-x0 (ix2 R ⟨8192 + C.val, by omega⟩)))) := by
    pointwise [val_main_v102, val_main_v101, val_main_v100, val_main_v99, val_main_v98, val_main_v97, val_main_v96, val_main_v95, val_main_v94,
      val_main_v93, val_main_v92, val_main_v91, val_main_v90, val_main_v89, val_main_v88, val_main_v87, val_main_v86, val_main_cst_5, val_main_cst_6,
      val_main_call1_v5, val_main_call1_v4, val_main_call1_cst_0, val_main_call1_v3, val_main_call1_v2, val_main_call1_cst, val_main_call1_v1,
      val_main_call1_v0, val_main_v47, val_main_v1, val_main_v0]
  rw [u, PoolRef.silu, v85_at]
  unfold finEl
  rw [rd_eq x0 hR (show 8192 + C.val < 10240 by omega)]
  simp only [v83_at]
  rw [← Fin.sum_univ_eq_sum_range (fun e => dense (qEl x0 x1 x2 (R.val / 4096) (C.val / 256)) (kEl x0 x1 x2 (R.val / 4096) (C.val / 256))
    (vEl x0 (R.val / 4096) (C.val / 256)) (logDecay (C.val / 256)) (R.val % 4096) e * dense (qEl x0 x1 x2 (R.val / 4096) (C.val / 256))
    (kEl x0 x1 x2 (R.val / 4096) (C.val / 256)) (vEl x0 (R.val / 4096) (C.val / 256)) (logDecay (C.val / 256)) (R.val % 4096) e) 256]

/-! ### Finite entries -/

/-- A finite entry. -/
def IsFin (x : EReal) : Prop := ∃ y : ℝ, x = y

theorem fin_mul {a b : EReal} : IsFin a → IsFin b → IsFin (a * b) := by
  rintro ⟨x, rfl⟩ ⟨y, rfl⟩
  exact ⟨x * y, (EReal.coe_mul x y).symm⟩
theorem fin_add {a b : EReal} : IsFin a → IsFin b → IsFin (a + b) := by
  rintro ⟨x, rfl⟩ ⟨y, rfl⟩
  exact ⟨x + y, (EReal.coe_add x y).symm⟩
theorem fin_sub {a b : EReal} : IsFin a → IsFin b → IsFin (a - b) := by
  rintro ⟨x, rfl⟩ ⟨y, rfl⟩
  exact ⟨x - y, (EReal.coe_sub x y).symm⟩
theorem fin_of_sub {x : EReal} (h : x - x = 0) : IsFin x := by
  induction x using EReal.rec with
  | bot => exact absurd h (by decide)
  | top => exact absurd h (by decide)
  | coe y => exact ⟨y, rfl⟩

theorem fin_rot (x c s : Nat → EReal) (hx : ∀ d, d < 256 → IsFin (x d)) (hc : ∀ d, IsFin (c d)) (hs : ∀ d, IsFin (s d)) (d : Nat) (hd : d < 256) :
    IsFin (rotEl x c s d) := by
  unfold rotEl
  by_cases h : d < 128
  · rw [if_pos h]
    exact fin_sub (fin_mul (hx _ (by omega)) (hc _)) (fin_mul (hx _ (by omega)) (hs _))
  · rw [if_neg h]
    exact fin_add (fin_mul (hx _ (by omega)) (hc _)) (fin_mul (hx _ (by omega)) (hs _))

theorem state_congr {K K' W W' : Nat → Nat → EReal} (g : EReal) (hK : ∀ n d, d < 256 → K n d = K' n d) (hW : ∀ n d, d < 256 → W n d = W' n d)
    (t d e : Nat) (hd : d < 256) (he : e < 256) : state K W g t d e = state K' W' g t d e := by
  induction t with
  | zero => rfl
  | succ t ih =>
    unfold state
    rw [ih]
    exact congrArg _ (sum_congr rfl fun j _ => by rw [hK _ _ hd, hW _ _ he])

theorem block_congr {Q Q' K K' W W' : Nat → Nat → EReal} (g : EReal) (hQ : ∀ n d, d < 256 → Q n d = Q' n d) (hK : ∀ n d, d < 256 → K n d = K' n d)
    (hW : ∀ n d, d < 256 → W n d = W' n d) (t i e : Nat) (he : e < 256) : block Q K W g t i e = block Q' K' W' g t i e := by
  unfold block
  refine congrArg₂ (fun a b : EReal => a + b) (sum_congr rfl fun j _ => ?_) (sum_congr rfl fun d hd => ?_)
  · rw [hW _ _ he, sum_congr rfl fun d hd => by rw [hQ _ _ (mem_range.1 hd), hK _ _ (mem_range.1 hd)]]
  · rw [hQ _ _ (mem_range.1 hd), state_congr g hK hW t d e (mem_range.1 hd) he]

theorem dense_congr {Q Q' K K' W W' : Nat → Nat → EReal} (g : EReal) (hQ : ∀ n d, d < 256 → Q n d = Q' n d) (hK : ∀ n d, d < 256 → K n d = K' n d)
    (hW : ∀ n d, d < 256 → W n d = W' n d) (n e : Nat) (he : e < 256) : dense Q K W g n e = dense Q' K' W' g n e := by
  unfold dense
  refine sum_congr rfl fun m _ => ?_
  rw [hW _ _ he, sum_congr rfl fun d hd => by rw [hQ _ _ (mem_range.1 hd), hK _ _ (mem_range.1 hd)]]

/-- Over finite entries the blocks' sums are the whole sums. -/
theorem block_dense {Q K W : Nat → Nat → EReal} (hQ : ∀ n d, d < 256 → IsFin (Q n d)) (hK : ∀ n d, d < 256 → IsFin (K n d))
    (hW : ∀ n d, d < 256 → IsFin (W n d)) (H n e : Nat) (hn : n < 4096) (he : e < 256) :
    block Q K W (logDecay H) (n / 256) (n % 256) e = dense Q K W (logDecay H) n e := by
  obtain ⟨g, hg⟩ := logDecay_real H
  have r : ∀ {Z : Nat → Nat → EReal}, (∀ n d, d < 256 → IsFin (Z n d)) → ∀ n d, d < 256 → Z n d = (((Z n d).toReal : ℝ) : EReal) := by
    intro Z hZ n d hd
    obtain ⟨y, hy⟩ := hZ n d hd
    rw [hy]; rfl
  rw [hg, block_congr _ (r hQ) (r hK) (r hW) _ _ _ he, dense_congr _ (r hQ) (r hK) (r hW) _ _ he]
  refine (block_eq_dense (fun n d => (Q n d).toReal) (fun n d => (K n d).toReal) (fun n d => (W n d).toReal) g (n / 256) (n % 256) e (by omega) (by omega)).trans ?_
  rw [Nat.div_add_mod]

/-! ### What the precondition gives -/

theorem preFacts : Cert.Pre_retention_input_finite.Facts := by
  constructor <;> decide

theorem and_one : ∀ a b : BitVec 1, IntOp.andi a b = 1#1 → a = 1#1 ∧ b = 1#1 := by decide

theorem eq_of_bit {p : Prop} [Decidable p] (h : BitVec.ofBool (decide p) = 1#1) : p := by
  by_contra hp
  rw [decide_eq_false hp] at h
  exact absurd h (by decide)

/-- The entries the precondition speaks of, one group of three. -/
theorem pre_at (h : @Cert.Pre_retention_input_finite.fn preFacts Ideal _ x0 x1 x2 x3 = fun _ => 1#1)
    (b : Fin 4) (n : Fin 4096) (u : Fin 48) (l : Fin 128) :
    IsFin (x0 (ix2 ⟨b.val * 4096 + n.val, by omega⟩ ⟨u.val * 128 + l.val, by omega⟩)) ∧ IsFin (x1 (ix2 n l)) ∧ IsFin (x2 (ix2 n l)) := by
  have := preFacts
  have e := congrFun h (ix4 b n u l)
  pointwise [Cert.Pre_retention_input_finite.fn] at e
  obtain ⟨e0, e12⟩ := and_one _ _ e
  obtain ⟨e1, e2⟩ := and_one _ _ e12
  exact ⟨fin_of_sub (eq_of_bit e0), fin_of_sub (eq_of_bit e1), fin_of_sub (eq_of_bit e2)⟩

theorem fin_zero : IsFin 0 := ⟨0, rfl⟩

section
variable {x0 x1 x2 x3}
variable (h : @Cert.Pre_retention_input_finite.fn preFacts Ideal _ x0 x1 x2 x3 = fun _ => 1#1)
include h

theorem fin_p (R k : Nat) (hk : k < 6144) : IsFin (rd x0 R k) := by
  by_cases hR : R < 16384
  · rw [← rd_eq x0 hR (show k < 10240 by omega)]
    have e := (pre_at x0 x1 x2 x3 h ⟨R / 4096, by omega⟩ ⟨R % 4096, by omega⟩ ⟨k / 128, by omega⟩ ⟨k % 128, by omega⟩).1
    rw [rd_at x0 _ R k (by show R / 4096 * 4096 + R % 4096 = R; omega) (by show k / 128 * 128 + k % 128 = k; omega)] at e
    rw [rd_eq x0 hR (show k < 10240 by omega)]
    exact e
  · unfold rd
    rw [dif_neg (by omega)]
    exact fin_zero

theorem fin_c (n d : Nat) : IsFin (rd x1 n d) := by
  by_cases hn : n < 4096 ∧ d < 128
  · rw [← rd_eq x1 hn.1 hn.2]
    exact (pre_at x0 x1 x2 x3 h 0 ⟨n, hn.1⟩ 0 ⟨d, hn.2⟩).2.1
  · unfold rd
    rw [dif_neg hn]
    exact fin_zero

theorem fin_s (n d : Nat) : IsFin (rd x2 n d) := by
  by_cases hn : n < 4096 ∧ d < 128
  · rw [← rd_eq x2 hn.1 hn.2]
    exact (pre_at x0 x1 x2 x3 h 0 ⟨n, hn.1⟩ 0 ⟨d, hn.2⟩).2.2
  · unfold rd
    rw [dif_neg hn]
    exact fin_zero

theorem fin_q (b H n d : Nat) (hH : H < 8) (hd : d < 256) : IsFin (qEl x0 x1 x2 b H n d) := by
  unfold qEl
  exact fin_rot _ _ _ (fun _ _ => fin_p h _ _ (by omega)) (fin_c h n) (fin_s h n) d hd

theorem fin_k (b H n d : Nat) (hH : H < 8) (hd : d < 256) : IsFin (kEl x0 x1 x2 b H n d) := by
  unfold kEl
  rw [bits_sixteenth]
  exact fin_mul (fin_rot _ _ _ (fun _ _ => fin_p h _ _ (by omega)) (fin_c h n) (fin_s h n) d hd) ⟨_, rfl⟩

theorem fin_v (b H n d : Nat) (hH : H < 8) (hd : d < 256) : IsFin (vEl x0 b H n d) := by
  unfold vEl
  exact fin_p h _ _ (by omega)
end

end Cert.Val.RetRef

end
-- ==== Proof.Val.RetEq.lean ====
module

public import proofs.«01_k».proof.Proof.Val.RetRef

@[expose] public section

noncomputable section

/-! The sixth program's two sides joined: the blocks' recursion over the rows is the reference's sum over all rows. -/

namespace Cert.Val.Ret

open Idealize.ShloMosaic Idealize.ShloMosaic.TcCoe Cert.Kernel6Ideal Cert.Kernel6Ideal.Gen Cert.Val Cert.Val.Pool Cert.Val.RetRef Finset

variable (m : (ℓ : Loc nD τ sig) → Buf (Elt Ideal) ℓ) (c : Dev nD)

theorem finEl_congr {o o' : Nat → EReal} (n g : EReal) (e : Nat) (he : e < 256) (h : ∀ x, x < 256 → o x = o' x) : finEl o n g e = finEl o' n g e := by
  unfold finEl
  rw [h e he, sum_congr rfl fun x hx => by rw [h x (mem_range.1 hx)]]

/-- The program's result is the reference's, on finite rows and tables. -/
theorem result_eq (h : @Cert.Pre_retention_input_finite.fn preFacts Ideal _ (pp m c) (pc m c) (ps m c) (pg m c) = fun _ => 1#1) :
    res m c = Cert.Reference6Ideal.Read.val_main_v102 (F := Ideal) (pp m c) (pc m c) (ps m c) (pg m c) := by
  funext j
  obtain ⟨R, C, rfl⟩ := ix2_eta (n := 16384) (k := 2048) j
  have hR := R.isLt
  have hC := C.isLt
  have hH : C.val / 256 < 8 := by omega
  have eg : gn m c (256 * (C.val / 256) + C.val % 256) = pg m c (ix1 C) := by
    rw [gn_eq m c _ (by omega)]
    exact congrArg (fun x => pg m c (ix1 x)) (Fin.ext (Nat.div_add_mod ..))
  have ep : rd (pp m c) (4096 * (R.val / 4096) + R.val % 4096) (8192 + 256 * (C.val / 256) + C.val % 256) = rd (pp m c) R.val (8192 + C.val) := by
    rw [Nat.div_add_mod, Nat.add_assoc, Nat.div_add_mod]
  rw [res, arr2_ix, v102_at, retEl, eg, vp, vc, vs, V_main_arg0, V_main_arg1, V_main_arg2, ep]
  exact finEl_congr _ _ _ (by omega) fun x hx => block_dense (Q := qEl (pp m c) (pc m c) (ps m c) (R.val / 4096) (C.val / 256))
    (K := kEl (pp m c) (pc m c) (ps m c) (R.val / 4096) (C.val / 256)) (W := vEl (pp m c) (R.val / 4096) (C.val / 256))
    (fun n d hd => fin_q h _ _ n d hH hd) (fun n d hd => fin_k h _ _ n d hH hd) (fun n d hd => fin_v h _ _ n d hH hd) _ _ x (by omega) hx

end Cert.Val.Ret

end
-- ==== Proof.Val.CumMath.lean ====
module

public import proofs.«01_k».proof.Proof.Val.PoolMath

@[expose] public section

noncomputable section

/-! What the cumulative gates compute: the logarithm of a sigmoid at every extended real, and sums over the rows before. -/

namespace Cert.Val.Cum

open Idealize.ShloMosaic Finset

/-- The logarithm's share of the gate, which is finite whatever the argument. -/
def gateLog (x : EReal) : EReal := Ideal.log1p (Ideal.exp (0 - max x (-x)))

/-- The logarithm of the sigmoid. -/
def logGate (x : EReal) : EReal := min x 0 - gateLog x

theorem log1p_exp (s : ℝ) : ∃ y : ℝ, Ideal.log1p (Ideal.exp (s : EReal)) = y := by
  refine ⟨Real.log (1 + Real.exp s), ?_⟩
  show Ideal.log (1 + ((Real.exp s : ℝ) : EReal)) = _
  rw [← EReal.coe_one, ← EReal.coe_add]
  exact if_neg (by have := Real.exp_pos s; linarith)

theorem log1p_zero : Ideal.log1p (Ideal.exp ⊥) = ((0 : ℝ) : EReal) := by
  show Ideal.log (1 + 0) = _
  rw [add_zero, ← EReal.coe_one]
  refine (if_neg (by norm_num)).trans ?_
  rw [Real.log_one]

theorem gateLog_real (x : EReal) : ∃ y : ℝ, gateLog x = y := by
  unfold gateLog
  induction x using EReal.rec with
  | bot => exact ⟨0, by rw [EReal.neg_bot, max_eq_right bot_le, show (0 : EReal) - ⊤ = ⊥ from rfl, log1p_zero]⟩
  | top => exact ⟨0, by rw [EReal.neg_top, max_eq_left bot_le, show (0 : EReal) - ⊤ = ⊥ from rfl, log1p_zero]⟩
  | coe r =>
    have e : (0 : EReal) - max (r : EReal) (-(r : EReal)) = ((0 - max r (-r) : ℝ) : EReal) := by
      rw [EReal.coe_sub, EReal.coe_zero, EReal.coe_strictMono.monotone.map_max, EReal.coe_neg]
    rw [e]
    exact log1p_exp _

/-- The gate is a real number, or `⊥` where its argument is. -/
theorem logGate_cases (x : EReal) : logGate x = ⊥ ∨ ∃ y : ℝ, logGate x = y := by
  obtain ⟨y, hy⟩ := gateLog_real x
  unfold logGate
  rw [hy]
  induction x using EReal.rec with
  | bot => exact .inl (by rw [min_eq_left bot_le, EReal.bot_sub])
  | top => exact .inr ⟨0 - y, by rw [min_eq_right le_top, EReal.coe_sub, EReal.coe_zero]⟩
  | coe r => exact .inr ⟨min r 0 - y, by rw [EReal.coe_sub, EReal.coe_strictMono.monotone.map_min, EReal.coe_zero]⟩

/-- The three parts that the gate is split into add up to it. -/
theorem parts_sum (x : EReal) : logGate x + ((logGate x - logGate x) + ((logGate x - logGate x) - (logGate x - logGate x))) = logGate x := by
  rcases logGate_cases x with h | ⟨y, h⟩
  · rw [h, EReal.bot_add]
  · rw [h, ← EReal.coe_sub, sub_self, ← EReal.coe_sub, sub_self, ← EReal.coe_add, ← EReal.coe_add, add_zero, add_zero]

/-- The gate as minus the softplus of the argument's negation. -/
theorem logGate_softplus (x : EReal) : -(max (-x) 0 + gateLog x) = logGate x := by
  obtain ⟨y, hy⟩ := gateLog_real x
  unfold logGate
  rw [hy]
  induction x using EReal.rec with
  | bot => rw [EReal.neg_bot, max_eq_left le_top, EReal.top_add_coe, EReal.neg_top, min_eq_left bot_le, EReal.bot_sub]
  | top => rw [EReal.neg_top, max_eq_right bot_le, min_eq_right le_top, zero_add, zero_sub]
  | coe r =>
    rw [← EReal.coe_zero, ← EReal.coe_neg, ← EReal.coe_strictMono.monotone.map_max, ← EReal.coe_strictMono.monotone.map_min,
      ← EReal.coe_add, ← EReal.coe_neg, ← EReal.coe_sub]
    refine congrArg _ ?_
    rcases le_total r 0 with h | h
    · rw [max_eq_left (by linarith), min_eq_left h]; ring
    · rw [max_eq_right (by linarith), min_eq_right h]; ring

theorem gateLog_neg (x : EReal) : Ideal.log1p (Ideal.exp (-(max (-x) (-(-x))))) = gateLog x := by
  unfold gateLog
  rw [neg_neg, max_comm, zero_sub]

/-- The masked sum of the three parts of each of 128 rows is the sum of the rows up to `r`. -/
theorem masked_sum (u v w f : Nat → EReal) (h : ∀ s, s < 128 → u s + (v s + w s) = f s) (r : Nat) (hr : r < 128) :
    (∑ n ∈ range 384, if n % 128 ≤ r then (if n < 128 then u n else if n - 128 < 128 then v (n - 128) else w (n - 128 - 128)) else 0)
      = ∑ s ∈ range (r + 1), f s := by
  rw [show (384 : ℕ) = 128 + (128 + 128) from rfl, Finset.sum_range_add, Finset.sum_range_add, ← sum_add_distrib, ← sum_add_distrib]
  refine (sum_congr (g := fun s => if s ≤ r then f s else 0) rfl fun s hs => ?_).trans ?_
  · have := mem_range.1 hs
    rw [show (128 + s) % 128 = s by omega, show (128 + (128 + s)) % 128 = s by omega, Nat.mod_eq_of_lt this]
    by_cases hsr : s ≤ r
    · rw [if_pos hsr, if_pos hsr, if_pos hsr, if_pos hsr, if_pos this, if_neg (by omega), if_pos (by omega), if_neg (by omega),
        if_neg (by omega), show 128 + s - 128 = s by omega, show 128 + (128 + s) - 128 - 128 = s by omega]
      exact h s this
    · rw [if_neg hsr, if_neg hsr, if_neg hsr, if_neg hsr, add_zero, add_zero]
  · obtain ⟨d, hd⟩ : ∃ d, 128 = (r + 1) + d := ⟨128 - (r + 1), by omega⟩
    rw [hd, Finset.sum_range_add, sum_eq_zero (s := range d) fun s _ => if_neg (by omega), add_zero]
    exact sum_congr rfl fun s hs => if_pos (by have := mem_range.1 hs; omega)

end Cert.Val.Cum

end
-- ==== Proof.Val.Cum.lean ====
module

public import proofs.«01_k».proof.Proof.Gen.Kernel5Ideal.Frame
public import Idealize.ShloMosaic.Lib.Pipeline.Value
public import Idealize.ShloMosaic.Lib.Pipeline.ValueKit
public import Idealize.ShloMosaic.Lib.Pipeline.ReadBack
public import Idealize.ShloMosaic.Lib.Pointwise
public import proofs.«01_k».proof.Proof.Val.CumMath

@[expose] public section

noncomputable section

/-! The fifth program: the cumulative log gates. The body walks 32 blocks of 128 rows; each block's running sums are one product with a
triangular mask plus the last row of the block before. -/

namespace Cert.Val.Cum

open Idealize.ShloMosaic Idealize.ShloMosaic.TcCoe Cert.Kernel5Ideal Cert.Kernel5Ideal.Gen Cert.Val Finset

/-- The running sums of one block of rows, above the sums carried into it. -/
def step (x : FVec Ideal S128x128 .f32) (b carry : FVec Ideal S1x128 .f32) : FVec Ideal S128x128 .f32 :=
  k0_pay8 (F := Ideal) k0_pay1 carry (k0_pay4 x b) (k0_pay6 x b) (k0_pay7 x b)

/-- A block's last row, which the next block carries. -/
def last (y : FVec Ideal S128x128 .f32) : FVec Ideal S1x128 .f32 := extractStridedSlice S1x128 ![127, 0] y slices_S128x128_o127_0_S1x128

theorem inb_rows (n : Nat) : ∀ a : Fin 2, (![128 * (n % 32), 0] : Fin 2 → Nat) a + (![128, 128] : Fin 2 → Nat) a ≤ (![4096, 128] : Fin 2 → Nat) a := by
  intro a
  match a with
  | ⟨0, _⟩ => show 128 * (n % 32) + 128 ≤ 4096; omega
  | ⟨1, _⟩ => exact le_refl 128

/-- Block `n` of rows. -/
abbrev rows (n : Nat) : Rect S4096x128 := Rect.unit (s := S4096x128) ![128 * (n % 32), 0] S128x128.size (inb_rows n)

/-- The running sums of block `n`. -/
def cum (x0 : Vec Ideal S4096x128 .f32) (x1 : Vec Ideal S1x128 .f32) : Nat → FVec Ideal S128x128 .f32
  | 0 => step (View.ld x0 (rows 0)) (View.ld x1 r0_1) k0_pay2
  | n + 1 => step (View.ld x0 (rows (n + 1))) (View.ld x1 r0_1) (last (cum x0 x1 n))

/-- The sums in the base-two scale that the attention reads. -/
def scale (y : FVec Ideal S128x128 .f32) : FVec Ideal S128x128 .f32 := mulf y (broadcast S128x128 (Scalar.ofBits .f32 0x3FB8AA3B#32))

/-- The scaled sums with rows and columns exchanged. -/
def turn (y : FVec Ideal S128x128 .f32) : FVec Ideal S128x128 .f32 := transpose S128x128 [1, 0] y transposes_S128x128_p1_0_S128x128

variable (x0 : Vec Ideal S4096x128 .f32) (x1 : Vec Ideal S1x128 .f32)

theorem inb_cols (n : Nat) : ∀ a : Fin 2, (![0, 128 * (n % 32)] : Fin 2 → Nat) a + (![128, 128] : Fin 2 → Nat) a ≤ (![128, 4096] : Fin 2 → Nat) a := by
  intro a
  match a with
  | ⟨0, _⟩ => exact le_refl 128
  | ⟨1, _⟩ => show 128 * (n % 32) + 128 ≤ 4096; omega

/-- Block `n` of columns. -/
abbrev cols (n : Nat) : Rect S128x4096 := Rect.unit (s := S128x4096) ![0, 128 * (n % 32)] S128x128.size (inb_cols n)

/-- The body's 32 column blocks, last first: each the scaled sums of its block of rows. -/
theorem out2_eq : out0_2 x0 x1 = View.canon [⟨rows 31, scale (cum x0 x1 31)⟩, ⟨rows 30, scale (cum x0 x1 30)⟩, ⟨rows 29, scale (cum x0 x1 29)⟩, ⟨rows 28, scale (cum x0 x1 28)⟩, ⟨rows 27, scale (cum x0 x1 27)⟩, ⟨rows 26, scale (cum x0 x1 26)⟩, ⟨rows 25, scale (cum x0 x1 25)⟩, ⟨rows 24, scale (cum x0 x1 24)⟩, ⟨rows 23, scale (cum x0 x1 23)⟩, ⟨rows 22, scale (cum x0 x1 22)⟩, ⟨rows 21, scale (cum x0 x1 21)⟩, ⟨rows 20, scale (cum x0 x1 20)⟩, ⟨rows 19, scale (cum x0 x1 19)⟩, ⟨rows 18, scale (cum x0 x1 18)⟩, ⟨rows 17, scale (cum x0 x1 17)⟩, ⟨rows 16, scale (cum x0 x1 16)⟩, ⟨rows 15, scale (cum x0 x1 15)⟩, ⟨rows 14, scale (cum x0 x1 14)⟩, ⟨rows 13, scale (cum x0 x1 13)⟩, ⟨rows 12, scale (cum x0 x1 12)⟩, ⟨rows 11, scale (cum x0 x1 11)⟩, ⟨rows 10, scale (cum x0 x1 10)⟩, ⟨rows 9, scale (cum x0 x1 9)⟩, ⟨rows 8, scale (cum x0 x1 8)⟩, ⟨rows 7, scale (cum x0 x1 7)⟩, ⟨rows 6, scale (cum x0 x1 6)⟩, ⟨rows 5, scale (cum x0 x1 5)⟩, ⟨rows 4, scale (cum x0 x1 4)⟩, ⟨rows 3, scale (cum x0 x1 3)⟩, ⟨rows 2, scale (cum x0 x1 2)⟩, ⟨rows 1, scale (cum x0 x1 1)⟩, ⟨rows 0, scale (cum x0 x1 0)⟩] := rfl

/-- The body's 32 row blocks, last first: the same sums with rows and columns exchanged. -/
theorem out3_eq : out0_3 x0 x1 = View.canon [⟨cols 31, turn (scale (cum x0 x1 31))⟩, ⟨cols 30, turn (scale (cum x0 x1 30))⟩, ⟨cols 29, turn (scale (cum x0 x1 29))⟩, ⟨cols 28, turn (scale (cum x0 x1 28))⟩, ⟨cols 27, turn (scale (cum x0 x1 27))⟩, ⟨cols 26, turn (scale (cum x0 x1 26))⟩, ⟨cols 25, turn (scale (cum x0 x1 25))⟩, ⟨cols 24, turn (scale (cum x0 x1 24))⟩, ⟨cols 23, turn (scale (cum x0 x1 23))⟩, ⟨cols 22, turn (scale (cum x0 x1 22))⟩, ⟨cols 21, turn (scale (cum x0 x1 21))⟩, ⟨cols 20, turn (scale (cum x0 x1 20))⟩, ⟨cols 19, turn (scale (cum x0 x1 19))⟩, ⟨cols 18, turn (scale (cum x0 x1 18))⟩, ⟨cols 17, turn (scale (cum x0 x1 17))⟩, ⟨cols 16, turn (scale (cum x0 x1 16))⟩, ⟨cols 15, turn (scale (cum x0 x1 15))⟩, ⟨cols 14, turn (scale (cum x0 x1 14))⟩, ⟨cols 13, turn (scale (cum x0 x1 13))⟩, ⟨cols 12, turn (scale (cum x0 x1 12))⟩, ⟨cols 11, turn (scale (cum x0 x1 11))⟩, ⟨cols 10, turn (scale (cum x0 x1 10))⟩, ⟨cols 9, turn (scale (cum x0 x1 9))⟩, ⟨cols 8, turn (scale (cum x0 x1 8))⟩, ⟨cols 7, turn (scale (cum x0 x1 7))⟩, ⟨cols 6, turn (scale (cum x0 x1 6))⟩, ⟨cols 5, turn (scale (cum x0 x1 5))⟩, ⟨cols 4, turn (scale (cum x0 x1 4))⟩, ⟨cols 3, turn (scale (cum x0 x1 3))⟩, ⟨cols 2, turn (scale (cum x0 x1 2))⟩, ⟨cols 1, turn (scale (cum x0 x1 1))⟩, ⟨cols 0, turn (scale (cum x0 x1 0))⟩] := rfl

/-- The mask's column word: a column's place in its part. -/
theorem word_at : ∀ k : Fin 384, (Scalar.select
    (IntOp.andi (IntOp.xori (IntOp.cmpi .slt (IntOp.remsi .vector (BitVec.ofNat 32 k.val) (Scalar.select (Scalar.cmpi .eq 128#32 0#32) 1#32 128#32)) 0#32)
        (Scalar.cmpi .slt (Scalar.select (Scalar.cmpi .eq 128#32 0#32) 1#32 128#32) 0#32))
      (IntOp.cmpi .ne (IntOp.remsi .vector (BitVec.ofNat 32 k.val) (Scalar.select (Scalar.cmpi .eq 128#32 0#32) 1#32 128#32)) 0#32))
    (IntOp.addi (IntOp.remsi .vector (BitVec.ofNat 32 k.val) (Scalar.select (Scalar.cmpi .eq 128#32 0#32) 1#32 128#32))
      (Scalar.select (Scalar.cmpi .eq 128#32 0#32) 1#32 128#32))
    (IntOp.remsi .vector (BitVec.ofNat 32 k.val) (Scalar.select (Scalar.cmpi .eq 128#32 0#32) 1#32 128#32)) : BitVec 32) = BitVec.ofNat 32 (k.val % 128) := by
  decide +kernel

theorem sle_at : ∀ a r : Fin 128, IntOp.cmpi .sle (BitVec.ofNat 32 a.val) (BitVec.ofNat 32 r.val) = if a.val ≤ r.val then 1#1 else 0#1 := by
  decide +kernel

theorem mask_at (r : Fin 128) (k : Fin 384) : k0_pay1 (F := Ideal) (ix2 r k) = if k.val % 128 ≤ r.val then (1 : EReal) else 0 := by
  pointwise [k0_pay1]
  rw [word_at k, sle_at ⟨k.val % 128, Nat.mod_lt _ (by omega)⟩ r]
  by_cases h : k.val % 128 ≤ r.val
  · rw [if_pos h, if_pos h]; rfl
  · rw [if_neg h, if_neg h]; rfl

theorem abs_form (a : EReal) : min a 0 - Ideal.log1p (Ideal.exp (0 - FloatOps.absf (F := Ideal) (φ := .f32) a)) = logGate a := rfl

/-- A block's running sums, from its rows' gates. -/
theorem step_at (x : FVec Ideal S128x128 .f32) (b carry : FVec Ideal S1x128 .f32) (r l : Fin 128) (y : Nat → EReal)
    (hy : ∀ k : Fin 128, x (ix2 k l) + b (ix2 0 l) = y k.val) :
    step x b carry (ix2 r l) = (∑ s ∈ range (r.val + 1), logGate (y s)) + carry (ix2 0 l) := by
  rw [← masked_sum (fun s => logGate (y s)) (fun s => logGate (y s) - logGate (y s))
    (fun s => (logGate (y s) - logGate (y s)) - (logGate (y s) - logGate (y s))) (fun s => logGate (y s)) (fun s _ => parts_sum (y s)) r.val r.isLt,
    ← Fin.sum_univ_eq_sum_range]
  unfold step
  pointwise [k0_pay8, k0_pay7, k0_pay6, k0_pay5, k0_pay4, k0_pay3]
  refine congrArg (fun a : EReal => a + carry (ix2 0 l)) (sum_congr rfl fun k _ => ?_)
  have hg : ∀ q : Fin 128, min (x (ix2 q l) + b (ix2 0 l)) 0 - Ideal.log1p (Ideal.exp (0 - FloatOps.absf (F := Ideal) (φ := .f32) (x (ix2 q l) + b (ix2 0 l))))
      = logGate (y q.val) := fun q => (congrArg (fun a : EReal => min a 0 - Ideal.log1p (Ideal.exp (0 - FloatOps.absf (F := Ideal) (φ := .f32) a))) (hy q)).trans (abs_form _)
  rw [mask_at]
  by_cases h : k.val % 128 ≤ r.val
  · rw [if_pos h, if_pos h, one_mul]
    by_cases h1 : k.val < 128
    · rw [dif_pos h1, if_pos h1, hg]
    · rw [dif_neg h1, if_neg h1]
      by_cases h2 : k.val - 128 < 128
      · rw [dif_pos h2, if_pos h2, hg]
      · rw [dif_neg h2, if_neg h2, hg]
  · rw [if_neg h, zero_mul]
    exact (if_neg h).symm

/-- The running sums of the blocks, each a sum over all the rows before. -/
theorem cum_at (l : Fin 128) (y : Nat → EReal) (hy : ∀ k : Fin 4096, x0 (ix2 k l) + x1 (ix2 0 l) = y k.val) (n : Nat) (hn : n < 32) (r : Fin 128) :
    cum x0 x1 n (ix2 r l) = ∑ s ∈ range (128 * n + r.val + 1), logGate (y s) := by
  have hrows : ∀ n, n < 32 → ∀ k : Fin 128, View.ld x0 (rows n) (ix2 k l) + View.ld x1 r0_1 (ix2 0 l) = y (128 * n + k.val) := by
    intro n hn k
    rw [← hy ⟨128 * n + k.val, by omega⟩]
    refine congrArg₂ (fun a b : EReal => a + b) (at_ix2 x0 ((rows n).emb (ix2 k l)) ⟨128 * n + k.val, by omega⟩ l ?_ ?_)
      (at_ix2 x1 (r0_1.emb (ix2 0 l)) 0 l ?_ ?_)
    · show 128 * (n % 32) + 1 * k.val = 128 * n + k.val; omega
    · show 0 + 1 * l.val = l.val; omega
    · show 0 + 1 * 0 = 0; omega
    · show 0 + 1 * l.val = l.val; omega
  induction n generalizing r with
  | zero =>
    unfold cum
    rw [step_at _ _ _ r l (fun k => y (128 * 0 + k)) (hrows 0 hn)]
    have z : k0_pay2 (F := Ideal) (ix2 0 l) = 0 := by pointwise [k0_pay2]
    rw [z, add_zero]
    exact sum_congr (by congr 1; omega) fun s _ => by rw [Nat.mul_zero, Nat.zero_add]
  | succ n ih =>
    unfold cum
    rw [step_at _ _ _ r l (fun k => y (128 * (n + 1) + k)) (hrows (n + 1) hn)]
    have z : last (cum x0 x1 n) (ix2 0 l) = cum x0 x1 n (ix2 127 l) := by pointwise [last]
    rw [z, ih (by omega) 127, add_comm, show 128 * (n + 1) + r.val + 1 = 128 * (n + 1) + (r.val + 1) by omega]
    exact (Finset.sum_range_add (fun s => logGate (y s)) (128 * (n + 1)) (r.val + 1)).symm

theorem scale_at (y : FVec Ideal S128x128 .f32) (r l : Fin 128) : scale y (ix2 r l) = y (ix2 r l) * Ideal.ofBits .f32 0x3FB8AA3B#32 := by
  pointwise [scale]

theorem turn_at (y : FVec Ideal S128x128 .f32) (r l : Fin 128) : turn y (ix2 r l) = y (ix2 l r) := by
  pointwise [turn]

end Cert.Val.Cum

end
-- ==== Proof.Val.CumOut.lean ====
module

public import proofs.«01_k».proof.Proof.Val.Cum

@[expose] public section

noncomputable section

/-! What the fifth program leaves in its two output arrays. -/

namespace Cert.Val.Cum

open Idealize.ShloMosaic Idealize.ShloMosaic.TcCoe Cert.Kernel5Ideal Cert.Kernel5Ideal.Gen Cert.Val Cert.Val.Pool Finset
open Idealize.ShloMosaic.Pipeline (Dat Cfg Window)

/-- The scaled running sum at position `n` of sequence `q` in column `l`, over the gates of biased rows. -/
def cumEl (P : (⟨2, ![16384, 128]⟩ : Shape).Idx → EReal) (b : Nat → EReal) (q n l : Nat) : EReal :=
  (∑ s ∈ range (n + 1), logGate (rd P (4096 * q + s) l + b l)) * Ideal.ofBits .f32 0x3FB8AA3B#32

variable (m : (ℓ : Loc nD τ sig) → Buf (Elt Ideal) ℓ) (c : Dev nD)

theorem in0 : ∀ t : Fin cfg0.N, win0_0.index t (0 : Fin 2) = t.val ∧ win0_0.index t (1 : Fin 2) = 0 :=
  (by decide +kernel : ∀ t : Fin grid0.N, _)
theorem in1 : ∀ t : Fin cfg0.N, win0_1.index t (0 : Fin 2) = 0 ∧ win0_1.index t (1 : Fin 2) = 0 :=
  (by decide +kernel : ∀ t : Fin grid0.N, _)
theorem ou2 : ∀ t : Fin cfg0.N, win0_2.index t (0 : Fin 2) = t.val ∧ win0_2.index t (1 : Fin 2) = 0 :=
  (by decide +kernel : ∀ t : Fin grid0.N, _)
theorem ou3 : ∀ t : Fin cfg0.N, win0_3.index t (0 : Fin 2) = t.val ∧ win0_3.index t (1 : Fin 2) = 0 :=
  (by decide +kernel : ∀ t : Fin grid0.N, _)

/-- The bias row's entry. -/
abbrev bs (l : Nat) : EReal := rd (V m c main_v1) 0 l

/-- The two arrays that the region writes. -/
def res2 : S16384x128.Idx → EReal := arr2 fun R l => cumEl (V m c main_arg0) (bs m c) (R.val / 4096) (R.val % 4096) l.val
def res3 : S512x4096.Idx → EReal := arr2 fun R C => cumEl (V m c main_arg0) (bs m c) (R.val / 128) C.val (R.val % 128)

/-- A block of point `t`, scaled. -/
theorem block_at (t : Fin cfg0.N) (n : Nat) (hn : n < 32) (r l : Fin 128) :
    scale (cum (iblk m c 0 t) (iblk m c 1 t) n) (ix2 r l) = cumEl (V m c main_arg0) (bs m c) t.val (128 * n + r.val) l.val := by
  have ht : t.val < 4 := lt_of_lt_of_eq t.isLt (by decide)
  rw [scale_at]
  refine congrArg (fun a : EReal => a * Ideal.ofBits .f32 0x3FB8AA3B#32) ?_
  refine cum_at (iblk m c 0 t) (iblk m c 1 t) l (fun s => rd (V m c main_arg0) (4096 * t.val + s) l.val + bs m c l.val) (fun k => ?_) n hn r
  obtain ⟨a0, a1⟩ := in0 t
  obtain ⟨b0, b1⟩ := in1 t
  refine congrArg₂ (fun a b : EReal => a + b) (rd_at (V m c main_arg0) (((cfg0.win 0).blk t).view.emb (ix2 k l)) _ _ ?_ ?_)
    (rd_at (V m c main_v1) (((cfg0.win 1).blk t).view.emb (ix2 0 l)) _ _ ?_ ?_)
  · show win0_0.index t (0 : Fin 2) * 4096 + 1 * k.val = 4096 * t.val + k.val; omega
  · show win0_0.index t (1 : Fin 2) * 128 + 1 * l.val = l.val; omega
  · show win0_1.index t (0 : Fin 2) * 1 + 1 * 0 = 0; omega
  · show win0_1.index t (1 : Fin 2) * 128 + 1 * l.val = l.val; omega

theorem piece2 (t : Fin cfg0.N) (n : Nat) (hn : n < 32) (x : S128x128.Idx) :
    scale (cum (iblk m c 0 t) (iblk m c 1 t) n) x = res2 m c (((cfg0.win 2).blk t).view.emb ((rows n).emb x)) := by
  have ht : t.val < 4 := lt_of_lt_of_eq t.isLt (by decide)
  obtain ⟨r, l, rfl⟩ := ix2_eta (n := 128) (k := 128) x
  obtain ⟨a0, a1⟩ := ou2 t
  have hr := r.isLt
  rw [block_at m c t n hn r l]
  refine Eq.symm ((arr2_at _ _ (⟨4096 * t.val + (128 * n + r.val), by omega⟩ : Fin 16384) l ?_ ?_).trans ?_)
  · show win0_2.index t (0 : Fin 2) * 4096 + 1 * (128 * (n % 32) + 1 * r.val) = 4096 * t.val + (128 * n + r.val); omega
  · show win0_2.index t (1 : Fin 2) * 128 + 1 * (0 + 1 * l.val) = l.val; omega
  · show cumEl _ _ ((4096 * t.val + (128 * n + r.val)) / 4096) ((4096 * t.val + (128 * n + r.val)) % 4096) l.val = _
    rw [show (4096 * t.val + (128 * n + r.val)) / 4096 = t.val by omega, show (4096 * t.val + (128 * n + r.val)) % 4096 = 128 * n + r.val by omega]

theorem piece3 (t : Fin cfg0.N) (n : Nat) (hn : n < 32) (x : S128x128.Idx) :
    turn (scale (cum (iblk m c 0 t) (iblk m c 1 t) n)) x = res3 m c (((cfg0.win 3).blk t).view.emb ((cols n).emb x)) := by
  have ht : t.val < 4 := lt_of_lt_of_eq t.isLt (by decide)
  obtain ⟨l, r, rfl⟩ := ix2_eta (n := 128) (k := 128) x
  obtain ⟨a0, a1⟩ := ou3 t
  have hr := r.isLt
  have hl := l.isLt
  rw [turn_at, block_at m c t n hn r l]
  refine Eq.symm ((arr2_at _ _ (⟨128 * t.val + l.val, by omega⟩ : Fin 512) (⟨128 * n + r.val, by omega⟩ : Fin 4096) ?_ ?_).trans ?_)
  · show win0_3.index t (0 : Fin 2) * 128 + 1 * (0 + 1 * l.val) = 128 * t.val + l.val; omega
  · show win0_3.index t (1 : Fin 2) * 4096 + 1 * (128 * (n % 32) + 1 * r.val) = 128 * n + r.val; omega
  · show cumEl _ _ ((128 * t.val + l.val) / 128) (128 * n + r.val) ((128 * t.val + l.val) % 128) = _
    rw [show (128 * t.val + l.val) / 128 = t.val by omega, show (128 * t.val + l.val) % 128 = l.val by omega]

theorem flushed2 (t : Fin cfg0.N) : (dats m 0 c).flushed 2 t = ((cfg0.win 2).blk t).view.read (Elt Ideal) (res2 m c) := by
  show (cfg0.win 2).cut (grid0.coords t) ((dats m 0 c).after 2 t) = _
  rw [after0_2, out2_eq]
  funext j
  refine View.canon_append_of_piecesOf (Val := Elt Ideal) (e := .f32) (fun y => res2 m c (((cfg0.win 2).blk t).view.emb y)) []
    [_, _, _, _, _, _, _, _, _, _, _, _, _, _, _, _, _, _, _, _, _, _, _, _, _, _, _, _, _, _, _, _] ⟨piece2 m c t 31 (by omega), piece2 m c t 30 (by omega), piece2 m c t 29 (by omega), piece2 m c t 28 (by omega), piece2 m c t 27 (by omega), piece2 m c t 26 (by omega), piece2 m c t 25 (by omega), piece2 m c t 24 (by omega), piece2 m c t 23 (by omega), piece2 m c t 22 (by omega), piece2 m c t 21 (by omega), piece2 m c t 20 (by omega), piece2 m c t 19 (by omega), piece2 m c t 18 (by omega), piece2 m c t 17 (by omega), piece2 m c t 16 (by omega), piece2 m c t 15 (by omega), piece2 m c t 14 (by omega), piece2 m c t 13 (by omega), piece2 m c t 12 (by omega), piece2 m c t 11 (by omega), piece2 m c t 10 (by omega), piece2 m c t 9 (by omega), piece2 m c t 8 (by omega), piece2 m c t 7 (by omega), piece2 m c t 6 (by omega), piece2 m c t 5 (by omega), piece2 m c t 4 (by omega), piece2 m c t 3 (by omega), piece2 m c t 2 (by omega), piece2 m c t 1 (by omega), piece2 m c t 0 (by omega), trivial⟩ j ?_
  exact View.cover_of_tiledL (s := S4096x128) _ S128x128.size (by sl_kernel_rfl) j

theorem flushed3 (t : Fin cfg0.N) : (dats m 0 c).flushed 3 t = ((cfg0.win 3).blk t).view.read (Elt Ideal) (res3 m c) := by
  show (cfg0.win 3).cut (grid0.coords t) ((dats m 0 c).after 3 t) = _
  rw [after0_3, out3_eq]
  funext j
  refine View.canon_append_of_piecesOf (Val := Elt Ideal) (e := .f32) (fun y => res3 m c (((cfg0.win 3).blk t).view.emb y)) []
    [_, _, _, _, _, _, _, _, _, _, _, _, _, _, _, _, _, _, _, _, _, _, _, _, _, _, _, _, _, _, _, _] ⟨piece3 m c t 31 (by omega), piece3 m c t 30 (by omega), piece3 m c t 29 (by omega), piece3 m c t 28 (by omega), piece3 m c t 27 (by omega), piece3 m c t 26 (by omega), piece3 m c t 25 (by omega), piece3 m c t 24 (by omega), piece3 m c t 23 (by omega), piece3 m c t 22 (by omega), piece3 m c t 21 (by omega), piece3 m c t 20 (by omega), piece3 m c t 19 (by omega), piece3 m c t 18 (by omega), piece3 m c t 17 (by omega), piece3 m c t 16 (by omega), piece3 m c t 15 (by omega), piece3 m c t 14 (by omega), piece3 m c t 13 (by omega), piece3 m c t 12 (by omega), piece3 m c t 11 (by omega), piece3 m c t 10 (by omega), piece3 m c t 9 (by omega), piece3 m c t 8 (by omega), piece3 m c t 7 (by omega), piece3 m c t 6 (by omega), piece3 m c t 5 (by omega), piece3 m c t 4 (by omega), piece3 m c t 3 (by omega), piece3 m c t 2 (by omega), piece3 m c t 1 (by omega), piece3 m c t 0 (by omega), trivial⟩ j ?_
  exact View.cover_of_tiledL (s := S128x4096) _ S128x128.size (by sl_kernel_rfl) j

theorem final2 : (dats m 0 c).arrAt 2 cfg0.N = res2 m c :=
  (dats m 0 c).arrAt_eq_of_cover 2 (res2 m c) (fun t _ => flushed2 m c t)
    (Window.Covers.cover (w := cfg0.win 2) (by decide +kernel) (Memref.isWhole_whole _))

theorem final3 : (dats m 0 c).arrAt 3 cfg0.N = res3 m c :=
  (dats m 0 c).arrAt_eq_of_cover 3 (res3 m c) (fun t _ => flushed3 m c t)
    (Window.Covers.cover (w := cfg0.win 3) (by decide +kernel) (Memref.isWhole_whole _))

abbrev pf : S16384x128.Idx → EReal := m ((c : Thread nD τ).loc main_arg0)
abbrev pb : S16.Idx → EReal := m ((c : Thread nD τ).loc main_arg1)

/-- The bias's entry, zero past the sixteen heads. -/
def biasEl (b : (⟨1, ![16]⟩ : Shape).Idx → EReal) (l : Nat) : EReal := if h : l < 16 then b (ix1 ⟨l, h⟩) else 0

theorem zero_past (b : (⟨1, ![16]⟩ : Shape).Idx → EReal) (l : Nat) :
    (if h : l < 16 then b (ix1 ⟨l, h⟩) else FloatOps.sitofp (F := Ideal) .f32 0#32) = biasEl b l := by
  have e : (FloatOps.sitofp (F := Ideal) .f32 0#32 : EReal) = 0 := by
    show (((0#32 : BitVec 32).toInt : ℝ) : EReal) = 0
    simp
  rw [e]
  rfl

/-- The bias row is the bias, zero past the sixteen heads. -/
theorem bs_eq (l : Nat) (hl : l < 128) : bs m c l = biasEl (pb m c) l := by
  have e : V m c main_v1 = shapeCast S1x128 (pad S128 ![0] ![112] ![0] (pb m c) (sitofp (F := Ideal) .f32 (constantI S_ 32 0#32)) pads_S16_S128_01120 h_S_) shapeCasts_S128_S1x128 := by
    show StableHlo.after (List.flatten [hostOps0, hostOps0_1, hostOps0_2]) (fun b => m (c, b)) (Proc.devRef .tc main_v1) = _
    simp only [List.flatten_cons, List.flatten_nil, List.append_nil, List.cons_append, List.nil_append]
    after_results_simp <;> rfl
  have h : V m c main_v1 (ix2 0 ⟨l, hl⟩) = biasEl (pb m c) l := by
    rw [e]
    pointwise
    exact zero_past _ l
  exact (rd_eq (V m c main_v1) (by omega : (0 : Nat) < 1) hl).symm.trans h

end Cert.Val.Cum

end
-- ==== Proof.Val.CumRef.lean ====
module

public import proofs.«01_k».proof.Proof.Gen.Reference5Ideal.Read
public import Idealize.ShloMosaic.Lib.Pointwise
public import proofs.«01_k».proof.Proof.Val.CumOut

@[expose] public section

noncomputable section

/-! The reference of the fifth program, entry by entry. -/

namespace Cert.Val.CumRef

open Idealize.ShloMosaic Idealize.ShloMosaic.TcCoe Cert.Reference5Ideal Cert.Reference5Ideal.Read Cert.Val Cert.Val.Pool Cert.Val.Cum Finset

variable (x0 : S16384x128.Idx → EReal) (x1 : S16.Idx → EReal)

theorem v3_at (b : Fin 4) (s : Fin 4096) (l : Fin 128) : val_main_v3 (F := Ideal) x1 (ix3 b s l) = biasEl x1 l.val := by
  pointwise [val_main_v3, val_main_v2, val_main_v0, val_main_call0_v0, val_main_c]
  exact zero_past x1 l.val

theorem v4_at (b : Fin 4) (s : Fin 4096) (l : Fin 128) :
    val_main_v4 (F := Ideal) x0 x1 (ix3 b s l) = rd x0 (4096 * b.val + s.val) l.val + biasEl x1 l.val := by
  rw [← v3_at x1 b s l]
  refine Eq.trans ?_ (congrArg (fun a : EReal => a + _) (rd_eq x0 (show 4096 * b.val + s.val < 16384 by omega) l.isLt))
  pointwise [val_main_v4, val_main_v1]
  exact congrArg (fun i => x0 (ix2 i l) + val_main_v3 (F := Ideal) x1 (ix3 b s l)) (Fin.ext (by show b.val * 4096 + s.val = 4096 * b.val + s.val; omega))

theorem v5_at (b : Fin 4) (s : Fin 4096) (l : Fin 128) :
    val_main_v5 (F := Ideal) x0 x1 (ix3 b s l) = logGate (rd x0 (4096 * b.val + s.val) l.val + biasEl x1 l.val) := by
  rw [← v4_at x0 x1 b s l]
  pointwise [val_main_v5, val_main_call1_v1, val_main_call1_call0_v11, val_main_call1_call0_v10, val_main_call1_call0_v9, val_main_call1_call0_v8,
    val_main_call1_call0_v7, val_main_call1_call0_v6, val_main_call1_call0_v5, val_main_call1_call0_v4, val_main_call1_call0_v3,
    val_main_call1_call0_v2, val_main_call1_call0_v1, val_main_call1_call0_v0, val_main_call1_call0_cst, val_main_call1_v0]
  generalize val_main_v4 (F := Ideal) x0 x1 (ix3 b s l) = a
  rw [if_neg fun h => h rfl, ← logGate_softplus]
  exact congrArg (fun y : EReal => -(max (-a) 0 + y)) (gateLog_neg a)

theorem v8_at (b : Fin 4) (s : Fin 4096) (l : Fin 128) :
    val_main_v8 (F := Ideal) x0 x1 (ix3 b s l) = cumEl x0 (biasEl x1) b.val s.val l.val := by
  have h : val_main_v6 (F := Ideal) x0 x1 (ix3 b s l) = ∑ n ∈ range (s.val + 1), logGate (rd x0 (4096 * b.val + n) l.val + biasEl x1 l.val) := by
    unfold val_main_v6 Host.reduceWindowAdd
    rw [Ideal.hostReduceWindowAdd_def]
    have z : val_main_call2_call0_v0 (F := Ideal) (Shape.Idx.first Gen.h_S_) = 0 := by
      pointwise [val_main_call2_call0_v0, val_main_call2_call0_cst]
    rw [z]
    exact running_eq (val_main_v5 (F := Ideal) x0 x1) _ b s l (fun n => logGate (rd x0 (4096 * b.val + n) l.val + biasEl x1 l.val)) fun n => v5_at x0 x1 b n l
  unfold cumEl
  rw [← h]
  pointwise [val_main_v8, val_main_v7, val_main_cst]

theorem v9_at (R : Fin 16384) (l : Fin 128) :
    val_main_v9 (F := Ideal) x0 x1 (ix2 R l) = cumEl x0 (biasEl x1) (R.val / 4096) (R.val % 4096) l.val := by
  refine Eq.trans ?_ (v8_at x0 x1 ⟨R.val / 4096, by omega⟩ ⟨R.val % 4096, by omega⟩ l)
  pointwise [val_main_v9]

theorem v11_at (R : Fin 512) (C : Fin 4096) :
    val_main_v11 (F := Ideal) x0 x1 (ix2 R C) = cumEl x0 (biasEl x1) (R.val / 128) C.val (R.val % 128) := by
  refine Eq.trans ?_ (v8_at x0 x1 ⟨R.val / 128, by omega⟩ C ⟨R.val % 128, by omega⟩)
  pointwise [val_main_v11, val_main_v10]

end Cert.Val.CumRef

namespace Cert.Val.Cum

open Idealize.ShloMosaic Idealize.ShloMosaic.TcCoe Cert.Kernel5Ideal Cert.Kernel5Ideal.Gen Cert.Val

variable (m : (ℓ : Loc nD τ sig) → Buf (Elt Ideal) ℓ) (c : Dev nD)

theorem cumEl_bias (P : S16384x128.Idx → EReal) (q n l : Nat) (hl : l < 128) : cumEl P (bs m c) q n l = cumEl P (biasEl (pb m c)) q n l := by
  unfold cumEl
  rw [bs_eq m c l hl]

/-- The two results are the reference's. -/
theorem result2_eq : res2 m c = Cert.Reference5Ideal.Read.val_main_v9 (F := Ideal) (pf m c) (pb m c) := by
  funext j
  obtain ⟨R, l, rfl⟩ := ix2_eta (n := 16384) (k := 128) j
  rw [res2, arr2_ix, V_main_arg0]
  exact (cumEl_bias m c _ _ _ _ l.isLt).trans (CumRef.v9_at (pf m c) (pb m c) R l).symm

theorem result3_eq : res3 m c = Cert.Reference5Ideal.Read.val_main_v11 (F := Ideal) (pf m c) (pb m c) := by
  funext j
  obtain ⟨R, C, rfl⟩ := ix2_eta (n := 512) (k := 4096) j
  rw [res3, arr2_ix, V_main_arg0]
  exact (cumEl_bias m c _ _ _ _ (Nat.mod_lt _ (by omega))).trans (CumRef.v11_at (pf m c) (pb m c) R C).symm

end Cert.Val.Cum

end
-- ==== Proof.lean ====
module

public import proofs.«01_k».proof.Defs
public import proofs.«01_k».proof.Proof.Gen.Kernel
public import proofs.«01_k».proof.Proof.Gen.Kernel.Frame
public import proofs.«01_k».proof.Proof.Gen.KernelIdeal
public import proofs.«01_k».proof.Proof.Gen.KernelIdeal.Frame
public import proofs.«01_k».proof.Proof.Gen.ReferenceIdeal
public import proofs.«01_k».proof.Proof.Gen.ReferenceIdeal.Run
public import proofs.«01_k».proof.Proof.Gen.ReferenceIdeal.Read
public import proofs.«01_k».proof.Proof.Gen.Kernel2
public import proofs.«01_k».proof.Proof.Gen.Kernel2.Frame
public import proofs.«01_k».proof.Proof.Gen.Kernel2Ideal
public import proofs.«01_k».proof.Proof.Gen.Kernel2Ideal.Frame
public import proofs.«01_k».proof.Proof.Gen.Reference2Ideal
public import proofs.«01_k».proof.Proof.Gen.Reference2Ideal.Run
public import proofs.«01_k».proof.Proof.Gen.Reference2Ideal.Read
public import proofs.«01_k».proof.Proof.Gen.Kernel3
public import proofs.«01_k».proof.Proof.Gen.Kernel3.Frame
public import proofs.«01_k».proof.Proof.Gen.Kernel3Ideal
public import proofs.«01_k».proof.Proof.Gen.Kernel3Ideal.Frame
public import proofs.«01_k».proof.Proof.Gen.Reference3Ideal
public import proofs.«01_k».proof.Proof.Gen.Reference3Ideal.Run
public import proofs.«01_k».proof.Proof.Gen.Reference3Ideal.Read
public import proofs.«01_k».proof.Proof.Gen.Kernel4
public import proofs.«01_k».proof.Proof.Gen.Kernel4.Frame
public import proofs.«01_k».proof.Proof.Gen.Kernel4Ideal
public import proofs.«01_k».proof.Proof.Gen.Kernel4Ideal.Frame
public import proofs.«01_k».proof.Proof.Gen.Reference4Ideal
public import proofs.«01_k».proof.Proof.Gen.Reference4Ideal.Run
public import proofs.«01_k».proof.Proof.Gen.Reference4Ideal.Read
public import proofs.«01_k».proof.Proof.Gen.Kernel5
public import proofs.«01_k».proof.Proof.Gen.Kernel5.Frame
public import proofs.«01_k».proof.Proof.Gen.Kernel5Ideal
public import proofs.«01_k».proof.Proof.Gen.Kernel5Ideal.Frame
public import proofs.«01_k».proof.Proof.Gen.Reference5Ideal
public import proofs.«01_k».proof.Proof.Gen.Reference5Ideal.Run
public import proofs.«01_k».proof.Proof.Gen.Reference5Ideal.Read
public import proofs.«01_k».proof.Proof.Gen.Kernel6
public import proofs.«01_k».proof.Proof.Gen.Kernel6.Frame
public import proofs.«01_k».proof.Proof.Gen.Kernel6Ideal
public import proofs.«01_k».proof.Proof.Gen.Kernel6Ideal.Frame
public import proofs.«01_k».proof.Proof.Gen.Reference6Ideal
public import proofs.«01_k».proof.Proof.Gen.Reference6Ideal.Run
public import proofs.«01_k».proof.Proof.Gen.Reference6Ideal.Read
public import proofs.«01_k».proof.Proof.Val.Run
public import proofs.«01_k».proof.Proof.Val.Results
public import proofs.«01_k».proof.Proof.Val.Run2
public import proofs.«01_k».proof.Proof.Val.Layer0
public import proofs.«01_k».proof.Proof.Val.Out1
public import proofs.«01_k».proof.Proof.Val.PoolEq
public import proofs.«01_k».proof.Proof.Val.RetEq
public import proofs.«01_k».proof.Proof.Val.CumRef
public import Idealize.ShloMosaic.Lib.Quiescent

@[expose] public section

noncomputable section

namespace Cert.Proof

open Idealize.ShloMosaic Idealize.SL.Sem

/-- The reference, which is host operations alone, leaves its arguments and every counter as they were. -/
theorem referenceFrame : Cert.quiescent_ReferenceIdeal (hReferenceIdeal := Cert.ReferenceIdeal.Gen.facts) := fun m ρ _ =>
  (θ_run _ _ _).mono (fun r h => ⟨fun c => (h c).2.2.2.2, sem_eq_zero_of_no_sems (by decide) r.2⟩)
    (Cert.ReferenceIdeal.Value.run (F := Ideal) m ρ)

/-- The kernel and the reference end with equal results. -/
theorem resultsEqual : Cert.algebraic_KernelIdeal_ReferenceIdeal (hKernelIdeal := Cert.KernelIdeal.Gen.facts)
    (hReferenceIdeal := Cert.ReferenceIdeal.Gen.facts) := by
  intro m ρ m' ρ' _ hagree
  open Cert.KernelIdeal Cert.KernelIdeal.Gen in
  refine ⟨fun c => W11 m ρ c (Proc.devRef .tc main_v2_0), fun c => W11 m ρ c (Proc.devRef .tc main_v10),
    fun c => W11 m ρ c (Proc.devRef .tc main_v12), fun c => W11 m ρ c (Proc.devRef .tc main_v13), ?_, ?_⟩
  · open Cert.KernelIdeal Cert.KernelIdeal.Gen in
    refine (θ_run _ _ _).mono (fun r h c => ?_) (Cert.Val.Run.run m ρ)
    have h := h.1 c
    exact ⟨h _ (mem_uc main_v2_0 (by decide)), h _ (mem_uc main_v10 (by decide)), h _ (mem_uc main_v12 (by decide)),
      h _ (mem_uc main_v13 (by decide)),
      (h _ (mem_uc main_arg0 (by decide))).trans (W11_main_arg0 m ρ c), (h _ (mem_uc main_arg1 (by decide))).trans (W11_main_arg1 m ρ c),
      (h _ (mem_uc main_arg2 (by decide))).trans (W11_main_arg2 m ρ c), (h _ (mem_uc main_arg3 (by decide))).trans (W11_main_arg3 m ρ c),
      (h _ (mem_uc main_arg4 (by decide))).trans (W11_main_arg4 m ρ c), (h _ (mem_uc main_arg5 (by decide))).trans (W11_main_arg5 m ρ c),
      (h _ (mem_uc main_arg6 (by decide))).trans (W11_main_arg6 m ρ c), (h _ (mem_uc main_arg7 (by decide))).trans (W11_main_arg7 m ρ c)⟩
  · refine (θ_run _ _ _).mono (fun r h c => ?_) (Cert.ReferenceIdeal.Value.run (F := Ideal) m' ρ')
    obtain ⟨h0, h1, h2, h3, hargs⟩ := h c
    obtain ⟨a0, a1, a2, a3, a4, a5, a6, a7⟩ := hagree c
    refine ⟨?_, ?_, ?_, ?_, hargs⟩
    · refine h0.trans ((Cert.ReferenceIdeal.Read.val_main_v4_eq _ _ _ _).trans ?_)
      rw [a0, a1, a2, a3]
      exact (Cert.Val.Results.r0_eq m ρ c).symm
    · refine h1.trans ((Cert.ReferenceIdeal.Read.val_main_v57_eq m' c).trans ?_)
      rw [a0, a1, a2, a3, a4, a5, a6, a7]
      exact (Cert.Val.Results.r1_eq m ρ c).symm
    · refine h2.trans ((Cert.ReferenceIdeal.Read.val_main_v58_eq _ _ _ _ _ _).trans ?_)
      rw [a0, a1, a2, a3, a4, a5]
      exact (Cert.Val.Results.r2_eq m ρ c).symm
    · refine h3.trans ((Cert.ReferenceIdeal.Read.val_main_v59_eq _ _ _ _ _ _).trans ?_)
      rw [a0, a1, a2, a3, a4, a5]
      exact (Cert.Val.Results.r3_eq m ρ c).symm

/-- Layer 0's reference is host operations alone too. -/
theorem referenceFrame2 : Cert.quiescent_Reference2Ideal (hReference2Ideal := Cert.Reference2Ideal.Gen.facts) := fun m ρ _ =>
  (θ_run _ _ _).mono (fun r h => ⟨fun c => (h c).2, sem_eq_zero_of_no_sems (by decide) r.2⟩)
    (Cert.Reference2Ideal.Value.run (F := Ideal) m ρ)

/-- Layer 0's projected norm: the kernel and the reference end with equal results. -/
theorem resultsEqual2 : Cert.algebraic_Kernel2Ideal_Reference2Ideal (hKernel2Ideal := Cert.Kernel2Ideal.Gen.facts)
    (hReference2Ideal := Cert.Reference2Ideal.Gen.facts) := by
  intro m ρ m' ρ' _ hagree
  open Cert.Kernel2Ideal Cert.Kernel2Ideal.Gen in
  refine ⟨fun c => W4 m ρ c (Proc.devRef .tc main_v7), ?_, ?_⟩
  · open Cert.Kernel2Ideal Cert.Kernel2Ideal.Gen in
    refine (θ_run _ _ _).mono (fun r h c => ?_) (Cert.Val.Run2.run m ρ)
    have h := h.1 c
    exact ⟨h _ (mem_uc main_v7 (by decide)), (h _ (mem_uc main_arg0 (by decide))).trans (W4_main_arg0 m ρ c),
      (h _ (mem_uc main_arg1 (by decide))).trans (W4_main_arg1 m ρ c), (h _ (mem_uc main_arg2 (by decide))).trans (W4_main_arg2 m ρ c)⟩
  · refine (θ_run _ _ _).mono (fun r h c => ?_) (Cert.Reference2Ideal.Value.run (F := Ideal) m' ρ')
    obtain ⟨h0, hargs⟩ := h c
    obtain ⟨a0, a1, a2⟩ := hagree c
    refine ⟨h0.trans ((Cert.Reference2Ideal.Read.val_main_v19_eq _ _ _).trans ?_), hargs⟩
    rw [a0, a1, a2]
    exact (Cert.Val.Layer0.result_eq m ρ c).symm

/-- The last projection's reference is host operations alone too. -/
theorem referenceFrame3 : Cert.quiescent_Reference3Ideal (hReference3Ideal := Cert.Reference3Ideal.Gen.facts) := fun m ρ _ =>
  (θ_run _ _ _).mono (fun r h => ⟨fun c => (h c).2, sem_eq_zero_of_no_sems (by decide) r.2⟩)
    (Cert.Reference3Ideal.Value.run (F := Ideal) m ρ)

/-- The layer's result: the last projection and its reference end with equal results. -/
theorem resultsEqual3 : Cert.algebraic_Kernel3Ideal_Reference3Ideal (hKernel3Ideal := Cert.Kernel3Ideal.Gen.facts)
    (hReference3Ideal := Cert.Reference3Ideal.Gen.facts) := by
  intro m ρ m' ρ' _ hagree
  refine ⟨fun c => Cert.Val.Out1.res m c, ?_, ?_⟩
  · open Cert.Kernel3Ideal Cert.Kernel3Ideal.Gen in
    refine (θ_run _ _ _).mono (fun r h c => ?_)
      (Idealize.ShloMosaic.θ_run_and (run_main (F := Ideal) m ρ) (unchanged (F := Ideal) m ρ))
    exact ⟨((h.1 c).1 5).trans (Cert.Val.Out1.final5 m c), h.2 c⟩
  · refine (θ_run _ _ _).mono (fun r h c => ?_) (Cert.Reference3Ideal.Value.run (F := Ideal) m' ρ')
    obtain ⟨h0, hargs⟩ := h c
    obtain ⟨a0, a1, a2, a3⟩ := hagree c
    refine ⟨h0.trans ((Cert.Reference3Ideal.Read.val_main_v4_eq _ _ _ _).trans ?_), hargs⟩
    rw [a0, a1, a2, a3]
    exact (Cert.Val.Out1.result_eq m c).symm

/-- The pooling's reference is host operations alone too. -/
theorem referenceFrame4 : Cert.quiescent_Reference4Ideal (hReference4Ideal := Cert.Reference4Ideal.Gen.facts) := fun m ρ _ =>
  (θ_run _ _ _).mono (fun r h => ⟨fun c => (h c).2, sem_eq_zero_of_no_sems (by decide) r.2⟩)
    (Cert.Reference4Ideal.Value.run (F := Ideal) m ρ)

/-- The pooling: the kernel and the reference end with equal results on finite rows. -/
theorem resultsEqual4 : Cert.algebraic_Kernel4Ideal_Reference4Ideal_pre_pool_input_finite (hKernel4Ideal := Cert.Kernel4Ideal.Gen.facts)
    (hReference4Ideal := Cert.Reference4Ideal.Gen.facts) (hPre_pool_input_finite := Cert.Val.Pool.preFacts) := by
  intro m ρ m' ρ' hpre hagree
  refine ⟨fun c => Cert.Val.Pool.res m c, ?_, ?_⟩
  · open Cert.Kernel4Ideal Cert.Kernel4Ideal.Gen in
    refine (θ_run _ _ _).mono (fun r h c => ?_)
      (Idealize.ShloMosaic.θ_run_and (run_main (F := Ideal) m ρ) (unchanged (F := Ideal) m ρ))
    exact ⟨((h.1 c).1 5).trans (Cert.Val.Pool.final5 m c), h.2 c⟩
  · refine (θ_run _ _ _).mono (fun r h c => ?_) (Cert.Reference4Ideal.Value.run (F := Ideal) m' ρ')
    obtain ⟨h0, hargs⟩ := h c
    obtain ⟨a0, a1, a2⟩ := hagree c
    refine ⟨h0.trans ((Cert.Reference4Ideal.Read.val_main_v91_eq m' c).trans ?_), hargs⟩
    rw [a0, a1, a2]
    exact (Cert.Val.Pool.result_eq m c (hpre c)).symm

/-- The cumulative gates' reference is host operations alone too. -/
theorem referenceFrame5 : Cert.quiescent_Reference5Ideal (hReference5Ideal := Cert.Reference5Ideal.Gen.facts) := fun m ρ _ =>
  (θ_run _ _ _).mono (fun r h => ⟨fun c => (h c).2.2, sem_eq_zero_of_no_sems (by decide) r.2⟩)
    (Cert.Reference5Ideal.Value.run (F := Ideal) m ρ)

/-- The cumulative gates: the kernel and the reference end with equal results. -/
theorem resultsEqual5 : Cert.algebraic_Kernel5Ideal_Reference5Ideal (hKernel5Ideal := Cert.Kernel5Ideal.Gen.facts)
    (hReference5Ideal := Cert.Reference5Ideal.Gen.facts) := by
  intro m ρ m' ρ' _ hagree
  refine ⟨fun c => Cert.Val.Cum.res2 m c, fun c => Cert.Val.Cum.res3 m c, ?_, ?_⟩
  · open Cert.Kernel5Ideal Cert.Kernel5Ideal.Gen in
    refine (θ_run _ _ _).mono (fun r h c => ?_)
      (Idealize.ShloMosaic.θ_run_and (run_main (F := Ideal) m ρ) (unchanged (F := Ideal) m ρ))
    exact ⟨((h.1 c).1 2).trans (Cert.Val.Cum.final2 m c), ((h.1 c).1 3).trans (Cert.Val.Cum.final3 m c), h.2 c⟩
  · refine (θ_run _ _ _).mono (fun r h c => ?_) (Cert.Reference5Ideal.Value.run (F := Ideal) m' ρ')
    obtain ⟨h0, h1, hargs⟩ := h c
    obtain ⟨a0, a1⟩ := hagree c
    refine ⟨h0.trans ((Cert.Reference5Ideal.Read.val_main_v9_eq _ _).trans ?_),
      h1.trans ((Cert.Reference5Ideal.Read.val_main_v11_eq _ _).trans ?_), hargs⟩
    · rw [a0, a1]
      exact (Cert.Val.Cum.result2_eq m c).symm
    · rw [a0, a1]
      exact (Cert.Val.Cum.result3_eq m c).symm

/-- The retention's reference is host operations alone too. -/
theorem referenceFrame6 : Cert.quiescent_Reference6Ideal (hReference6Ideal := Cert.Reference6Ideal.Gen.facts) := fun m ρ _ =>
  (θ_run _ _ _).mono (fun r h => ⟨fun c => (h c).2, sem_eq_zero_of_no_sems (by decide) r.2⟩)
    (Cert.Reference6Ideal.Value.run (F := Ideal) m ρ)

/-- The retention: the kernel and the reference end with equal results on finite rows and tables. -/
theorem resultsEqual6 : Cert.algebraic_Kernel6Ideal_Reference6Ideal_pre_retention_input_finite (hKernel6Ideal := Cert.Kernel6Ideal.Gen.facts)
    (hReference6Ideal := Cert.Reference6Ideal.Gen.facts) (hPre_retention_input_finite := Cert.Val.RetRef.preFacts) := by
  intro m ρ m' ρ' hpre hagree
  refine ⟨fun c => Cert.Val.Ret.res m c, ?_, ?_⟩
  · open Cert.Kernel6Ideal Cert.Kernel6Ideal.Gen in
    refine (θ_run _ _ _).mono (fun r h c => ?_)
      (Idealize.ShloMosaic.θ_run_and (run_main (F := Ideal) m ρ) (unchanged (F := Ideal) m ρ))
    exact ⟨((h.1 c).1 7).trans (Cert.Val.Ret.final7 m c), h.2 c⟩
  · refine (θ_run _ _ _).mono (fun r h c => ?_) (Cert.Reference6Ideal.Value.run (F := Ideal) m' ρ')
    obtain ⟨h0, hargs⟩ := h c
    obtain ⟨a0, a1, a2, a3⟩ := hagree c
    refine ⟨h0.trans ((Cert.Reference6Ideal.Read.val_main_v102_eq m' c).trans ?_), hargs⟩
    rw [a0, a1, a2, a3]
    exact (Cert.Val.Ret.result_eq m c (hpre c)).symm

theorem claim : Cert.Claim := ⟨Cert.Kernel.Gen.facts, Cert.KernelIdeal.Gen.facts, Cert.ReferenceIdeal.Gen.facts,
  Cert.Kernel2.Gen.facts, Cert.Kernel2Ideal.Gen.facts, Cert.Reference2Ideal.Gen.facts,
  Cert.Kernel3.Gen.facts, Cert.Kernel3Ideal.Gen.facts, Cert.Reference3Ideal.Gen.facts,
  Cert.Kernel4.Gen.facts, Cert.Kernel4Ideal.Gen.facts, Cert.Reference4Ideal.Gen.facts,
  Cert.Kernel5.Gen.facts, Cert.Kernel5Ideal.Gen.facts, Cert.Reference5Ideal.Gen.facts,
  Cert.Kernel6.Gen.facts, Cert.Kernel6Ideal.Gen.facts, Cert.Reference6Ideal.Gen.facts, Cert.Val.Pool.preFacts, Cert.Val.RetRef.preFacts,
  fun m ρ _ => Cert.Kernel.Gen.frame m ρ, fun m ρ _ => Cert.KernelIdeal.Gen.frame m ρ, referenceFrame,
  fun m ρ _ => Cert.Kernel2.Gen.frame m ρ, fun m ρ _ => Cert.Kernel2Ideal.Gen.frame m ρ, referenceFrame2,
  fun m ρ _ => Cert.Kernel3.Gen.frame m ρ, fun m ρ _ => Cert.Kernel3Ideal.Gen.frame m ρ, referenceFrame3,
  fun m ρ _ => Cert.Kernel4.Gen.frame m ρ, fun m ρ _ => Cert.Kernel4Ideal.Gen.frame m ρ, fun m ρ _ => Cert.Kernel4Ideal.Gen.frame m ρ,
  referenceFrame4, fun m ρ _ => referenceFrame4 m ρ trivial,
  fun m ρ _ => Cert.Kernel5.Gen.frame m ρ, fun m ρ _ => Cert.Kernel5Ideal.Gen.frame m ρ, referenceFrame5,
  fun m ρ _ => Cert.Kernel6.Gen.frame m ρ, fun m ρ _ => Cert.Kernel6Ideal.Gen.frame m ρ, fun m ρ _ => Cert.Kernel6Ideal.Gen.frame m ρ,
  referenceFrame6, fun m ρ _ => referenceFrame6 m ρ trivial,
  trivial, resultsEqual, trivial, resultsEqual2, trivial, resultsEqual3, trivial, resultsEqual4, trivial, resultsEqual5,
  trivial, resultsEqual6⟩

end Cert.Proof

end
